-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_attention_inputs_finite [hPre_attention_inputs_finite : Cert.Pre_attention_inputs_finite.Facts] (m : (ℓ : Loc Cert.XattnIdeal.nD Cert.XattnIdeal.τ Cert.XattnIdeal.sig) → Buf (Elt Ideal) ℓ) : Prop :=
  ∀ c : Dev Cert.XattnIdeal.nD,
    (Cert.Pre_attention_inputs_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_attention_inputs_finite [hPre_attention_inputs_finite : Cert.Pre_attention_inputs_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_attention_inputs_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnIdeal_pre_attention_inputs_finite [hXattnIdeal : Cert.XattnIdeal.Facts] [hPre_attention_inputs_finite : Cert.Pre_attention_inputs_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_attention_inputs_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_XattnRefIdeal_pre_attention_inputs_finite [hXattnRefIdeal : Cert.XattnRefIdeal.Facts] [hPre_attention_inputs_finite : Cert.Pre_attention_inputs_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_attention_inputs_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10)
      ∧ r.2.mem ((c.tc : Thread Cert.Lru.nD Cert.Lru.τ).loc Cert.Lru.main_arg11) = m ((c.tc : Thread Cert.Lru.nD Cert.Lru.τ).loc Cert.Lru.main_arg11))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10)
      ∧ r.2.mem ((c.tc : Thread Cert.LruIdeal.nD Cert.LruIdeal.τ).loc Cert.LruIdeal.main_arg11) = m ((c.tc : Thread Cert.LruIdeal.nD Cert.LruIdeal.τ).loc Cert.LruIdeal.main_arg11))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10)
      ∧ r.2.mem ((c.tc : Thread Cert.LruRefIdeal.nD Cert.LruRefIdeal.τ).loc Cert.LruRefIdeal.main_arg11) = m ((c.tc : Thread Cert.LruRefIdeal.nD Cert.LruRefIdeal.τ).loc Cert.LruRefIdeal.main_arg11))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6)
      ∧ r.2.mem ((c.tc : Thread Cert.Mlstm.nD Cert.Mlstm.τ).loc Cert.Mlstm.main_arg7) = m ((c.tc : Thread Cert.Mlstm.nD Cert.Mlstm.τ).loc Cert.Mlstm.main_arg7)
      ∧ r.2.mem ((c.tc : Thread Cert.Mlstm.nD Cert.Mlstm.τ).loc Cert.Mlstm.main_arg8) = m ((c.tc : Thread Cert.Mlstm.nD Cert.Mlstm.τ).loc Cert.Mlstm.main_arg8)
      ∧ r.2.mem ((c.tc : Thread Cert.Mlstm.nD Cert.Mlstm.τ).loc Cert.Mlstm.main_arg9) = m ((c.tc : Thread Cert.Mlstm.nD Cert.Mlstm.τ).loc Cert.Mlstm.main_arg9)
      ∧ r.2.mem ((c.tc : Thread Cert.Mlstm.nD Cert.Mlstm.τ).loc Cert.Mlstm.main_arg10) = m ((c.tc : Thread Cert.Mlstm.nD Cert.Mlstm.τ).loc Cert.Mlstm.main_arg10)
      ∧ r.2.mem ((c.tc : Thread Cert.Mlstm.nD Cert.Mlstm.τ).loc Cert.Mlstm.main_arg11) = m ((c.tc : Thread Cert.Mlstm.nD Cert.Mlstm.τ).loc Cert.Mlstm.main_arg11)
      ∧ r.2.mem ((c.tc : Thread Cert.Mlstm.nD Cert.Mlstm.τ).loc Cert.Mlstm.main_arg12) = m ((c.tc : Thread Cert.Mlstm.nD Cert.Mlstm.τ).loc Cert.Mlstm.main_arg12)
      ∧ r.2.mem ((c.tc : Thread Cert.Mlstm.nD Cert.Mlstm.τ).loc Cert.Mlstm.main_arg13) = m ((c.tc : Thread Cert.Mlstm.nD Cert.Mlstm.τ).loc Cert.Mlstm.main_arg13)
      ∧ r.2.mem ((c.tc : Thread Cert.Mlstm.nD Cert.Mlstm.τ).loc Cert.Mlstm.main_arg14) = m ((c.tc : Thread Cert.Mlstm.nD Cert.Mlstm.τ).loc Cert.Mlstm.main_arg14)
      ∧ r.2.mem ((c.tc : Thread Cert.Mlstm.nD Cert.Mlstm.τ).loc Cert.Mlstm.main_arg15) = m ((c.tc : Thread Cert.Mlstm.nD Cert.Mlstm.τ).loc Cert.Mlstm.main_arg15))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
      ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
      ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9)
      ∧ r.2.mem ((c.tc : Thread Cert.MlstmIdeal.nD Cert.MlstmIdeal.τ).loc Cert.MlstmIdeal.main_arg10) = m ((c.tc : Thread Cert.MlstmIdeal.nD Cert.MlstmIdeal.τ).loc Cert.MlstmIdeal.main_arg10)
      ∧ r.2.mem ((c.tc : Thread Cert.MlstmIdeal.nD Cert.MlstmIdeal.τ).loc Cert.MlstmIdeal.main_arg11) = m ((c.tc : Thread Cert.MlstmIdeal.nD Cert.MlstmIdeal.τ).loc Cert.MlstmIdeal.main_arg11)
      ∧ r.2.mem ((c.tc : Thread Cert.MlstmIdeal.nD Cert.MlstmIdeal.τ).loc Cert.MlstmIdeal.main_arg12) = m ((c.tc : Thread Cert.MlstmIdeal.nD Cert.MlstmIdeal.τ).loc Cert.MlstmIdeal.main_arg12)
      ∧ r.2.mem ((c.tc : Thread Cert.MlstmIdeal.nD Cert.MlstmIdeal.τ).loc Cert.MlstmIdeal.main_arg13) = m ((c.tc : Thread Cert.MlstmIdeal.nD Cert.MlstmIdeal.τ).loc Cert.MlstmIdeal.main_arg13)
      ∧ r.2.mem ((c.tc : Thread Cert.MlstmIdeal.nD Cert.MlstmIdeal.τ).loc Cert.MlstmIdeal.main_arg14) = m ((c.tc : Thread Cert.MlstmIdeal.nD Cert.MlstmIdeal.τ).loc Cert.MlstmIdeal.main_arg14)
      ∧ r.2.mem ((c.tc : Thread Cert.MlstmIdeal.nD Cert.MlstmIdeal.τ).loc Cert.MlstmIdeal.main_arg15) = m ((c.tc : Thread Cert.MlstmIdeal.nD Cert.MlstmIdeal.τ).loc Cert.MlstmIdeal.main_arg15))
      ∧ r.2.sem = fun _ => 0)

def preserves_Xattn_XattnIdeal : Prop :=
  True

def algebraic_XattnIdeal_XattnRefIdeal_pre_attention_inputs_finite [hXattnIdeal : Cert.XattnIdeal.Facts] [hXattnRefIdeal : Cert.XattnRefIdeal.Facts] [hPre_attention_inputs_finite : Cert.Pre_attention_inputs_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_attention_inputs_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)) →
    ∃ (v0 : (c : Dev Cert.XattnIdeal.nD) → Buf (Elt Ideal) ((c.tc : Thread Cert.XattnIdeal.nD Cert.XattnIdeal.τ).loc Cert.XattnIdeal.main_v16)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v16) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v60) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v4)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)
      ∧ m' ((c.tc : Thread Cert.LruRefIdeal.nD Cert.LruRefIdeal.τ).loc Cert.LruRefIdeal.main_arg10) = m ((c.tc : Thread Cert.LruIdeal.nD Cert.LruIdeal.τ).loc Cert.LruIdeal.main_arg10)
      ∧ m' ((c.tc : Thread Cert.LruRefIdeal.nD Cert.LruRefIdeal.τ).loc Cert.LruRefIdeal.main_arg11) = m ((c.tc : Thread Cert.LruIdeal.nD Cert.LruIdeal.τ).loc Cert.LruIdeal.main_arg11)) →
    ∃ (v0 : (c : Dev Cert.LruIdeal.nD) → Buf (Elt Ideal) ((c.tc : Thread Cert.LruIdeal.nD Cert.LruIdeal.τ).loc Cert.LruIdeal.main_v29)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v29) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10)
          ∧ r.2.mem ((c.tc : Thread Cert.LruIdeal.nD Cert.LruIdeal.τ).loc Cert.LruIdeal.main_arg11) = m ((c.tc : Thread Cert.LruIdeal.nD Cert.LruIdeal.τ).loc Cert.LruIdeal.main_arg11))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v167) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9)
          ∧ r.2.mem ((c.tc : Thread Cert.LruRefIdeal.nD Cert.LruRefIdeal.τ).loc Cert.LruRefIdeal.main_arg10) = m' ((c.tc : Thread Cert.LruRefIdeal.nD Cert.LruRefIdeal.τ).loc Cert.LruRefIdeal.main_arg10)
          ∧ r.2.mem ((c.tc : Thread Cert.LruRefIdeal.nD Cert.LruRefIdeal.τ).loc Cert.LruRefIdeal.main_arg11) = m' ((c.tc : Thread Cert.LruRefIdeal.nD Cert.LruRefIdeal.τ).loc Cert.LruRefIdeal.main_arg11))

def preserves_Mlstm_MlstmIdeal : Prop :=
  True

def Claim : Prop :=
  ∃ (hXattn : Cert.Xattn.Facts) (hXattnIdeal : Cert.XattnIdeal.Facts) (hXattnRefIdeal : Cert.XattnRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hLru : Cert.Lru.Facts) (hLruIdeal : Cert.LruIdeal.Facts) (hLruRefIdeal : Cert.LruRefIdeal.Facts) (hMlstm : Cert.Mlstm.Facts) (hMlstmIdeal : Cert.MlstmIdeal.Facts) (hPre_attention_inputs_finite : Cert.Pre_attention_inputs_finite.Facts),
    quiescent_Xattn (hXattn := hXattn)
    ∧ quiescent_XattnIdeal (hXattnIdeal := hXattnIdeal)
    ∧ quiescent_XattnIdeal_pre_attention_inputs_finite (hXattnIdeal := hXattnIdeal) (hPre_attention_inputs_finite := hPre_attention_inputs_finite)
    ∧ quiescent_XattnRefIdeal (hXattnRefIdeal := hXattnRefIdeal)
    ∧ quiescent_XattnRefIdeal_pre_attention_inputs_finite (hXattnRefIdeal := hXattnRefIdeal) (hPre_attention_inputs_finite := hPre_attention_inputs_finite)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Lru (hLru := hLru)
    ∧ quiescent_LruIdeal (hLruIdeal := hLruIdeal)
    ∧ quiescent_LruRefIdeal (hLruRefIdeal := hLruRefIdeal)
    ∧ quiescent_Mlstm (hMlstm := hMlstm)
    ∧ quiescent_MlstmIdeal (hMlstmIdeal := hMlstmIdeal)
    ∧ preserves_Xattn_XattnIdeal
    ∧ algebraic_XattnIdeal_XattnRefIdeal_pre_attention_inputs_finite (hXattnIdeal := hXattnIdeal) (hXattnRefIdeal := hXattnRefIdeal) (hPre_attention_inputs_finite := hPre_attention_inputs_finite)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_Lru_LruIdeal
    ∧ algebraic_LruIdeal_LruRefIdeal (hLruIdeal := hLruIdeal) (hLruRefIdeal := hLruRefIdeal)
    ∧ preserves_Mlstm_MlstmIdeal
-- ==== Pre_attention_inputs_finite.lean ====
abbrev S2x8192x1024 : Shape := ⟨3, ![2, 8192, 1024]⟩
abbrev S1x1024 : Shape := ⟨2, ![1, 1024]⟩
abbrev S1x1024x9216 : Shape := ⟨3, ![1, 1024, 9216]⟩
abbrev S1x9216 : Shape := ⟨2, ![1, 9216]⟩
abbrev S2x256x2048 : Shape := ⟨3, ![2, 256, 2048]⟩
abbrev S1x3x1024x1024 : Shape := ⟨4, ![1, 3, 1024, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x9216 : S_.BroadcastsInDim S1x1024x9216 (![] : Fin 0 → Fin S1x1024x9216.rank)
  reducesTo_S1x1024x9216_S_d0_1_2 : S1x1024x9216.ReducesTo [0, 1, 2] S_
  bcast_S_S1x9216 : S_.BroadcastsInDim S1x9216 (![] : Fin 0 → Fin S1x9216.rank)
  reducesTo_S1x9216_S_d0_1 : S1x9216.ReducesTo [0, 1] S_
  bcast_S_S2x256x2048 : S_.BroadcastsInDim S2x256x2048 (![] : Fin 0 → Fin S2x256x2048.rank)
  reducesTo_S2x256x2048_S_d0_1_2 : S2x256x2048.ReducesTo [0, 1, 2] S_

variable [Facts]

def fn_part1 {F : FTy → Type} [FloatOps F] (main_arg4 : FVec F S2x256x2048 .bf16) (main_v13 : IVec S_ 1) (main_v16 : IVec S1x9216 1) : IVec S_ 1 :=
  let main_c_5 : IVec S_ 1 := constantI S_ 1 1#1
  let main_v17 : IVec S_ 1 := (fun x v => Host.reduce IntOp.andi x v reducesTo_S1x9216_S_d0_1 h_S_) main_v16 main_c_5
  let main_v18 : IVec S_ 1 := andi main_v13 main_v17
  let main_v19 : FVec F S2x256x2048 .bf16 := Host.absf main_arg4
  let main_cst_6 : FVec F S_ .bf16 := constant S_ .bf16 0x7F80#16
  let main_v20 : FVec F S2x256x2048 .bf16 := broadcastInDim S2x256x2048 ![] bcast_S_S2x256x2048 main_cst_6
  let main_v21 : IVec S2x256x2048 1 := cmpf .olt main_v19 main_v20
  let main_c_7 : IVec S_ 1 := constantI S_ 1 1#1
  let main_v22 : IVec S_ 1 := (fun x v => Host.reduce IntOp.andi x v reducesTo_S2x256x2048_S_d0_1_2 h_S_) main_v21 main_c_7
  let main_v23 : IVec S_ 1 := andi main_v18 main_v22
  main_v23

def fn {F : FTy → Type} [FloatOps F] (main_arg0 : FVec F S2x8192x1024 .f32) (main_arg1 : FVec F S1x1024 .f32) (main_arg2 : FVec F S1x1024x9216 .f32) (main_arg3 : FVec F S1x9216 .f32) (main_arg4 : FVec F S2x256x2048 .bf16) (main_arg5 : FVec F S1x3x1024x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x9216 .f32 := Host.absf main_arg2
  let main_cst_2 : FVec F S_ .f32 := constant S_ .f32 0x7F800000#32
  let main_v10 : FVec F S1x1024x9216 .f32 := broadcastInDim S1x1024x9216 ![] bcast_S_S1x1024x9216 main_cst_2
  let main_v11 : IVec S1x1024x9216 1 := cmpf .olt main_v9 main_v10
  let main_c_3 : IVec S_ 1 := constantI S_ 1 1#1
  let main_v12 : IVec S_ 1 := (fun x v => Host.reduce IntOp.andi x v reducesTo_S1x1024x9216_S_d0_1_2 h_S_) main_v11 main_c_3
  let main_v13 : IVec S_ 1 := andi main_v8 main_v12
  let main_v14 : FVec F S1x9216 .f32 := Host.absf main_arg3
  let main_cst_4 : FVec F S_ .f32 := constant S_ .f32 0x7F800000#32
  let main_v15 : FVec F S1x9216 .f32 := broadcastInDim S1x9216 ![] bcast_S_S1x9216 main_cst_4
  let main_v16 : IVec S1x9216 1 := cmpf .olt main_v14 main_v15
  fn_part1 (F := F) main_arg4 main_v13 main_v16
-- ==== Xattn.lean ====
abbrev S2x8192x1024 : Shape := ⟨3, ![2, 8192, 1024]⟩
abbrev S1x1024 : Shape := ⟨2, ![1, 1024]⟩
abbrev S1x1024x9216 : Shape := ⟨3, ![1, 1024, 9216]⟩
abbrev S1x9216 : Shape := ⟨2, ![1, 9216]⟩
abbrev S2x256x2048 : Shape := ⟨3, ![2, 256, 2048]⟩
abbrev S1x3x1024x1024 : Shape := ⟨4, ![1, 3, 1024, 1024]⟩
abbrev S1024x9216 : Shape := ⟨2, ![1024, 9216]⟩
abbrev S9216 : Shape := ⟨1, ![9216]⟩
abbrev S3x1024x1024 : Shape := ⟨3, ![3, 1024, 1024]⟩
abbrev S1024 : Shape := ⟨1, ![1024]⟩
abbrev S1024x2048 : Shape := ⟨2, ![1024, 2048]⟩
abbrev S1x2048 : Shape := ⟨2, ![1, 2048]⟩
abbrev S1024x3072 : Shape := ⟨2, ![1024, 3072]⟩
abbrev S1x3072 : Shape := ⟨2, ![1, 3072]⟩
abbrev S1024x1024 : Shape := ⟨2, ![1024, 1024]⟩
abbrev S1x1024x1024 : Shape := ⟨3, ![1, 1024, 1024]⟩
abbrev S1x256x1024 : Shape := ⟨3, ![1, 256, 1024]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩

abbrev nBuf : Space → Nat
  | .hbm => 23
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x9216, .f32⟩
  | .hbm, ⟨3, _⟩ => ⟨S1x9216, .f32⟩
  | .hbm, ⟨4, _⟩ => ⟨S2x256x2048, .bf16⟩
  | .hbm, ⟨5, _⟩ => ⟨S1x3x1024x1024, .f32⟩
  | .hbm, ⟨6, _⟩ => ⟨S1024x9216, .f32⟩
  | .hbm, ⟨7, _⟩ => ⟨S1024x9216, .bf16⟩
  | .hbm, ⟨8, _⟩ => ⟨S9216, .f32⟩
  | .hbm, ⟨9, _⟩ => ⟨S1x9216, .f32⟩
  | .hbm, ⟨10, _⟩ => ⟨S3x1024x1024, .f32⟩
  | .hbm, ⟨11, _⟩ => ⟨S3x1024x1024, .bf16⟩
  | .hbm, ⟨12, _⟩ => ⟨S1024, .f32⟩
  | .hbm, ⟨13, _⟩ => ⟨S1x1024, .f32⟩
  | .hbm, ⟨14, _⟩ => ⟨S1024x2048, .bf16⟩
  | .hbm, ⟨15, _⟩ => ⟨S1x2048, .f32⟩
  | .hbm, ⟨16, _⟩ => ⟨S1024x3072, .bf16⟩
  | .hbm, ⟨17, _⟩ => ⟨S1x3072, .f32⟩
  | .hbm, ⟨18, _⟩ => ⟨S1024x1024, .bf16⟩
  | .hbm, ⟨19, _⟩ => ⟨S1x1024, .f32⟩
  | .hbm, ⟨20, _⟩ => ⟨S1x1024x1024, .bf16⟩
  | .hbm, ⟨21, _⟩ => ⟨S1024x1024, .bf16⟩
  | .hbm, ⟨22, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S1x256x2048, .bf16⟩
  | .local _ .vmem, ⟨6, _⟩ => ⟨S1x256x2048, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== XattnRefIdeal.lean ====
abbrev S2x8192x1024 : Shape := ⟨3, ![2, 8192, 1024]⟩
abbrev S1x1024 : Shape := ⟨2, ![1, 1024]⟩
abbrev S1x1024x9216 : Shape := ⟨3, ![1, 1024, 9216]⟩
abbrev S1x9216 : Shape := ⟨2, ![1, 9216]⟩
abbrev S2x256x2048 : Shape := ⟨3, ![2, 256, 2048]⟩
abbrev S1x3x1024x1024 : Shape := ⟨4, ![1, 3, 1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x9216 : Shape := ⟨2, ![1024, 9216]⟩
abbrev S2x8192x9216 : Shape := ⟨3, ![2, 8192, 9216]⟩
abbrev S9216 : Shape := ⟨1, ![9216]⟩
abbrev S1x1x9216 : Shape := ⟨3, ![1, 1, 9216]⟩
abbrev S2x8192x4x256 : Shape := ⟨4, ![2, 8192, 4, 256]⟩
abbrev S2x8192x3072 : Shape := ⟨3, ![2, 8192, 3072]⟩
abbrev S2x8192x3x1024 : Shape := ⟨4, ![2, 8192, 3, 1024]⟩
abbrev S2x256x1024 : Shape := ⟨3, ![2, 256, 1024]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S2x8192x1x1024 : Shape := ⟨4, ![2, 8192, 1, 1024]⟩
abbrev S1x1x1024x1024 : Shape := ⟨4, ![1, 1, 1024, 1024]⟩
abbrev S1024x1024 : Shape := ⟨2, ![1024, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x9216, .f32⟩
  | .hbm, ⟨3, _⟩ => ⟨S1x9216, .f32⟩
  | .hbm, ⟨4, _⟩ => ⟨S2x256x2048, .bf16⟩
  | .hbm, ⟨5, _⟩ => ⟨S1x3x1024x1024, .f32⟩
  | .hbm, ⟨6, _⟩ => ⟨S2x256x2048, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x9216, .f32⟩
  | .hbm, ⟨25, _⟩ => ⟨S2x8192x9216, .f32⟩
  | .hbm, ⟨26, _⟩ => ⟨S9216, .f32⟩
  | .hbm, ⟨27, _⟩ => ⟨S1x1x9216, .f32⟩
  | .hbm, ⟨28, _⟩ => ⟨S2x8192x9216, .f32⟩
  | .hbm, ⟨29, _⟩ => ⟨S2x8192x9216, .f32⟩
  | .hbm, ⟨30, _⟩ => ⟨S2x8192x1024, .f32⟩
  | .hbm, ⟨31, _⟩ => ⟨S2x8192x4x256, .f32⟩
  | .hbm, ⟨32, _⟩ => ⟨S2x8192x1024, .f32⟩
  | .hbm, ⟨33, _⟩ => ⟨S2x8192x3072, .f32⟩
  | .hbm, ⟨34, _⟩ => ⟨S2x8192x3x1024, .f32⟩
  | .hbm, ⟨35, _⟩ => ⟨S2x256x1024, .f32⟩
  | .hbm, ⟨36, _⟩ => ⟨S2x256x4x256, .f32⟩
  | .hbm, ⟨37, _⟩ => ⟨S2x256x1024, .f32⟩
  | .hbm, ⟨38, _⟩ => ⟨S2x256x4x256, .f32⟩
  | .hbm, ⟨39, _⟩ => ⟨S2x4x8192x256, .f32⟩
  | .hbm, ⟨40, _⟩ => ⟨S_, .f32⟩
  | .hbm, ⟨41, _⟩ => ⟨S2x4x8192x256, .f32⟩
  | .hbm, ⟨42, _⟩ => ⟨S2x4x8192x256, .f32⟩
  | .hbm, ⟨43, _⟩ => ⟨S_, .f32⟩
  | .hbm, ⟨44, _⟩ => ⟨S2x4x8192, .f32⟩
  | .hbm, ⟨45, _⟩ => ⟨S_, .f32⟩
  | .hbm, ⟨46, _⟩ => ⟨S2x4x8192, .f32⟩
  | .hbm, ⟨47, _⟩ => ⟨S2x4x8192, .f32⟩
  | .hbm, ⟨48, _⟩ => ⟨S2x4x8192x1, .f32⟩
  | .hbm, ⟨49, _⟩ => ⟨S2x4x8192x256, .f32⟩
  | .hbm, ⟨50, _⟩ => ⟨S2x4x8192x256, .f32⟩
  | .hbm, ⟨51, _⟩ => ⟨S2x4x8192x256, .f32⟩
  | .hbm, ⟨52, _⟩ => ⟨S_, .f32⟩
  | .hbm, ⟨53, _⟩ => ⟨S2x4x8192, .f32⟩
  | .hbm, ⟨54, _⟩ => ⟨S2x4x8192x1, .f32⟩
  | .hbm, ⟨55, _⟩ => ⟨S2x4x8192x256, .f32⟩
  | .hbm, ⟨56, _⟩ => ⟨S2x4x8192x256, .f32⟩
  | .hbm, ⟨57, _⟩ => ⟨S2x4x256x8192, .f32⟩
  | .hbm, ⟨58, _⟩ => ⟨S2x8192x4x256, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192x1024, .f32⟩
  | .hbm, ⟨64, _⟩ => ⟨S2x8192x1024, .f32⟩
  | .hbm, ⟨65, _⟩ => ⟨S_, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x3x1024, .f32⟩
  | .hbm, ⟨71, _⟩ => ⟨S2x8192x3x1024, .f32⟩
  | .hbm, ⟨72, _⟩ => ⟨S_, .f32⟩
  | .hbm, ⟨73, _⟩ => ⟨S2x8192x3x1024, .f32⟩
  | .hbm, ⟨74, _⟩ => ⟨S2x8192x3x1024, .f32⟩
  | .hbm, ⟨75, _⟩ => ⟨S_, .f32⟩
  | .hbm, ⟨76, _⟩ => ⟨S2x8192x3x1024, .f32⟩
  | .hbm, ⟨77, _⟩ => ⟨S2x8192x3x1024, .f32⟩
  | .hbm, ⟨78, _⟩ => ⟨S2x8192x1x1024, .f32⟩
  | .hbm, ⟨79, _⟩ => ⟨S2x8192x1024, .f32⟩
  | .hbm, ⟨80, _⟩ => ⟨S1x1x1024x1024, .f32⟩
  | .hbm, ⟨81, _⟩ => ⟨S1024x1024, .f32⟩
  | .hbm, ⟨82, _⟩ => ⟨S2x8192x1024, .f32⟩
  | .hbm, ⟨83, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== MemKv.lean ====
abbrev S2x256x1024 : Shape := ⟨3, ![2, 256, 1024]⟩
abbrev S1x1024 : Shape := ⟨2, ![1, 1024]⟩
abbrev S1x1024x2048 : Shape := ⟨3, ![1, 1024, 2048]⟩
abbrev S1024x2048 : Shape := ⟨2, ![1024, 2048]⟩
abbrev S1024 : Shape := ⟨1, ![1024]⟩
abbrev S2x256x2048 : Shape := ⟨3, ![2, 256, 2048]⟩
abbrev S1x256x1024 : Shape := ⟨3, ![1, 256, 1024]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 8
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S1024x2048, .f32⟩
  | .hbm, ⟨4, _⟩ => ⟨S1024x2048, .bf16⟩
  | .hbm, ⟨5, _⟩ => ⟨S1024, .f32⟩
  | .hbm, ⟨6, _⟩ => ⟨S1x1024, .f32⟩
  | .hbm, ⟨7, _⟩ => ⟨S2x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256x2048, .bf16⟩
  | .local _ .vmem, ⟨5, _⟩ => ⟨S1x256x2048, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S2x256x1024 : Shape := ⟨3, ![2, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x2048 : Shape := ⟨2, ![1024, 2048]⟩
abbrev S2x256x2048 : Shape := ⟨3, ![2, 256, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S1024x2048, .f32⟩
  | .hbm, ⟨21, _⟩ => ⟨S2x256x2048, .f32⟩
  | .hbm, ⟨22, _⟩ => ⟨S2x256x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Merge.lean ====
abbrev S2x8192x1024 : Shape := ⟨3, ![2, 8192, 1024]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S1x1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S2x8192x1024 : Shape := ⟨3, ![2, 8192, 1024]⟩
abbrev S1x1024x1024 : Shape := ⟨3, ![1, 1024, 1024]⟩
abbrev S1024 : Shape := ⟨1, ![1024]⟩
abbrev S2x8192x1x1024 : Shape := ⟨4, ![2, 8192, 1, 1024]⟩
abbrev S2x8192x3x1024 : Shape := ⟨4, ![2, 8192, 3, 1024]⟩
abbrev S_ : Shape := ⟨0, ![]⟩
abbrev S1024x1024 : Shape := ⟨2, ![1024, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S1x1024x1024, .f32⟩
  | .hbm, ⟨5, _⟩ => ⟨S1024, .f32⟩
  | .hbm, ⟨6, _⟩ => ⟨S2x8192x1x1024, .f32⟩
  | .hbm, ⟨7, _⟩ => ⟨S2x8192x1x1024, .f32⟩
  | .hbm, ⟨8, _⟩ => ⟨S2x8192x1x1024, .f32⟩
  | .hbm, ⟨9, _⟩ => ⟨S2x8192x3x1024, .f32⟩
  | .hbm, ⟨10, _⟩ => ⟨S_, .f32⟩
  | .hbm, ⟨11, _⟩ => ⟨S2x8192x1024, .f32⟩
  | .hbm, ⟨12, _⟩ => ⟨S1024x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Lru.lean ====
abbrev S2x8192x1024 : Shape := ⟨3, ![2, 8192, 1024]⟩
abbrev S1x1024 : Shape := ⟨2, ![1, 1024]⟩
abbrev S1x1024x9216 : Shape := ⟨3, ![1, 1024, 9216]⟩
abbrev S1x9216 : Shape := ⟨2, ![1, 9216]⟩
abbrev S1x4x1024 : Shape := ⟨3, ![1, 4, 1024]⟩
abbrev S1x4x256x256 : Shape := ⟨4, ![1, 4, 256, 256]⟩
abbrev S1x3x1024x1024 : Shape := ⟨4, ![1, 3, 1024, 1024]⟩
abbrev S1024x9216 : Shape := ⟨2, ![1024, 9216]⟩
abbrev S9216 : Shape := ⟨1, ![9216]⟩
abbrev S3x1024x1024 : Shape := ⟨3, ![3, 1024, 1024]⟩
abbrev S1024 : Shape := ⟨1, ![1024]⟩
abbrev S1024x2048 : Shape := ⟨2, ![1024, 2048]⟩
abbrev S1x2048 : Shape := ⟨2, ![1, 2048]⟩
abbrev S1024x3072 : Shape := ⟨2, ![1024, 3072]⟩
abbrev S1x3072 : Shape := ⟨2, ![1, 3072]⟩
abbrev S4x1024 : Shape := ⟨2, ![4, 1024]⟩
abbrev S4x256x256 : Shape := ⟨3, ![4, 256, 256]⟩
abbrev S1024x1024 : Shape := ⟨2, ![1024, 1024]⟩
abbrev S1x1024x1024 : Shape := ⟨3, ![1, 1024, 1024]⟩
abbrev S1x256x1024 : Shape := ⟨3, ![1, 256, 1024]⟩
abbrev S264x1024 : Shape := ⟨2, ![264, 1024]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 42
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x9216, .f32⟩
  | .hbm, ⟨3, _⟩ => ⟨S1x9216, .f32⟩
  | .hbm, ⟨4, _⟩ => ⟨S1x4x1024, .f32⟩
  | .hbm, ⟨5, _⟩ => ⟨S1x1024, .f32⟩
  | .hbm, ⟨6, _⟩ => ⟨S1x4x256x256, .f32⟩
  | .hbm, ⟨7, _⟩ => ⟨S1x1024, .f32⟩
  | .hbm, ⟨8, _⟩ => ⟨S1x4x256x256, .f32⟩
  | .hbm, ⟨9, _⟩ => ⟨S1x1024, .f32⟩
  | .hbm, ⟨10, _⟩ => ⟨S1x1024, .f32⟩
  | .hbm, ⟨11, _⟩ => ⟨S1x3x1024x1024, .f32⟩
  | .hbm, ⟨12, _⟩ => ⟨S1024x9216, .f32⟩
  | .hbm, ⟨13, _⟩ => ⟨S1024x9216, .bf16⟩
  | .hbm, ⟨14, _⟩ => ⟨S9216, .f32⟩
  | .hbm, ⟨15, _⟩ => ⟨S1x9216, .f32⟩
  | .hbm, ⟨16, _⟩ => ⟨S3x1024x1024, .f32⟩
  | .hbm, ⟨17, _⟩ => ⟨S3x1024x1024, .bf16⟩
  | .hbm, ⟨18, _⟩ => ⟨S1024, .f32⟩
  | .hbm, ⟨19, _⟩ => ⟨S1x1024, .f32⟩
  | .hbm, ⟨20, _⟩ => ⟨S1024x2048, .bf16⟩
  | .hbm, ⟨21, _⟩ => ⟨S1x2048, .f32⟩
  | .hbm, ⟨22, _⟩ => ⟨S1024x3072, .bf16⟩
  | .hbm, ⟨23, _⟩ => ⟨S1x3072, .f32⟩
  | .hbm, ⟨24, _⟩ => ⟨S4x1024, .f32⟩
  | .hbm, ⟨25, _⟩ => ⟨S1024, .f32⟩
  | .hbm, ⟨26, _⟩ => ⟨S1x1024, .f32⟩
  | .hbm, ⟨27, _⟩ => ⟨S4x256x256, .f32⟩
  | .hbm, ⟨28, _⟩ => ⟨S4x256x256, .bf16⟩
  | .hbm, ⟨29, _⟩ => ⟨S1024, .f32⟩
  | .hbm, ⟨30, _⟩ => ⟨S1x1024, .f32⟩
  | .hbm, ⟨31, _⟩ => ⟨S4x256x256, .f32⟩
  | .hbm, ⟨32, _⟩ => ⟨S4x256x256, .bf16⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024x1024, .bf16⟩
  | .hbm, ⟨38, _⟩ => ⟨S1x1024, .f32⟩
  | .hbm, ⟨39, _⟩ => ⟨S1x1024x1024, .bf16⟩
  | .hbm, ⟨40, _⟩ => ⟨S1024x1024, .bf16⟩
  | .hbm, ⟨41, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S4x1024, .f32⟩
  | .local _ .vmem, ⟨6, _⟩ => ⟨S1x1024, .f32⟩
  | .local _ .vmem, ⟨7, _⟩ => ⟨S4x256x256, .bf16⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S1x256x1024, .f32⟩
  | .local _ .vmem, ⟨16, _⟩ => ⟨S1x256x1024, .f32⟩
  | .local _ .vmem, ⟨17, _⟩ => ⟨S264x1024, .f32⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_130 : BitVec 32 := 0#32
  let c32_i32 : BitVec 32 := 32#32
  let v285 : BitVec 32 := Scalar.addi c0_i32_130 c32_i32
  let c1_i32 : BitVec 32 := 1#32
  ⟨c0_i32_130, v285, c1_i32⟩
def k0_mult1 (k0_t1 : Fin k0_t1_loop.trips) : BitVec 32 :=
  let c0_i32_130 : BitVec 32 := 0#32
  let c1_i32 : BitVec 32 := 1#32
  let arg21 : BitVec 32 := Scf.iv c0_i32_130 c1_i32 k0_t1
  let c8_i32 : BitVec 32 := 8#32
  let v329 : BitVec 32 := Scalar.muli arg21 c8_i32
  v329
def k0_off1 (k0_t1 : Fin k0_t1_loop.trips) : Fin 2 → Nat :=
  let c0_i32_130 : BitVec 32 := 0#32
  let c1_i32 : BitVec 32 := 1#32
  let arg21 : BitVec 32 := Scf.iv c0_i32_130 c1_i32 k0_t1
  let c8_i32 : BitVec 32 := 8#32
  let v329 : BitVec 32 := Scalar.muli arg21 c8_i32
  let v330 : BitVec 32 := v329
  let v331 : Index := Scalar.indexCast v330
  let c0_157 : Index := 0#32
  ![v331.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== LruRefIdeal.lean ====
abbrev S2x8192x1024 : Shape := ⟨3, ![2, 8192, 1024]⟩
abbrev S1x1024 : Shape := ⟨2, ![1, 1024]⟩
abbrev S1x1024x9216 : Shape := ⟨3, ![1, 1024, 9216]⟩
abbrev S1x9216 : Shape := ⟨2, ![1, 9216]⟩
abbrev S1x4x1024 : Shape := ⟨3, ![1, 4, 1024]⟩
abbrev S1x4x256x256 : Shape := ⟨4, ![1, 4, 256, 256]⟩
abbrev S1x3x1024x1024 : Shape := ⟨4, ![1, 3, 1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S2x8195x1024 : Shape := ⟨3, ![2, 8195, 1024]⟩
abbrev S2x8192x4x256 : Shape := ⟨4, ![2, 8192, 4, 256]⟩
abbrev S4x256x256 : Shape := ⟨3, ![4, 256, 256]⟩
abbrev S4x256x2x8192 : Shape := ⟨4, ![4, 256, 2, 8192]⟩
abbrev S2x1024 : Shape := ⟨2, ![2, 1024]⟩
abbrev S8192x2x1024 : Shape := ⟨3, ![8192, 2, 1024]⟩
abbrev S1x2x1024 : Shape := ⟨3, ![1, 2, 1024]⟩
abbrev S1x1x1024x1024 : Shape := ⟨4, ![1, 1, 1024, 1024]⟩

abbrev nBuf : Space → Nat
  | .hbm => 233
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x9216, .f32⟩
  | 3 => ⟨S1x9216, .f32⟩
  | 4 => ⟨S1x4x1024, .f32⟩
  | 5 => ⟨S1x1024, .f32⟩
  | 6 => ⟨S1x4x256x256, .f32⟩
  | 7 => ⟨S1x1024, .f32⟩
  | 8 => ⟨S1x4x256x256, .f32⟩
  | 9 => ⟨S1x1024, .f32⟩
  | 10 => ⟨S1x1024, .f32⟩
  | 11 => ⟨S1x3x1024x1024, .f32⟩
  | 12 => ⟨S1024, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x1024, .f32⟩
  | 25 => ⟨S2x8192x1024, .f32⟩
  | 26 => ⟨S1x1x1024, .f32⟩
  | 27 => ⟨S2x8192x1024, .f32⟩
  | 28 => ⟨S2x8192x1024, .f32⟩
  | 29 => ⟨S1x1024x1024, .f32⟩
  | 30 => ⟨S1024x1024, .f32⟩
  | 31 => ⟨S2x8192x1024, .f32⟩
  | 32 => ⟨S1x1024, .f32⟩
  | 33 => ⟨S1024, .f32⟩
  | 34 => ⟨S1x1x1024, .f32⟩
  | 35 => ⟨S2x8192x1024, .f32⟩
  | 36 => ⟨S2x8192x1024, .f32⟩
  | 37 => ⟨S_, .i32⟩
  | 38 => ⟨S_, .f32⟩
  | 39 => ⟨S2x8195x1024, .f32⟩
  | 40 => ⟨S1024, .f32⟩
  | 41 => ⟨S1x1x1024, .f32⟩
  | 42 => ⟨S1024, .f32⟩
  | 43 => ⟨S2x8192x1024, .f32⟩
  | 44 => ⟨S1x1x1024, .f32⟩
  | 45 => ⟨S2x8192x1024, .f32⟩
  | 46 => ⟨S2x8192x1024, .f32⟩
  | 47 => ⟨S1x1x1024, .f32⟩
  | 48 => ⟨S2x8192x1024, .f32⟩
  | 49 => ⟨S2x8192x1024, .f32⟩
  | 50 => ⟨S1x1x1024, .f32⟩
  | 51 => ⟨S1024, .f32⟩
  | 52 => ⟨S2x8192x1024, .f32⟩
  | 53 => ⟨S1x1x1024, .f32⟩
  | 54 => ⟨S2x8192x1024, .f32⟩
  | 55 => ⟨S2x8192x1024, .f32⟩
  | 56 => ⟨S2x8192x1024, .f32⟩
  | 57 => ⟨S1x1x1024, .f32⟩
  | 58 => ⟨S1024, .f32⟩
  | 59 => ⟨S2x8192x1024, .f32⟩
  | 60 => ⟨S1x1x1024, .f32⟩
  | 61 => ⟨S2x8192x1024, .f32⟩
  | 62 => ⟨S2x8192x1024, .f32⟩
  | 63 => ⟨S2x8192x1024, .f32⟩
  | 64 => ⟨S1x1x1024, .f32⟩
  | 65 => ⟨S1024, .f32⟩
  | 66 => ⟨S2x8192x1024, .f32⟩
  | 67 => ⟨S1x1x1024, .f32⟩
  | 68 => ⟨S2x8192x1024, .f32⟩
  | 69 => ⟨S2x8192x1024, .f32⟩
  | 70 => ⟨S2x8192x1024, .f32⟩
  | 71 => ⟨S2x8192x4x256, .f32⟩
  | 72 => ⟨S4x256x256, .f32⟩
  | 73 => ⟨S4x256x2x8192, .f32⟩
  | 74 => ⟨S2x8192x4x256, .f32⟩
  | 75 => ⟨S2x8192x1024, .f32⟩
  | 76 => ⟨S1024, .f32⟩
  | 77 => ⟨S1x1x1024, .f32⟩
  | 78 => ⟨S2x8192x1024, .f32⟩
  | 79 => ⟨S2x8192x1024, .f32⟩
  | 80 => ⟨S2x8192x1024, .f32⟩
  | 81 => ⟨S2x8192x1024, .f32⟩
  | 82 => ⟨S_, .f32⟩
  | 83 => ⟨S2x8192x1024, .f32⟩
  | 84 => ⟨S2x8192x1024, .f32⟩
  | 85 => ⟨S_, .f32⟩
  | 86 => ⟨S2x8192x1024, .f32⟩
  | 87 => ⟨S2x8192x1024, .f32⟩
  | 88 => ⟨S4x256x256, .f32⟩
  | 89 => ⟨S4x256x2x8192, .f32⟩
  | 90 => ⟨S2x8192x4x256, .f32⟩
  | 91 => ⟨S2x8192x1024, .f32⟩
  | 92 => ⟨S1024, .f32⟩
  | 93 => ⟨S1x1x1024, .f32⟩
  | 94 => ⟨S2x8192x1024, .f32⟩
  | 95 => ⟨S2x8192x1024, .f32⟩
  | 96 => ⟨S2x8192x1024, .f32⟩
  | 97 => ⟨S2x8192x1024, .f32⟩
  | 98 => ⟨S_, .f32⟩
  | 99 => ⟨S2x8192x1024, .f32⟩
  | 100 => ⟨S2x8192x1024, .f32⟩
  | 101 => ⟨S_, .f32⟩
  | 102 => ⟨S2x8192x1024, .f32⟩
  | 103 => ⟨S2x8192x1024, .f32⟩
  | 104 => ⟨S1024, .f32⟩
  | 105 => ⟨S_, .f32⟩
  | 106 => ⟨S2x8192x1024, .f32⟩
  | 107 => ⟨S2x8192x1024, .f32⟩
  | 108 => ⟨S1024, .f32⟩
  | 109 => ⟨S_, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1x1x1024, .f32⟩
  | 119 => ⟨S2x8192x1024, .f32⟩
  | 120 => ⟨S2x8192x1024, .f32⟩
  | 121 => ⟨S2x8192x1024, .f32⟩
  | 122 => ⟨S_, .f32⟩
  | 123 => ⟨S2x8192x1024, .f32⟩
  | 124 => ⟨S2x8192x1024, .f32⟩
  | 125 => ⟨S2x8192x1024, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S_, .f32⟩
  | 3 => ⟨S2x1024, .f32⟩
  | 4 => ⟨S8192x2x1024, .f32⟩
  | 5 => ⟨S8192x2x1024, .f32⟩
  | 6 => ⟨S_, .f32⟩
  | 7 => ⟨S8192x2x1024, .f32⟩
  | 8 => ⟨S_, .i32⟩
  | 9 => ⟨S8192x2x1024, .f32⟩
  | 10 => ⟨S8192x2x1024, .f32⟩
  | 11 => ⟨S_, .i32⟩
  | 12 => ⟨S2x1024, .f32⟩
  | 13 => ⟨S8192x2x1024, .f32⟩
  | 14 => ⟨S_, .i32⟩
  | 15 => ⟨S_, .i1⟩
  | 16 => ⟨S_, .i32⟩
  | 17 => ⟨S_, .i32⟩
  | 18 => ⟨S1x2x1024, .f32⟩
  | 19 => ⟨S2x1024, .f32⟩
  | 20 => ⟨S_, .i32⟩
  | 21 => ⟨S_, .i32⟩
  | 22 => ⟨S1x2x1024, .f32⟩
  | 23 => ⟨S2x1024, .f32⟩
  | 24 => ⟨S2x1024, .f32⟩
  | 25 => ⟨S2x1024, .f32⟩
  | 26 => ⟨S1x2x1024, .f32⟩
  | 27 => ⟨S_, .i32⟩
  | 28 => ⟨S_, .i32⟩
  | 29 => ⟨S8192x2x1024, .f32⟩
  | 30 => ⟨S_, .i32⟩
  | 31 => ⟨S_, .i32⟩
  | 32 => ⟨S2x8192x1024, .f32⟩
  | 33 => ⟨S1024, .f32⟩
  | 34 => ⟨S2x8192x1024, .f32⟩
  | 35 => ⟨S_, .f32⟩
  | 36 => ⟨S2x8192, .f32⟩
  | 37 => ⟨S2x8192x1, .f32⟩
  | 38 => ⟨S_, .f32⟩
  | 39 => ⟨S2x8192x1, .f32⟩
  | 40 => ⟨S2x8192x1, .f32⟩
  | 41 => ⟨S_, .f32⟩
  | 42 => ⟨S2x8192x1, .f32⟩
  | 43 => ⟨S2x8192x1, .f32⟩
  | 44 => ⟨S2x8192x1, .f32⟩
  | 45 => ⟨S2x8192x1024, .f32⟩
  | 46 => ⟨S2x8192x1024, .f32⟩
  | 47 => ⟨S1x1x1024, .f32⟩
  | 48 => ⟨S2x8192x1024, .f32⟩
  | 49 => ⟨S2x8192x1024, .f32⟩
  | 50 => ⟨S1x1024x1024, .f32⟩
  | 51 => ⟨S1024x1024, .f32⟩
  | 52 => ⟨S2x8192x1024, .f32⟩
  | 53 => ⟨S1x1024, .f32⟩
  | 54 => ⟨S1024, .f32⟩
  | 55 => ⟨S1x1x1024, .f32⟩
  | 56 => ⟨S2x8192x1024, .f32⟩
  | 57 => ⟨S2x8192x1024, .f32⟩
  | 58 => ⟨S2x8192x1024, .f32⟩
  | 59 => ⟨S2x8192x1024, .f32⟩
  | 60 => ⟨S_, .f32⟩
  | 61 => ⟨S2x8192x1024, .f32⟩
  | 62 => ⟨S2x8192x1024, .f32⟩
  | 63 => ⟨S_, .f32⟩
  | 64 => ⟨S2x8192x1024, .f32⟩
  | 65 => ⟨S2x8192x1024, .f32⟩
  | 66 => ⟨S2x8192x1024, .f32⟩
  | 67 => ⟨S2x8192x1024, .f32⟩
  | 68 => ⟨S1024, .f32⟩
  | 69 => ⟨S2x8192x1024, .f32⟩
  | 70 => ⟨S_, .f32⟩
  | 71 => ⟨S2x8192, .f32⟩
  | 72 => ⟨S2x8192x1, .f32⟩
  | 73 => ⟨S_, .f32⟩
  | 74 => ⟨S2x8192x1, .f32⟩
  | 75 => ⟨S2x8192x1, .f32⟩
  | 76 => ⟨S_, .f32⟩
  | 77 => ⟨S2x8192x1, .f32⟩
  | 78 => ⟨S2x8192x1, .f32⟩
  | 79 => ⟨S2x8192x1, .f32⟩
  | 80 => ⟨S2x8192x1024, .f32⟩
  | 81 => ⟨S2x8192x1024, .f32⟩
  | 82 => ⟨S1x1x1024, .f32⟩
  | 83 => ⟨S2x8192x1024, .f32⟩
  | 84 => ⟨S2x8192x1024, .f32⟩
  | 85 => ⟨S1x1024x1024, .f32⟩
  | 86 => ⟨S1024x1024, .f32⟩
  | 87 => ⟨S2x8192x1024, .f32⟩
  | 88 => ⟨S1x1024, .f32⟩
  | 89 => ⟨S1024, .f32⟩
  | 90 => ⟨S1x1x1024, .f32⟩
  | 91 => ⟨S2x8192x1024, .f32⟩
  | 92 => ⟨S2x8192x1024, .f32⟩
  | 93 => ⟨S2x8192x1024, .f32⟩
  | 94 => ⟨S2x8192x1024, .f32⟩
  | 95 => ⟨S_, .f32⟩
  | 96 => ⟨S2x8192x1024, .f32⟩
  | 97 => ⟨S2x8192x1024, .f32⟩
  | 98 => ⟨S_, .f32⟩
  | 99 => ⟨S2x8192x1024, .f32⟩
  | 100 => ⟨S2x8192x1024, .f32⟩
  | 101 => ⟨S1x1x1024x1024, .f32⟩
  | 102 => ⟨S1024x1024, .f32⟩
  | 103 => ⟨S2x8192x1024, .f32⟩
  | 104 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_2 : Ref sig .tc := ⟨.hbm, 82, rfl⟩
abbrev main_v65 : Ref sig .tc := ⟨.hbm, 83, rfl⟩
abbrev main_v66 : Ref sig .tc := ⟨.hbm, 84, rfl⟩
abbrev main_cst_3 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_4 : Ref sig .tc := ⟨.hbm, 98, rfl⟩
abbrev main_v79 : Ref sig .tc := ⟨.hbm, 99, rfl⟩
abbrev main_v80 : Ref sig .tc := ⟨.hbm, 100, rfl⟩
abbrev main_cst_5 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_6 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_7 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_8 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_9 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_10 : Ref sig .tc := ⟨.hbm, 134, rfl⟩
abbrev main_v109 : Ref sig .tc := ⟨.hbm, 135, rfl⟩
abbrev main_c_11 : Ref sig .tc := ⟨.hbm, 136, rfl⟩
abbrev main_v110_0 : Ref sig .tc := ⟨.hbm, 137, rfl⟩
abbrev main_v110_1 : Ref sig .tc := ⟨.hbm, 138, rfl⟩
abbrev main_v110_2 : Ref sig .tc := ⟨.hbm, 139, rfl⟩
abbrev main_v110_3 : Ref sig .tc := ⟨.hbm, 140, rfl⟩
abbrev main_v110_4 : Ref sig .tc := ⟨.hbm, 141, rfl⟩
abbrev main_while0c_c_24 : Ref sig .tc := ⟨.hbm, 142, rfl⟩
abbrev main_while0c_v168 : Ref sig .tc := ⟨.hbm, 143, rfl⟩
abbrev main_while0b_call1_c : Ref sig .tc := ⟨.hbm, 144, rfl⟩
abbrev main_while0b_call1_c_0 : Ref sig .tc := ⟨.hbm, 145, rfl⟩
abbrev main_while0b_call1_v0 : Ref sig .tc := ⟨.hbm, 146, rfl⟩
abbrev main_while0b_v168 : Ref sig .tc := ⟨.hbm, 147, rfl⟩
abbrev main_while0b_call2_c : Ref sig .tc := ⟨.hbm, 148, rfl⟩
abbrev main_while0b_call2_c_0 : Ref sig .tc := ⟨.hbm, 149, rfl⟩
abbrev main_while0b_call2_v0 : Ref sig .tc := ⟨.hbm, 150, rfl⟩
abbrev main_while0b_v169 : Ref sig .tc := ⟨.hbm, 151, rfl⟩
abbrev main_while0b_v170 : Ref sig .tc := ⟨.hbm, 152, rfl⟩
abbrev main_while0b_v171 : Ref sig .tc := ⟨.hbm, 153, rfl⟩
abbrev main_while0b_call3_v0 : Ref sig .tc := ⟨.hbm, 154, rfl⟩
abbrev main_while0b_call3_c : Ref sig .tc := ⟨.hbm, 155, rfl⟩
abbrev main_while0b_call3_c_0 : Ref sig .tc := ⟨.hbm, 156, rfl⟩
abbrev main_while0b_v172 : Ref sig .tc := ⟨.hbm, 157, rfl⟩
abbrev main_while0b_c_24 : Ref sig .tc := ⟨.hbm, 158, rfl⟩
abbrev main_while0b_v173 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_12 : Ref sig .tc := ⟨.hbm, 163, rfl⟩
abbrev main_v114 : Ref sig .tc := ⟨.hbm, 164, rfl⟩
abbrev main_v115 : Ref sig .tc := ⟨.hbm, 165, rfl⟩
abbrev main_cst_13 : Ref sig .tc := ⟨.hbm, 166, rfl⟩
abbrev main_v116 : Ref sig .tc := ⟨.hbm, 167, rfl⟩
abbrev main_v117 : Ref sig .tc := ⟨.hbm, 168, rfl⟩
abbrev main_cst_14 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_call4_v0 : Ref sig .tc := ⟨.hbm, 186, rfl⟩
abbrev main_call4_v1 : Ref sig .tc := ⟨.hbm, 187, rfl⟩
abbrev main_call4_cst : Ref sig .tc := ⟨.hbm, 188, rfl⟩
abbrev main_call4_v2 : Ref sig .tc := ⟨.hbm, 189, rfl⟩
abbrev main_call4_v3 : Ref sig .tc := ⟨.hbm, 190, rfl⟩
abbrev main_call4_cst_0 : Ref sig .tc := ⟨.hbm, 191, rfl⟩
abbrev main_call4_v4 : Ref sig .tc := ⟨.hbm, 192, rfl⟩
abbrev main_call4_v5 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_15 : Ref sig .tc := ⟨.hbm, 198, rfl⟩
abbrev main_v138 : Ref sig .tc := ⟨.hbm, 199, rfl⟩
abbrev main_v139 : Ref sig .tc := ⟨.hbm, 200, rfl⟩
abbrev main_cst_16 : Ref sig .tc := ⟨.hbm, 201, rfl⟩
abbrev main_v140 : Ref sig .tc := ⟨.hbm, 202, rfl⟩
abbrev main_v141 : Ref sig .tc := ⟨.hbm, 203, rfl⟩
abbrev main_cst_17 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_18 : Ref sig .tc := ⟨.hbm, 223, rfl⟩
abbrev main_v160 : Ref sig .tc := ⟨.hbm, 224, rfl⟩
abbrev main_v161 : Ref sig .tc := ⟨.hbm, 225, rfl⟩
abbrev main_cst_19 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩

abbrev nD : Nat := 1
abbrev τ : Topo := Topo.v7x

variable {F : FTy → Type} [FloatOps F]

abbrev main_while0_count : Scf.Loop 32 := ⟨0#32, 8192#32, 1#32⟩
-- ==== Mlstm.lean ====
abbrev S2x8192x1024 : Shape := ⟨3, ![2, 8192, 1024]⟩
abbrev S1x1024 : Shape := ⟨2, ![1, 1024]⟩
abbrev S1x1024x9216 : Shape := ⟨3, ![1, 1024, 9216]⟩
abbrev S1x9216 : Shape := ⟨2, ![1, 9216]⟩
abbrev S1x4x1024 : Shape := ⟨3, ![1, 4, 1024]⟩
abbrev S1x4x256x256 : Shape := ⟨4, ![1, 4, 256, 256]⟩
abbrev S1x3072x8 : Shape := ⟨3, ![1, 3072, 8]⟩
abbrev S1x8 : Shape := ⟨2, ![1, 8]⟩
abbrev S1x3x1024x1024 : Shape := ⟨4, ![1, 3, 1024, 1024]⟩
abbrev S1024x9216 : Shape := ⟨2, ![1024, 9216]⟩
abbrev S9216 : Shape := ⟨1, ![9216]⟩
abbrev S3x1024x1024 : Shape := ⟨3, ![3, 1024, 1024]⟩
abbrev S1024 : Shape := ⟨1, ![1024]⟩
abbrev S1024x2048 : Shape := ⟨2, ![1024, 2048]⟩
abbrev S1x2048 : Shape := ⟨2, ![1, 2048]⟩
abbrev S1024x3072 : Shape := ⟨2, ![1024, 3072]⟩
abbrev S1x3072 : Shape := ⟨2, ![1, 3072]⟩
abbrev S3072x8 : Shape := ⟨2, ![3072, 8]⟩
abbrev S3072x4 : Shape := ⟨2, ![3072, 4]⟩
abbrev S_ : Shape := ⟨0, ![]⟩
abbrev S3072x128 : Shape := ⟨2, ![3072, 128]⟩
abbrev S3072x256 : Shape := ⟨2, ![3072, 256]⟩
abbrev S8 : Shape := ⟨1, ![8]⟩
abbrev S1x4 : Shape := ⟨2, ![1, 4]⟩
abbrev S1x128 : Shape := ⟨2, ![1, 128]⟩
abbrev S1x256 : Shape := ⟨2, ![1, 256]⟩
abbrev S4x1024 : Shape := ⟨2, ![4, 1024]⟩
abbrev S4x256x256 : Shape := ⟨3, ![4, 256, 256]⟩
abbrev S1024x1024 : Shape := ⟨2, ![1024, 1024]⟩
abbrev S1x1024x1024 : Shape := ⟨3, ![1, 1024, 1024]⟩
abbrev S1x256x1024 : Shape := ⟨3, ![1, 256, 1024]⟩
abbrev S264x1024 : Shape := ⟨2, ![264, 1024]⟩
abbrev S256x1024 : Shape := ⟨2, ![256, 1024]⟩
abbrev S256x256 : Shape := ⟨2, ![256, 256]⟩
abbrev S4x256x384 : Shape := ⟨3, ![4, 256, 384]⟩
abbrev S4x8x128 : Shape := ⟨3, ![4, 8, 128]⟩
abbrev S8x1024 : Shape := ⟨2, ![8, 1024]⟩
abbrev S256 : Shape := ⟨1, ![256]⟩
abbrev S256x1 : Shape := ⟨2, ![256, 1]⟩
abbrev S1x256x256 : Shape := ⟨3, ![1, 256, 256]⟩
abbrev S1024x256 : Shape := ⟨2, ![1024, 256]⟩
abbrev S128x128 : Shape := ⟨2, ![128, 128]⟩
abbrev S128x1 : Shape := ⟨2, ![128, 1]⟩
abbrev S1x1x128 : Shape := ⟨3, ![1, 1, 128]⟩
abbrev S128x256 : Shape := ⟨2, ![128, 256]⟩
abbrev S256x128 : Shape := ⟨2, ![256, 128]⟩
abbrev S1x256x384 : Shape := ⟨3, ![1, 256, 384]⟩
abbrev S256x384 : Shape := ⟨2, ![256, 384]⟩
abbrev S128 : Shape := ⟨1, ![128]⟩
abbrev S128x384 : Shape := ⟨2, ![128, 384]⟩
abbrev S1x384 : Shape := ⟨2, ![1, 384]⟩
abbrev S8x128 : Shape := ⟨2, ![8, 128]⟩
abbrev S1x8x128 : Shape := ⟨3, ![1, 8, 128]⟩

abbrev nBuf : Space → Nat
  | .hbm => 73
  | .vmem => 31
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x9216, .f32⟩
  | .hbm, ⟨3, _⟩ => ⟨S1x9216, .f32⟩
  | .hbm, ⟨4, _⟩ => ⟨S1x4x1024, .f32⟩
  | .hbm, ⟨5, _⟩ => ⟨S1x1024, .f32⟩
  | .hbm, ⟨6, _⟩ => ⟨S1x4x256x256, .f32⟩
  | .hbm, ⟨7, _⟩ => ⟨S1x4x256x256, .f32⟩
  | .hbm, ⟨8, _⟩ => ⟨S1x4x256x256, .f32⟩
  | .hbm, ⟨9, _⟩ => ⟨S1x4x256x256, .f32⟩
  | .hbm, ⟨10, _⟩ => ⟨S1x1024, .f32⟩
  | .hbm, ⟨11, _⟩ => ⟨S1x3072x8, .f32⟩
  | .hbm, ⟨12, _⟩ => ⟨S1x8, .f32⟩
  | .hbm, ⟨13, _⟩ => ⟨S1x1024, .f32⟩
  | .hbm, ⟨14, _⟩ => ⟨S1x1024, .f32⟩
  | .hbm, ⟨15, _⟩ => ⟨S1x3x1024x1024, .f32⟩
  | .hbm, ⟨16, _⟩ => ⟨S1024x9216, .f32⟩
  | .hbm, ⟨17, _⟩ => ⟨S1024x9216, .bf16⟩
  | .hbm, ⟨18, _⟩ => ⟨S9216, .f32⟩
  | .hbm, ⟨19, _⟩ => ⟨S1x9216, .f32⟩
  | .hbm, ⟨20, _⟩ => ⟨S3x1024x1024, .f32⟩
  | .hbm, ⟨21, _⟩ => ⟨S3x1024x1024, .bf16⟩
  | .hbm, ⟨22, _⟩ => ⟨S1024, .f32⟩
  | .hbm, ⟨23, _⟩ => ⟨S1x1024, .f32⟩
  | .hbm, ⟨24, _⟩ => ⟨S1024x2048, .bf16⟩
  | .hbm, ⟨25, _⟩ => ⟨S1x2048, .f32⟩
  | .hbm, ⟨26, _⟩ => ⟨S1024x3072, .bf16⟩
  | .hbm, ⟨27, _⟩ => ⟨S1x3072, .f32⟩
  | .hbm, ⟨28, _⟩ => ⟨S3072x8, .f32⟩
  | .hbm, ⟨29, _⟩ => ⟨S3072x4, .f32⟩
  | .hbm, ⟨30, _⟩ => ⟨S_, .i32⟩
  | .hbm, ⟨31, _⟩ => ⟨S_, .f32⟩
  | .hbm, ⟨32, _⟩ => ⟨S3072x128, .f32⟩
  | .hbm, ⟨33, _⟩ => ⟨S3072x8, .f32⟩
  | .hbm, ⟨34, _⟩ => ⟨S3072x4, .f32⟩
  | .hbm, ⟨35, _⟩ => ⟨S_, .i32⟩
  | .hbm, ⟨36, _⟩ => ⟨S_, .f32⟩
  | .hbm, ⟨37, _⟩ => ⟨S3072x128, .f32⟩
  | .hbm, ⟨38, _⟩ => ⟨S3072x256, .f32⟩
  | .hbm, ⟨39, _⟩ => ⟨S3072x256, .bf16⟩
  | .hbm, ⟨40, _⟩ => ⟨S8, .f32⟩
  | .hbm, ⟨41, _⟩ => ⟨S1x8, .f32⟩
  | .hbm, ⟨42, _⟩ => ⟨S1x4, .f32⟩
  | .hbm, ⟨43, _⟩ => ⟨S_, .i32⟩
  | .hbm, ⟨44, _⟩ => ⟨S_, .f32⟩
  | .hbm, ⟨45, _⟩ => ⟨S1x128, .f32⟩
  | .hbm, ⟨46, _⟩ => ⟨S1x4, .f32⟩
  | .hbm, ⟨47, _⟩ => ⟨S_, .i32⟩
  | .hbm, ⟨48, _⟩ => ⟨S_, .f32⟩
  | .hbm, ⟨49, _⟩ => ⟨S1x128, .f32⟩
  | .hbm, ⟨50, _⟩ => ⟨S1x256, .f32⟩
  | .hbm, ⟨51, _⟩ => ⟨S4x1024, .f32⟩
  | .hbm, ⟨52, _⟩ => ⟨S1024, .f32⟩
  | .hbm, ⟨53, _⟩ => ⟨S1x1024, .f32⟩
  | .hbm, ⟨54, _⟩ => ⟨S4x256x256, .f32⟩
  | .hbm, ⟨55, _⟩ => ⟨S4x256x256, .bf16⟩
  | .hbm, ⟨56, _⟩ => ⟨S4x256x256, .f32⟩
  | .hbm, ⟨57, _⟩ => ⟨S4x256x256, .bf16⟩
  | .hbm, ⟨58, _⟩ => ⟨S4x256x256, .f32⟩
  | .hbm, ⟨59, _⟩ => ⟨S4x256x256, .bf16⟩
  | .hbm, ⟨60, _⟩ => ⟨S4x256x256, .f32⟩
  | .hbm, ⟨61, _⟩ => ⟨S4x256x256, .bf16⟩
  | .hbm, ⟨62, _⟩ => ⟨S1024, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S1024x1024, .bf16⟩
  | .hbm, ⟨69, _⟩ => ⟨S1x1024, .f32⟩
  | .hbm, ⟨70, _⟩ => ⟨S1x1024x1024, .bf16⟩
  | .hbm, ⟨71, _⟩ => ⟨S1024x1024, .bf16⟩
  | .hbm, ⟨72, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S4x1024, .f32⟩
  | .local _ .vmem, ⟨6, _⟩ => ⟨S1x1024, .f32⟩
  | .local _ .vmem, ⟨7, _⟩ => ⟨S4x256x256, .bf16⟩
  | .local _ .vmem, ⟨8, _⟩ => ⟨S4x256x256, .bf16⟩
  | .local _ .vmem, ⟨9, _⟩ => ⟨S4x256x256, .bf16⟩
  | .local _ .vmem, ⟨10, _⟩ => ⟨S4x256x256, .bf16⟩
  | .local _ .vmem, ⟨11, _⟩ => ⟨S1x1024, .f32⟩
  | .local _ .vmem, ⟨12, _⟩ => ⟨S3072x256, .bf16⟩
  | .local _ .vmem, ⟨13, _⟩ => ⟨S1x256, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .bf16⟩
  | .local _ .vmem, ⟨19, _⟩ => ⟨S1x256x1024, .f32⟩
  | .local _ .vmem, ⟨20, _⟩ => ⟨S1x256x1024, .f32⟩
  | .local _ .vmem, ⟨21, _⟩ => ⟨S264x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .f32⟩
  | .local _ .vmem, ⟨28, _⟩ => ⟨S256x256, .f32⟩
  | .local _ .vmem, ⟨29, _⟩ => ⟨S4x256x384, .f32⟩
  | .local _ .vmem, ⟨30, _⟩ => ⟨S4x8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_0 : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_call2_v0 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_call3_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_120 : BitVec 32 := 0#32
  let c2_i32 : BitVec 32 := 2#32
  let v196 : BitVec 32 := Scalar.addi c0_i32_120 c2_i32
  let c1_i32 : BitVec 32 := 1#32
  ⟨c0_i32_120, v196, c1_i32⟩
def k0_mult1 (k0_t1 : Fin k0_t1_loop.trips) : BitVec 32 :=
  let c0_i32_120 : BitVec 32 := 0#32
  let c1_i32 : BitVec 32 := 1#32
  let arg31 : BitVec 32 := Scf.iv c0_i32_120 c1_i32 k0_t1
  let c128_i32 : BitVec 32 := 128#32
  let v451 : BitVec 32 := Scalar.muli arg31 c128_i32
  v451
def k0_off1 (k0_t1 : Fin k0_t1_loop.trips) : Fin 2 → Nat :=
  let c0_i32_120 : BitVec 32 := 0#32
  let c1_i32 : BitVec 32 := 1#32
  let arg31 : BitVec 32 := Scf.iv c0_i32_120 c1_i32 k0_t1
  let c128_i32 : BitVec 32 := 128#32
  let v451 : BitVec 32 := Scalar.muli arg31 c128_i32
  let v452 : BitVec 32 := v451
  let v453 : Index := Scalar.indexCast v452
  let c0_259 : Index := 0#32
  ![v453.toNat, 0]
def k0_off2 (k0_t1 : Fin k0_t1_loop.trips) : Fin 2 → Nat :=
  let c0_i32_120 : BitVec 32 := 0#32
  let c1_i32 : BitVec 32 := 1#32
  let arg31 : BitVec 32 := Scf.iv c0_i32_120 c1_i32 k0_t1
  let c128_i32 : BitVec 32 := 128#32
  let v451 : BitVec 32 := Scalar.muli arg31 c128_i32
  let v452 : BitVec 32 := v451
  let v455 : Index := Scalar.indexCast v452
  let c128 : Index := 128#32
  ![v455.toNat, 128]
def k0_off3 (k0_t1 : Fin k0_t1_loop.trips) : Fin 2 → Nat :=
  let c0_i32_120 : BitVec 32 := 0#32
  let c1_i32 : BitVec 32 := 1#32
  let arg31 : BitVec 32 := Scf.iv c0_i32_120 c1_i32 k0_t1
  let c128_i32 : BitVec 32 := 128#32
  let v451 : BitVec 32 := Scalar.muli arg31 c128_i32
  let v452 : BitVec 32 := v451
  let v576 : Index := Scalar.indexCast v452
  let c0_303 : Index := 0#32
  ![v576.toNat, 0]
def k0_off4 (k0_t1 : Fin k0_t1_loop.trips) : Fin 2 → Nat :=
  let c0_i32_120 : BitVec 32 := 0#32
  let c1_i32 : BitVec 32 := 1#32
  let arg31 : BitVec 32 := Scf.iv c0_i32_120 c1_i32 k0_t1
  let c128_i32 : BitVec 32 := 128#32
  let v451 : BitVec 32 := Scalar.muli arg31 c128_i32
  let v452 : BitVec 32 := v451
  let v667 : Index := Scalar.indexCast v452
  let c256_328 : Index := 256#32
  ![v667.toNat, 256]
def k0_off5 (k0_t1 : Fin k0_t1_loop.trips) : Fin 2 → Nat :=
  let c0_i32_120 : BitVec 32 := 0#32
  let c1_i32 : BitVec 32 := 1#32
  let arg31 : BitVec 32 := Scf.iv c0_i32_120 c1_i32 k0_t1
  let c128_i32 : BitVec 32 := 128#32
  let v451 : BitVec 32 := Scalar.muli arg31 c128_i32
  let v452 : BitVec 32 := v451
  let v758 : Index := Scalar.indexCast v452
  let c512_353 : Index := 512#32
  ![v758.toNat, 512]
def k0_off6 (k0_t1 : Fin k0_t1_loop.trips) : Fin 2 → Nat :=
  let c0_i32_120 : BitVec 32 := 0#32
  let c1_i32 : BitVec 32 := 1#32
  let arg31 : BitVec 32 := Scf.iv c0_i32_120 c1_i32 k0_t1
  let c128_i32 : BitVec 32 := 128#32
  let v451 : BitVec 32 := Scalar.muli arg31 c128_i32
  let v452 : BitVec 32 := v451
  let v849 : Index := Scalar.indexCast v452
  let c768_378 : Index := 768#32
  ![v849.toNat, 768]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3072x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Proof.LruIdealFrame.lean ====
/-
  The frame of the idealized recurrence call (`LruIdeal`): every argument array ends as it was launched and every semaphore
  counter is back at zero.

  The body is run once at symbolic staging memrefs (`body_run`): the inputs come back as they were, the output block
  and the scratch buffers come back at some contents, which this module does not name. The launch is the library's,
  with the output window forgotten.
-/
module

public import proofs.«01_k».proof.Proof.Gen.LruIdeal.Skeleton
public import proofs.«01_k».proof.Proof.Gen.LruIdeal.Loops
public import proofs.«01_k».proof.Proof.Gen.LruIdeal.Frame

@[expose] public section

set_option maxRecDepth 16384

noncomputable section

namespace Cert.LruIdeal.Hand

open Cert.LruIdeal Cert.LruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref of a core held whole at some contents. -/
abbrev some_owns (c : Dev nD) {S : Shape} {e : EltTy} (M : Memref sig .tc .vmem S e) : sProp 𝕄 :=
  iprop(∃ d, owns (c : Thread nD τ) M fullShare d)

/-- The condition of the body's conditional: the second grid coordinate is zero. -/
abbrev fresh (i : grid0.Coords) : Prop :=
  (Scalar.cmpi .ne (Scalar.extui (Scalar.cmpi .eq (BitVec.ofNat 32 (i 1).val) 0#32)) 0#32) = 1#1

section Body

variable (arg2 : Memref sig .tc .vmem S1x256x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x2048 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S4x256x256 .bf16) (harg8 : arg8.IsWhole)
  (arg9 : Memref sig .tc .vmem S1x1024 .f32) (harg9 : arg9.IsWhole)
  (arg10 : Memref sig .tc .vmem S4x256x256 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1x256x1024 .f32) (harg16 : arg16.IsWhole)
  (arg17 : Memref sig .tc .vmem S264x1024 .f32) (harg17 : arg17.IsWhole)
  (arg18 : Memref sig .tc .vmem S256x1024 .f32) (harg18 : arg18.IsWhole)
  (arg19 : Memref sig .tc .vmem S256x1024 .f32) (harg19 : arg19.IsWhole)
  (arg20 : Memref sig .tc .vmem S8x1024 .f32) (harg20 : arg20.IsWhole)

/-- What the body is handed and hands back: the inputs at their contents, the output block and the scratch at some. -/
abbrev Held (c : Dev nD) (x0 : Vec F S1x256x1024 .f32) (x1 : Vec F S1x1024 .f32) (x2 : Vec F S1024x2048 .bf16) (x3 : Vec F S1x2048 .f32) (x4 : Vec F S4x1024 .f32) (x5 : Vec F S1x1024 .f32) (x6 : Vec F S4x256x256 .bf16) (x7 : Vec F S1x1024 .f32) (x8 : Vec F S4x256x256 .bf16) (x9 : Vec F S1x1024 .f32) (x10 : Vec F S1x1024 .f32) (x11 : Vec F S1024x1024 .bf16) (x12 : Vec F S1x1024 .f32) (x13 : Vec F S1024x1024 .bf16) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare x7
    ∗ owns (c : Thread nD τ) arg10 fullShare x8
    ∗ owns (c : Thread nD τ) arg11 fullShare x9
    ∗ owns (c : Thread nD τ) arg12 fullShare x10
    ∗ owns (c : Thread nD τ) arg13 fullShare x11
    ∗ owns (c : Thread nD τ) arg14 fullShare x12
    ∗ owns (c : Thread nD τ) arg15 fullShare x13
    ∗ some_owns c arg16
    ∗ some_owns c arg17
    ∗ some_owns c arg18
    ∗ some_owns c arg19
    ∗ some_owns c arg20)

set_option maxHeartbeats 4000000 in
/-- One point of the grid: the body runs to its return from what it is handed, and hands the same back. -/
theorem body_run (c : Dev nD) (i : grid0.Coords)
    (x0 : Vec F S1x256x1024 .f32) (x1 : Vec F S1x1024 .f32) (x2 : Vec F S1024x2048 .bf16) (x3 : Vec F S1x2048 .f32) (x4 : Vec F S4x1024 .f32) (x5 : Vec F S1x1024 .f32) (x6 : Vec F S4x256x256 .bf16) (x7 : Vec F S1x1024 .f32) (x8 : Vec F S4x256x256 .bf16) (x9 : Vec F S1x1024 .f32) (x10 : Vec F S1x1024 .f32) (x11 : Vec F S1024x1024 .bf16) (x12 : Vec F S1x1024 .f32) (x13 : Vec F S1024x1024 .bf16)
    (K : PUnit → sProp 𝕄) :
    iprop(Held arg2 arg3 arg4 arg5 arg6 arg7 arg8 arg9 arg10 arg11 arg12 arg13 arg14 arg15 arg16 arg17 arg18 arg19 arg20 c x0 x1 x2 x3 x4 x5 x6 x7 x8 x9 x10 x11 x12 x13
        ∗ (Held arg2 arg3 arg4 arg5 arg6 arg7 arg8 arg9 arg10 arg11 arg12 arg13 arg14 arg15 arg16 arg17 arg18 arg19 arg20 c x0 x1 x2 x3 x4 x5 x6 x7 x8 x9 x10 x11 x12 x13 -∗ K ⟨⟩))
      ⊢ wp frame (wpE (defs₀ (F := F)) Variants.none c none) Set.univ (cc0_branch_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_branch_lru_eq_skeleton]; unfold cc0_branch_lru_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold Held some_owns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  by_cases hc : fresh i
  · sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl
  · sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Body

variable (m : (ℓ : Loc nD τ sig) → Buf (Elt F) ℓ) (ρ : Dev nD → PrngReg)

/-- The class invariant, with the scratch buffers as memrefs held at some contents. -/
theorem PhiA_eq (c : Dev nD) :
    (Pipeline.ΦA spec0 c : sProp 𝕄)
      = iprop((some_owns c (Memref.whole cc0_scratch0) ∗ some_owns c (Memref.whole cc0_scratch1) ∗ some_owns c (Memref.whole cc0_scratch2) ∗ some_owns c (Memref.whole cc0_scratch3))
          ∗ (∃ r, prngReg c r)) := by
  unfold Pipeline.ΦA some_owns; rw [scopedRest0_eq]; simp only [owns_whole]; try rfl

/-- The output window is forgotten. -/
def forgets : Fin 15 → Bool := fun w => w.val == 14

/-- The proof data: the arrays as the region finds them, each input's block left in place, the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ (∃ d, owns (c : Thread nD τ) (win0_14.stage (cfg0.slots t 14)) fullShare d))

set_option maxHeartbeats 1600000 in
/-- The body at any point, from the run at symbolic memrefs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply (body_run _ _ _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  unfold Held
  isplitl [H0 H1 H2 H3 H4 H5 H6 H7 H8 H9 H10 H11 H12 H13 H14 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    iexact HS3
  iintro ⟨H0, H1, H2, H3, H4, H5, H6, H7, H8, H9, H10, H11, H12, H13, H14, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at a point's slots is the body at that point. -/
theorem defs_row (t : Fin cfg0.N) :
    defs₀ (F := F) .tc cfg0.body (cfg0.bodyArgs t (cfg0.slots t)) = bodyAt0 t := by
  unfold defs₀; rw [Defs.onTc_tc]

/-- The body obligation, the output window forgotten. -/
theorem body_obligation (c : Dev nD) :
    BodyObligation (dats (F := F) m 0 c) (defs₀ (F := F)) Variants.none () Set.univ forgets := fun t => by
  rw [bigSep_W0, bigSep_W0, defs_row]
  exact triple_restated (sound_body m c t) rfl .rfl fun _ => .rfl

set_option backward.isDefEq.respectTransparency.types false in
/-- The launch: the inputs' arrays and the other buffers as the region found them, the counters at zero. -/
theorem run_main : θ_run defs (onTc (τ := τ) (main (F := F))) (s₀ m ρ) (fun r =>
    (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩)
    (run_main m ρ)

end Cert.LruIdeal.Hand

end
-- ==== Proof.MlstmIdealFrame.lean ====
/-
  The frame of the idealized matrix-memory call (`MlstmIdeal`): every argument array ends as it was launched and every semaphore
  counter is back at zero.

  The body is run once at symbolic staging memrefs (`body_run`): the inputs come back as they were, the output block
  and the scratch buffers come back at some contents, which this module does not name. The launch is the library's,
  with the output window forgotten.
-/
module

public import proofs.«01_k».proof.Proof.Gen.MlstmIdeal.Skeleton
public import proofs.«01_k».proof.Proof.Gen.MlstmIdeal.Loops
public import proofs.«01_k».proof.Proof.Gen.MlstmIdeal.Frame

@[expose] public section

set_option maxRecDepth 16384

noncomputable section

namespace Cert.MlstmIdeal.Hand

open Cert.MlstmIdeal Cert.MlstmIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref of a core held whole at some contents. -/
abbrev some_owns (c : Dev nD) {S : Shape} {e : EltTy} (M : Memref sig .tc .vmem S e) : sProp 𝕄 :=
  iprop(∃ d, owns (c : Thread nD τ) M fullShare d)

/-- The condition of the body's conditional: the second grid coordinate is zero. -/
abbrev fresh (i : grid0.Coords) : Prop :=
  (Scalar.cmpi .ne (Scalar.extui (Scalar.cmpi .eq (BitVec.ofNat 32 (i 1).val) 0#32)) 0#32) = 1#1

section Body

variable (arg2 : Memref sig .tc .vmem S1x256x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x2048 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S4x256x256 .bf16) (harg8 : arg8.IsWhole)
  (arg9 : Memref sig .tc .vmem S4x256x256 .bf16) (harg9 : arg9.IsWhole)
  (arg10 : Memref sig .tc .vmem S4x256x256 .bf16) (harg10 : arg10.IsWhole)
  (arg11 : Memref sig .tc .vmem S4x256x256 .bf16) (harg11 : arg11.IsWhole)
  (arg12 : Memref sig .tc .vmem S1x1024 .f32) (harg12 : arg12.IsWhole)
  (arg13 : Memref sig .tc .vmem S3072x256 .bf16) (harg13 : arg13.IsWhole)
  (arg14 : Memref sig .tc .vmem S1x256 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1024x1024 .bf16) (harg17 : arg17.IsWhole)
  (arg18 : Memref sig .tc .vmem S1x1024 .f32) (harg18 : arg18.IsWhole)
  (arg19 : Memref sig .tc .vmem S1024x1024 .bf16) (harg19 : arg19.IsWhole)
  (arg20 : Memref sig .tc .vmem S1x256x1024 .f32) (harg20 : arg20.IsWhole)
  (arg21 : Memref sig .tc .vmem S264x1024 .f32) (harg21 : arg21.IsWhole)
  (arg22 : Memref sig .tc .vmem S256x1024 .f32) (harg22 : arg22.IsWhole)
  (arg23 : Memref sig .tc .vmem S256x1024 .bf16) (harg23 : arg23.IsWhole)
  (arg24 : Memref sig .tc .vmem S256x1024 .bf16) (harg24 : arg24.IsWhole)
  (arg25 : Memref sig .tc .vmem S256x1024 .bf16) (harg25 : arg25.IsWhole)
  (arg26 : Memref sig .tc .vmem S256x1024 .bf16) (harg26 : arg26.IsWhole)
  (arg27 : Memref sig .tc .vmem S256x1024 .f32) (harg27 : arg27.IsWhole)
  (arg28 : Memref sig .tc .vmem S256x256 .f32) (harg28 : arg28.IsWhole)
  (arg29 : Memref sig .tc .vmem S4x256x384 .f32) (harg29 : arg29.IsWhole)
  (arg30 : Memref sig .tc .vmem S4x8x128 .f32) (harg30 : arg30.IsWhole)

/-- What the body is handed and hands back: the inputs at their contents, the output block and the scratch at some. -/
abbrev Held (c : Dev nD) (x0 : Vec F S1x256x1024 .f32) (x1 : Vec F S1x1024 .f32) (x2 : Vec F S1024x2048 .bf16) (x3 : Vec F S1x2048 .f32) (x4 : Vec F S4x1024 .f32) (x5 : Vec F S1x1024 .f32) (x6 : Vec F S4x256x256 .bf16) (x7 : Vec F S4x256x256 .bf16) (x8 : Vec F S4x256x256 .bf16) (x9 : Vec F S4x256x256 .bf16) (x10 : Vec F S1x1024 .f32) (x11 : Vec F S3072x256 .bf16) (x12 : Vec F S1x256 .f32) (x13 : Vec F S1x1024 .f32) (x14 : Vec F S1x1024 .f32) (x15 : Vec F S1024x1024 .bf16) (x16 : Vec F S1x1024 .f32) (x17 : Vec F S1024x1024 .bf16) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare x7
    ∗ owns (c : Thread nD τ) arg10 fullShare x8
    ∗ owns (c : Thread nD τ) arg11 fullShare x9
    ∗ owns (c : Thread nD τ) arg12 fullShare x10
    ∗ owns (c : Thread nD τ) arg13 fullShare x11
    ∗ owns (c : Thread nD τ) arg14 fullShare x12
    ∗ owns (c : Thread nD τ) arg15 fullShare x13
    ∗ owns (c : Thread nD τ) arg16 fullShare x14
    ∗ owns (c : Thread nD τ) arg17 fullShare x15
    ∗ owns (c : Thread nD τ) arg18 fullShare x16
    ∗ owns (c : Thread nD τ) arg19 fullShare x17
    ∗ some_owns c arg20
    ∗ some_owns c arg21
    ∗ some_owns c arg22
    ∗ some_owns c arg23
    ∗ some_owns c arg24
    ∗ some_owns c arg25
    ∗ some_owns c arg26
    ∗ some_owns c arg27
    ∗ some_owns c arg28
    ∗ some_owns c arg29
    ∗ some_owns c arg30)

set_option maxHeartbeats 4000000 in
/-- One point of the grid: the body runs to its return from what it is handed, and hands the same back. -/
theorem body_run (c : Dev nD) (i : grid0.Coords)
    (x0 : Vec F S1x256x1024 .f32) (x1 : Vec F S1x1024 .f32) (x2 : Vec F S1024x2048 .bf16) (x3 : Vec F S1x2048 .f32) (x4 : Vec F S4x1024 .f32) (x5 : Vec F S1x1024 .f32) (x6 : Vec F S4x256x256 .bf16) (x7 : Vec F S4x256x256 .bf16) (x8 : Vec F S4x256x256 .bf16) (x9 : Vec F S4x256x256 .bf16) (x10 : Vec F S1x1024 .f32) (x11 : Vec F S3072x256 .bf16) (x12 : Vec F S1x256 .f32) (x13 : Vec F S1x1024 .f32) (x14 : Vec F S1x1024 .f32) (x15 : Vec F S1024x1024 .bf16) (x16 : Vec F S1x1024 .f32) (x17 : Vec F S1024x1024 .bf16)
    (K : PUnit → sProp 𝕄) :
    iprop(Held arg2 arg3 arg4 arg5 arg6 arg7 arg8 arg9 arg10 arg11 arg12 arg13 arg14 arg15 arg16 arg17 arg18 arg19 arg20 arg21 arg22 arg23 arg24 arg25 arg26 arg27 arg28 arg29 arg30 c x0 x1 x2 x3 x4 x5 x6 x7 x8 x9 x10 x11 x12 x13 x14 x15 x16 x17
        ∗ (Held arg2 arg3 arg4 arg5 arg6 arg7 arg8 arg9 arg10 arg11 arg12 arg13 arg14 arg15 arg16 arg17 arg18 arg19 arg20 arg21 arg22 arg23 arg24 arg25 arg26 arg27 arg28 arg29 arg30 c x0 x1 x2 x3 x4 x5 x6 x7 x8 x9 x10 x11 x12 x13 x14 x15 x16 x17 -∗ K ⟨⟩))
      ⊢ wp frame (wpE (defs₀ (F := F)) Variants.none c none) Set.univ (cc0_branch_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_branch_mlstm_eq_skeleton]; unfold cc0_branch_mlstm_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold Held some_owns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
  by_cases hc : fresh i
  · sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    iexists _, _; isplitr; swap; · iexact H28
    ipureintro; rfl
  · sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    iexists _, _; isplitr; swap; · iexact H28
    ipureintro; rfl

end Body

variable (m : (ℓ : Loc nD τ sig) → Buf (Elt F) ℓ) (ρ : Dev nD → PrngReg)

/-- The class invariant, with the scratch buffers as memrefs held at some contents. -/
theorem PhiA_eq (c : Dev nD) :
    (Pipeline.ΦA spec0 c : sProp 𝕄)
      = iprop((some_owns c (Memref.whole cc0_scratch0) ∗ some_owns c (Memref.whole cc0_scratch1) ∗ some_owns c (Memref.whole cc0_scratch2) ∗ some_owns c (Memref.whole cc0_scratch3) ∗ some_owns c (Memref.whole cc0_scratch4) ∗ some_owns c (Memref.whole cc0_scratch5) ∗ some_owns c (Memref.whole cc0_scratch6) ∗ some_owns c (Memref.whole cc0_scratch7) ∗ some_owns c (Memref.whole cc0_scratch8) ∗ some_owns c (Memref.whole cc0_scratch9))
          ∗ (∃ r, prngReg c r)) := by
  unfold Pipeline.ΦA some_owns; rw [scopedRest0_eq]; simp only [owns_whole]; try rfl

/-- The output window is forgotten. -/
def forgets : Fin 19 → Bool := fun w => w.val == 18

/-- The proof data: the arrays as the region finds them, each input's block left in place, the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨n + 19, h⟩ => absurd (show n + 19 < 19 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ (∃ d, owns (c : Thread nD τ) (win0_18.stage (cfg0.slots t 18)) fullShare d))

set_option maxHeartbeats 1600000 in
/-- The body at any point, from the run at symbolic memrefs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17]
  rw [show (dats m 0 c).Φ t.castSucc = Pipeline.ΦA spec0 c from rfl, PhiA_eq]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18⟩
  iapply (body_run _ _ _ _ _ _ _ _ _ _ _ _ _ _ _ _ _ _ _ _ _ _ _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  unfold Held
  isplitl [H0 H1 H2 H3 H4 H5 H6 H7 H8 H9 H10 H11 H12 H13 H14 H15 H16 H17 H18 HS0 HS1 HS2 HS3 HS4 HS5 HS6 HS7 HS8 HS9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iexact HS9
  iintro ⟨H0, H1, H2, H3, H4, H5, H6, H7, H8, H9, H10, H11, H12, H13, H14, H15, H16, H17, H18, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at a point's slots is the body at that point. -/
theorem defs_row (t : Fin cfg0.N) :
    defs₀ (F := F) .tc cfg0.body (cfg0.bodyArgs t (cfg0.slots t)) = bodyAt0 t := by
  unfold defs₀; rw [Defs.onTc_tc]

/-- The body obligation, the output window forgotten. -/
theorem body_obligation (c : Dev nD) :
    BodyObligation (dats (F := F) m 0 c) (defs₀ (F := F)) Variants.none () Set.univ forgets := fun t => by
  rw [bigSep_W0, bigSep_W0, defs_row]
  exact triple_restated (sound_body m c t) rfl .rfl fun _ => .rfl

set_option backward.isDefEq.respectTransparency.types false in
/-- The launch: the inputs' arrays and the other buffers as the region found them, the counters at zero. -/
theorem run_main : θ_run defs (onTc (τ := τ) (main (F := F))) (s₀ m ρ) (fun r =>
    (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c)⟩, h.2⟩)
    (run_main m ρ)

end Cert.MlstmIdeal.Hand

end
-- ==== Proof.LruClaims.lean ====
/- The recurrence's reference runs to the end and leaves its arguments alone: the last part of its generated run. -/
module

public import proofs.«01_k».proof.Defs
public import proofs.«01_k».proof.Proof.Gen.LruRefIdeal.Run
public import Idealize.ShloMosaic.Lib.Quiescent

@[expose] public section

noncomputable section

open Idealize.ShloMosaic Idealize.ShloMosaic.TcCoe Idealize.SL.Sem

namespace Cert.Proof

theorem lruRef_frame : Cert.quiescent_LruRefIdeal (hLruRefIdeal := Cert.LruRefIdeal.Gen.facts) := fun m ρ _ =>
  (θ_run Cert.LruRefIdeal.defs _ _).mono (fun r h => ⟨fun c => (h c).2, sem_eq_zero_of_no_sems (by decide) r.2⟩)
    (Cert.LruRefIdeal.Value.run (F := Ideal) m ρ)

end Cert.Proof

end
-- ==== Proof.Layer.Reals.lean ====
/- The arithmetic of the ideal elements (extended reals) that the value proofs of this directory need: which
   operations keep an element a real number, the two spellings of the logistic gate, and the two spellings of a
   softmax weight. Nothing here mentions a program. -/
module

public import Idealize.ShloMosaic.Lib.Pointwise
public import Idealize.ShloMosaic.Lib.IdealHost

@[expose] public section

noncomputable section

open Idealize.ShloMosaic

namespace Cert.Layer

open scoped BigOperators

/-! ## The operations at a real number and at the infinities -/

theorem exp_bot : Ideal.exp ⊥ = 0 := rfl
theorem exp_top : Ideal.exp ⊤ = ⊤ := rfl
theorem exp_coe (r : ℝ) : Ideal.exp (r : EReal) = (Real.exp r : EReal) := rfl
theorem tanh_bot : Ideal.tanh ⊥ = -1 := rfl
theorem tanh_top : Ideal.tanh ⊤ = 1 := rfl
theorem tanh_coe (r : ℝ) : Ideal.tanh (r : EReal) = (Real.tanh r : EReal) := rfl
theorem rsqrt_coe (r : ℝ) :
    Ideal.rsqrt (r : EReal) = if r < 0 then ⊥ else if r = 0 then ⊤ else (((Real.sqrt r)⁻¹ : ℝ) : EReal) := rfl

/-! ## Elements that are real numbers -/

/-- The element is a real number: neither of the two infinities. -/
def IsReal (x : EReal) : Prop := ∃ r : ℝ, x = (r : EReal)

theorem IsReal.coe (r : ℝ) : IsReal (r : EReal) := ⟨r, rfl⟩

theorem isReal_iff {x : EReal} : IsReal x ↔ x ≠ ⊤ ∧ x ≠ ⊥ := by
  induction x using EReal.rec with
  | bot => simp [IsReal]
  | coe r => simp [IsReal]
  | top => simp [IsReal]

theorem IsReal.add {x y : EReal} (hx : IsReal x) (hy : IsReal y) : IsReal (x + y) := by
  obtain ⟨a, rfl⟩ := hx
  obtain ⟨b, rfl⟩ := hy
  exact ⟨a + b, by norm_cast⟩

theorem IsReal.sub {x y : EReal} (hx : IsReal x) (hy : IsReal y) : IsReal (x - y) := by
  obtain ⟨a, rfl⟩ := hx
  obtain ⟨b, rfl⟩ := hy
  exact ⟨a - b, by norm_cast⟩

theorem IsReal.mul {x y : EReal} (hx : IsReal x) (hy : IsReal y) : IsReal (x * y) := by
  obtain ⟨a, rfl⟩ := hx
  obtain ⟨b, rfl⟩ := hy
  exact ⟨a * b, by norm_cast⟩

theorem IsReal.sum {ι : Type} (s : Finset ι) {f : ι → EReal} (h : ∀ i, IsReal (f i)) : IsReal (∑ i ∈ s, f i) :=
  Finset.sum_induction f IsReal (fun _ _ => IsReal.add) ⟨0, by norm_cast⟩ fun i _ => h i

/-- A sum of real numbers, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The root mean square's reciprocal is a real number: the mean of squares is no less than zero, and a positive
    constant is added to it. -/
theorem IsReal.rsqrt_mean {ι : Type} (s : Finset ι) {f : ι → EReal} (h : ∀ i, IsReal (f i)) {n e : ℝ} (hn : 0 < n)
    (he : 0 < e) : IsReal (Ideal.rsqrt (Ideal.div (∑ i ∈ s, f i * f i) (n : EReal) + (e : EReal))) := by
  choose g hg using h
  have hs : (∑ i ∈ s, f i * f i) = ((∑ i ∈ s, g i * g i : ℝ) : EReal) := by
    rw [coe_sum]
    exact Finset.sum_congr rfl fun i _ => by rw [hg i, EReal.coe_mul]
  have hpos : 0 < (∑ i ∈ s, g i * g i) * n⁻¹ + e :=
    add_pos_of_nonneg_of_pos (mul_nonneg (Finset.sum_nonneg fun i _ => mul_self_nonneg _) (inv_nonneg.2 hn.le)) he
  have hn' : ((n : ℝ) : EReal) ≠ 0 := by exact_mod_cast hn.ne'
  rw [hs, Ideal.div, if_neg hn', ← EReal.coe_inv, ← EReal.coe_mul, ← EReal.coe_add]
  rw [rsqrt_coe, if_neg hpos.not_gt, if_neg hpos.ne']
  exact ⟨_, rfl⟩

/-! ## The logistic gate -/

theorem half_word : Ideal.ofBits .f32 1056964608#32 = ((1 / 2 : ℝ) : EReal) := by
  simp [Ideal.ofBits, Ideal.ieee, -EReal.coe_mul]; norm_num

theorem count_word : Ideal.ofBits .f32 1149239296#32 = ((1024 : ℝ) : EReal) := by
  simp [Ideal.ofBits, Ideal.ieee, -EReal.coe_mul]; norm_num

theorem eps_word : ∃ e : ℝ, 0 < e ∧ Ideal.ofBits .f32 897988541#32 = (e : EReal) := by
  refine ⟨_, ?_, by simp [Ideal.ofBits, Ideal.ieee, -EReal.coe_mul]; rfl⟩
  positivity

theorem scale_word : Ideal.ofBits .f32 1031798784#32 = ((1 / 16 : ℝ) : EReal) := by
  simp [Ideal.ofBits, Ideal.ieee, -EReal.coe_mul]; norm_num

theorem bot_word : Ideal.ofBits .f32 4286578688#32 = (⊥ : EReal) := by
  simp [Ideal.ofBits, Ideal.ieee, -EReal.coe_mul]

/-- Half the hyperbolic tangent of half the argument, plus a half, is the logistic function. -/
theorem gate_real (r : ℝ) : 1 / 2 * Real.tanh (1 / 2 * r) + 1 / 2 = 1 / (1 + Real.exp (-r)) := by
  obtain ⟨q, rfl⟩ : ∃ q, r = 2 * q := ⟨r / 2, by ring⟩
  have h : Real.exp (-(2 * q)) = Real.exp (-q) * Real.exp (-q) := by rw [← Real.exp_add]; ring_nf
  have h1 : Real.exp q * Real.exp (-q) = 1 := by rw [← Real.exp_add]; simp
  rw [show 1 / 2 * (2 * q) = q by ring, Real.tanh_eq, h]
  have ha := Real.exp_pos q
  have hb := Real.exp_pos (-q)
  generalize Real.exp q = a at *
  generalize Real.exp (-q) = b at *
  have hc : 0 < 1 + b * b := by positivity
  rw [eq_div_iff hc.ne']
  have hd : 0 < a + b := by positivity
  field_simp
  linear_combination 2 * b * h1

/-- The same of the ideal operations, at every extended real. -/
theorem gate_eq (x : EReal) :
    Ideal.ofBits .f32 1056964608#32 * Ideal.tanh (Ideal.ofBits .f32 1056964608#32 * x) + Ideal.ofBits .f32 1056964608#32
      = Ideal.div 1 (1 + Ideal.exp (-x)) := by
  rw [half_word]
  induction x using EReal.rec with
  | bot =>
    rw [EReal.coe_mul_bot_of_pos (by norm_num)]
    have h : ((1 / 2 : ℝ) : EReal) * -1 + ((1 / 2 : ℝ) : EReal) = 0 := by
      rw [show (-1 : EReal) = ((-1 : ℝ) : EReal) by rw [EReal.coe_neg, EReal.coe_one], ← EReal.coe_mul, ← EReal.coe_add]
      norm_num
    have h1 : (1 : EReal) + ⊤ = ⊤ := EReal.add_top_of_ne_bot (by decide)
    rw [tanh_bot, EReal.neg_bot, exp_top, h, h1, Ideal.div]
    simp
  | top =>
    rw [EReal.coe_mul_top_of_pos (by norm_num)]
    have h : ((1 / 2 : ℝ) : EReal) * 1 + ((1 / 2 : ℝ) : EReal) = 1 := by
      rw [mul_one, ← EReal.coe_add]
      norm_num
    rw [tanh_top, EReal.neg_top, exp_bot, h, Ideal.div]
    simp
  | coe r =>
    rw [← EReal.coe_mul, ← EReal.coe_neg]
    have h0 : (0 : ℝ) < 1 + Real.exp (-r) := by positivity
    have h1 : (1 : EReal) + ((Real.exp (-r) : ℝ) : EReal) = ((1 + Real.exp (-r) : ℝ) : EReal) := by norm_cast
    have h2 : ((1 + Real.exp (-r) : ℝ) : EReal) ≠ 0 := by exact_mod_cast h0.ne'
    rw [tanh_coe, exp_coe, h1, Ideal.div, if_neg h2, one_mul, ← EReal.coe_inv, ← EReal.coe_mul, ← EReal.coe_add, gate_real, one_div]

/-! ## The softmax weight -/

theorem exp_nonneg (x : EReal) : 0 ≤ Ideal.exp x := by
  induction x using EReal.rec with
  | bot => rw [exp_bot]
  | coe r => rw [exp_coe]; exact_mod_cast (Real.exp_pos r).le
  | top => rw [exp_top]; exact le_top

/-- A weight of a softmax over real scores is the same as the exponential times the reciprocal of the sum and as the
    exponential divided by the sum: the greatest score's exponential is one, so the sum is not zero. -/
theorem softmax_weight {n : ℕ} [NeZero n] (s : Fin n → EReal) (hs : ∀ t, IsReal (s t)) (t : Fin n) :
    Ideal.exp (s t - Finset.fold max ⊥ s Finset.univ)
        * Ideal.div 1 (∑ u, Ideal.exp (s u - Finset.fold max ⊥ s Finset.univ))
      = Ideal.div (Ideal.exp (s t - Finset.fold max ⊥ s Finset.univ))
          (∑ u, Ideal.exp (s u - Finset.fold max ⊥ s Finset.univ)) := by
  obtain ⟨v, -, hv⟩ := Finset.exists_mem_eq_sup Finset.univ ⟨(0 : Fin n), Finset.mem_univ _⟩ s
  have hM : Finset.fold max ⊥ s Finset.univ = s v := hv
  apply Ideal.mul_one_div
  have h1 : Ideal.exp (s v - Finset.fold max ⊥ s Finset.univ) = 1 := by
    rw [hM]
    obtain ⟨r, hr⟩ := hs v
    rw [hr, ← EReal.coe_sub, sub_self, exp_coe, Real.exp_zero, EReal.coe_one]
  have h2 : (1 : EReal) ≤ ∑ u, Ideal.exp (s u - Finset.fold max ⊥ s Finset.univ) := by
    rw [← h1]
    exact Finset.single_le_sum (f := fun u => Ideal.exp (s u - Finset.fold max ⊥ s Finset.univ))
      (fun u _ => exp_nonneg _) (Finset.mem_univ v)
  intro h
  rw [h] at h2
  exact absurd h2 (by simp)

end Cert.Layer
-- ==== Proof.Layer.Rows.lean ====
/- The layer's arithmetic on one token's row, as functions of plain families of extended reals: the normalised row, a
   linear projection, the scores of one attention head, its weights, and the gated projection that a branch adds. The
   value proofs read both the kernels and the references down to these. -/
module

public import proofs.«01_k».proof.Proof.Layer.Reals

@[expose] public section

noncomputable section

open Idealize.ShloMosaic

namespace Cert.Layer

open scoped BigOperators

/-- A row divided by its root mean square (with the small constant) and scaled by `g`. -/
def normRow (x g : Fin 1024 → EReal) (k : Fin 1024) : EReal :=
  x k * Ideal.rsqrt (Ideal.div (∑ j, x j * x j) (Ideal.ofBits .f32 1149239296#32) + Ideal.ofBits .f32 897988541#32)
    * g k

/-- The logistic function. -/
def sigm (x : EReal) : EReal := Ideal.div 1 (1 + Ideal.exp (-x))

/-- One query's scaled scores against the memory's keys. -/
def score (q : Fin 256 → EReal) (key : Fin 256 → Fin 256 → EReal) (t : Fin 256) : EReal :=
  (∑ d, q d * key t d) * Ideal.ofBits .f32 1031798784#32

/-- The unnormalised softmax weight: the exponential of a score less the greatest score. -/
def expo (s : Fin 256 → EReal) (t : Fin 256) : EReal := Ideal.exp (s t - Finset.fold max ⊥ s Finset.univ)

/-- The softmax weight. -/
def weight (s : Fin 256 → EReal) (t : Fin 256) : EReal := Ideal.div (expo s t) (∑ u, expo s u)

/-- Feature `c` of head `c / 256`: the features of that head, by number. -/
def feat (c : Fin 1024) (d : Fin 256) : Fin 1024 := ⟨c.val / 256 * 256 + d.val, by omega⟩

/-- Column `c` of the keys' half of a row of keys and values. -/
def keyCol (c : Fin 1024) : Fin 2048 := ⟨c.val, by omega⟩

/-- Column `c` of the values' half. -/
def valCol (c : Fin 1024) : Fin 2048 := ⟨1024 + c.val, by omega⟩

/-- The scores that feature `c`'s head gives. -/
def headScore (q : Fin 1024 → EReal) (kv : Fin 256 → Fin 2048 → EReal) (c : Fin 1024) : Fin 256 → EReal :=
  score (fun d => q (feat c d)) fun t d => kv t (keyCol (feat c d))

/-- Feature `c` of what the heads read from the memory. -/
def attend (q : Fin 1024 → EReal) (kv : Fin 256 → Fin 2048 → EReal) (c : Fin 1024) : EReal :=
  ∑ t, weight (headScore q kv c) t * kv t (valCol c)

/-- The attention branch's contribution: the heads' features gated by `z`, projected by `w` and gated by `gl`. -/
def attnRow (q z gl : Fin 1024 → EReal) (kv : Fin 256 → Fin 2048 → EReal) (w : Fin 1024 → Fin 1024 → EReal)
    (j : Fin 1024) : EReal :=
  sigm (gl j) * ∑ c, attend q kv c * (z c * sigm (z c)) * w c j

/-! ## Rows of real numbers -/

theorem normRow_real {x g : Fin 1024 → EReal} (hx : ∀ k, IsReal (x k)) (hg : ∀ k, IsReal (g k)) (k : Fin 1024) :
    IsReal (normRow x g k) := by
  obtain ⟨e, he, hw⟩ := eps_word
  unfold normRow
  rw [count_word, hw]
  exact ((hx k).mul (IsReal.rsqrt_mean _ hx (by norm_num) he)).mul (hg k)

theorem headScore_real {q : Fin 1024 → EReal} {kv : Fin 256 → Fin 2048 → EReal} (hq : ∀ k, IsReal (q k))
    (hk : ∀ t c, IsReal (kv t c)) (c : Fin 1024) (t : Fin 256) : IsReal (headScore q kv c t) := by
  unfold headScore score
  rw [scale_word]
  exact (IsReal.sum _ fun d => (hq _).mul (hk _ _)).mul (IsReal.coe _)

/-- A head's features with the weights written as a product with a reciprocal. -/
theorem attend_eq {q : Fin 1024 → EReal} {kv : Fin 256 → Fin 2048 → EReal} (hq : ∀ k, IsReal (q k))
    (hk : ∀ t c, IsReal (kv t c)) (c : Fin 1024) :
    (∑ t, expo (headScore q kv c) t * Ideal.div 1 (∑ u, expo (headScore q kv c) u) * kv t (valCol c))
      = attend q kv c :=
  Finset.sum_congr rfl fun t _ =>
    congrArg (· * kv t (valCol c)) (softmax_weight _ (headScore_real hq hk c) t)

end Cert.Layer
-- ==== Proof.Layer.Scan.lean ====
/- The gated linear recurrence on extended reals, without a program: the recurrence itself, its decay and input
   scale in the reference's spelling and in the kernel's, and the doubling scan of a group of eight tokens. -/
module

public import proofs.«01_k».proof.Proof.Layer.Rows

@[expose] public section

noncomputable section

open Idealize.ShloMosaic

namespace Cert.Layer

/-! ## The recurrence and its composition -/

/-- The state after `n` tokens, each token `t` taking `h` to `b t + a t * h`, from zero. -/
def recur (a b : ℕ → EReal) : ℕ → EReal
  | 0 => 0
  | n + 1 => b n + a n * recur a b n

/-- A factor that distributes over every sum: no less than zero, and not infinite. -/
def Tame (a : EReal) : Prop := 0 ≤ a ∧ a ≠ ⊤

theorem Tame.mul {x y : EReal} (hx : Tame x) (hy : Tame y) : Tame (x * y) := by
  refine ⟨mul_nonneg hx.1 hy.1, ?_⟩
  obtain ⟨r, rfl⟩ := isReal_iff.2 ⟨hx.2, fun h => by simpa [h] using hx.1⟩
  obtain ⟨s, rfl⟩ := isReal_iff.2 ⟨hy.2, fun h => by simpa [h] using hy.1⟩
  exact (isReal_iff.1 ((IsReal.coe r).mul (IsReal.coe s))).1

/-- Two tokens taken as one. -/
theorem step_comp {a2 : EReal} (h2 : Tame a2) (a1 b1 b2 h : EReal) :
    b2 + a2 * b1 + a2 * a1 * h = b2 + a2 * (b1 + a1 * h) := by
  rw [EReal.left_distrib_of_nonneg_of_ne_top h2.1 h2.2, add_assoc, mul_assoc]

/-! ## The doubling scan of eight tokens -/

/-- Each of eight values moved down by `k` places, with `e` moved in. -/
def shiftRow (k : ℕ) (e : EReal) (x : Fin 8 → EReal) (r : Fin 8) : EReal :=
  if k ≤ r.val then x ⟨r.val - k, by omega⟩ else e

/-- One doubling: the offsets. -/
def stepB (k : ℕ) (a b : Fin 8 → EReal) (r : Fin 8) : EReal := b r + a r * shiftRow k 0 b r

/-- One doubling: the factors. -/
def stepA (k : ℕ) (a : Fin 8 → EReal) (r : Fin 8) : EReal := a r * shiftRow k 1 a r

/-- Eight tokens' states from the state `h` before them, by three doublings. -/
def groupRow (a b : Fin 8 → EReal) (h : EReal) (r : Fin 8) : EReal :=
  stepB 4 (stepA 2 (stepA 1 a)) (stepB 2 (stepA 1 a) (stepB 1 a b)) r
    + stepA 4 (stepA 2 (stepA 1 a)) r * h

/-- One doubling composes each token's step with the step `k` places above. -/
theorem step_at {k : ℕ} {a : Fin 8 → EReal} (ha : ∀ r, Tame (a r)) (b : Fin 8 → EReal) (r : Fin 8) (h : EReal) :
    stepB k a b r + stepA k a r * h
      = b r + a r * (if hk : k ≤ r.val then b ⟨r.val - k, by omega⟩ + a ⟨r.val - k, by omega⟩ * h else h) := by
  unfold stepB stepA shiftRow
  split
  · exact step_comp (ha r) _ _ _ _
  · rw [mul_zero, add_zero, mul_one]

theorem stepA_tame {k : ℕ} {a : Fin 8 → EReal} (ha : ∀ r, Tame (a r)) (r : Fin 8) : Tame (stepA k a r) := by
  unfold stepA shiftRow
  split
  · exact (ha r).mul (ha _)
  · rw [mul_one]; exact ha r

/-- The three doublings give the recurrence's next eight states. -/
theorem groupRow_eq {a b : ℕ → EReal} (n : ℕ) (ha : ∀ r : Fin 8, Tame (a (n + r.val))) (r : Fin 8) :
    groupRow (fun r => a (n + r.val)) (fun r => b (n + r.val)) (recur a b n) r = recur a b (n + r.val + 1) := by
  unfold groupRow
  have h1 := stepA_tame (k := 1) ha
  have h2 := stepA_tame (k := 2) h1
  rw [step_at h2]
  fin_cases r <;> simp [step_at h1, step_at ha, recur]

/-! ## The decay and the input scale -/

/-- The logarithm of the logistic function. -/
def logSigm (x : EReal) : EReal := -(max (-x) 0 + Ideal.log1p (Ideal.exp (-max x (-x))))

theorem log1p_exp_coe (r : ℝ) :
    Ideal.log1p (Ideal.exp (r : EReal)) = ((Real.log (1 + Real.exp r) : ℝ) : EReal) := by
  have h : 0 < 1 + Real.exp r := by positivity
  rw [exp_coe, Ideal.log1p, ← EReal.coe_one, ← EReal.coe_add]
  show (if 1 + Real.exp r ≤ 0 then _ else _) = _
  rw [if_neg h.not_ge]

theorem log1p_exp_nonneg {x : EReal} (hx : x ≠ ⊤) : 0 ≤ Ideal.log1p (Ideal.exp x) ∧ Ideal.log1p (Ideal.exp x) ≠ ⊤ := by
  induction x using EReal.rec with
  | bot =>
    rw [exp_bot, Ideal.log1p, add_zero, ← EReal.coe_one]
    show 0 ≤ (if (1 : ℝ) ≤ 0 then _ else _) ∧ (if (1 : ℝ) ≤ 0 then _ else _) ≠ _
    rw [if_neg (by norm_num), Real.log_one]
    exact ⟨le_rfl, EReal.coe_ne_top _⟩
  | coe r =>
    rw [log1p_exp_coe]
    exact ⟨by exact_mod_cast Real.log_nonneg (by linarith [Real.exp_pos r]), EReal.coe_ne_top _⟩
  | top => exact absurd rfl hx

theorem neg_abs_ne_top (x : EReal) : -max x (-x) ≠ ⊤ := by
  induction x using EReal.rec with
  | bot => simp
  | coe r => rw [← EReal.coe_neg, ← EReal.coe_strictMono.monotone.map_max, ← EReal.coe_neg]; exact EReal.coe_ne_top _
  | top => simp

theorem logSigm_nonpos (x : EReal) : logSigm x ≤ 0 := by
  have h := (log1p_exp_nonneg (neg_abs_ne_top x)).1
  have h2 : (0 : EReal) ≤ max (-x) 0 + Ideal.log1p (Ideal.exp (-max x (-x))) := add_nonneg (le_max_right _ _) h
  unfold logSigm
  exact EReal.neg_le_zero.2 h2

/-- The kernel's spelling of the logistic function's logarithm. -/
theorem logSigm_eq (x : EReal) : min x 0 - Ideal.log1p (Ideal.exp (0 - max x (-x))) = logSigm x := by
  have h := log1p_exp_nonneg (neg_abs_ne_top x)
  unfold logSigm
  rw [zero_sub]
  generalize Ideal.log1p (Ideal.exp (-max x (-x))) = l at h
  have hb : l ≠ ⊥ := fun e => by simpa [e] using h.1
  rw [EReal.neg_add (Or.inr h.2) (Or.inr hb)]
  congr 1
  rcases le_total x 0 with hx | hx
  · rw [min_eq_left hx, max_eq_left (EReal.neg_nonneg.2 hx), neg_neg]
  · rw [min_eq_right hx, max_eq_right (EReal.neg_le_zero.2 hx), neg_zero]

theorem sigm_nonneg (x : EReal) : 0 ≤ sigm x := by
  have h : (0 : EReal) ≤ 1 + Ideal.exp (-x) := add_nonneg zero_le_one (exp_nonneg _)
  unfold sigm Ideal.div
  split
  · simp
  · rw [one_mul]; exact EReal.inv_nonneg_of_nonneg h

theorem eight_word : Ideal.ofBits .f32 1090519040#32 = ((8 : ℝ) : EReal) := by
  simp [Ideal.ofBits, Ideal.ieee, -EReal.coe_mul]; norm_num

theorem two_word : Ideal.ofBits .f32 1073741824#32 = ((2 : ℝ) : EReal) := by
  simp [Ideal.ofBits, Ideal.ieee, -EReal.coe_mul]; norm_num

/-- The logarithm of a token's decay: eight times the recurrence gate times the logistic function's logarithm. -/
def logDecay (r lam : EReal) : EReal := Ideal.ofBits .f32 1090519040#32 * sigm r * logSigm lam

theorem logDecay_nonpos (r lam : EReal) : logDecay r lam ≤ 0 := by
  unfold logDecay
  rw [eight_word]
  exact mul_nonpos_of_nonneg_of_nonpos (mul_nonneg (by exact_mod_cast (by norm_num : (0 : ℝ) ≤ 8)) (sigm_nonneg r))
    (logSigm_nonpos lam)

theorem decay_tame (r lam : EReal) : Tame (Ideal.exp (logDecay r lam)) := by
  refine ⟨exp_nonneg _, ?_⟩
  have h := logDecay_nonpos r lam
  generalize logDecay r lam = g at h
  induction g using EReal.rec with
  | bot => simp [exp_bot]
  | coe r => rw [exp_coe]; exact EReal.coe_ne_top _
  | top => exact absurd h (by simp)

theorem decay_real (r : ℝ) : -Real.tanh r * (1 + Real.exp r * Real.exp r) = -(Real.exp (2 * r) - 1) := by
  have h2 : Real.exp (2 * r) = Real.exp r * Real.exp r := by rw [← Real.exp_add]; ring_nf
  have h1 : Real.exp r * Real.exp (-r) = 1 := by rw [← Real.exp_add]; simp
  rw [Real.tanh_eq, h2]
  have ha := Real.exp_pos r
  have hb := Real.exp_pos (-r)
  generalize Real.exp r = a at *
  generalize Real.exp (-r) = b at *
  have hd : a + b ≠ 0 := by positivity
  rw [neg_mul, div_mul_eq_mul_div, neg_inj, div_eq_iff hd]
  linear_combination (-2 * a) * h1

/-- The two spellings of what is under the input scale's root. -/
theorem scale_eq (g : EReal) :
    (0 - Ideal.tanh g) * (1 + Ideal.exp g * Ideal.exp g)
      = -(Ideal.exp (Ideal.ofBits .f32 1073741824#32 * g) - 1) := by
  rw [two_word, zero_sub]
  induction g using EReal.rec with
  | bot =>
    rw [EReal.coe_mul_bot_of_pos (by norm_num), tanh_bot, exp_bot, neg_neg, mul_zero, add_zero, mul_one, zero_sub, neg_neg]
  | top =>
    rw [EReal.coe_mul_top_of_pos (by norm_num), tanh_top, exp_top, EReal.top_mul_top,
      EReal.add_top_of_ne_bot (by decide), neg_mul, one_mul]
    rfl
  | coe r =>
    rw [← EReal.coe_mul, tanh_coe, exp_coe, exp_coe, ← EReal.coe_one, ← EReal.coe_sub, ← EReal.coe_mul, ← EReal.coe_add,
      ← EReal.coe_neg, ← EReal.coe_neg, ← EReal.coe_mul, decay_real]

end Cert.Layer

end
-- ==== Proof.Layer.Lru.lean ====
/- The gated linear recurrence's branch on one token's row, as functions of plain families: the convolution's four taps,
   the two gates of a head, and what a token's decay and input are. -/
module

public import proofs.«01_k».proof.Proof.Layer.Scan

@[expose] public section

noncomputable section

open Idealize.ShloMosaic

namespace Cert.Layer

open scoped BigOperators

/-- Column `d` of head `h`. -/
def hcol (h : Fin 4) (d : Fin 256) : Fin 1024 := ⟨h.val * 256 + d.val, by omega⟩

theorem exists_hcol (c : Fin 1024) : ∃ (h : Fin 4) (d : Fin 256), c = hcol h d :=
  ⟨⟨c.val / 256, by omega⟩, ⟨c.val % 256, by omega⟩, Fin.ext (by show c.val = c.val / 256 * 256 + c.val % 256; omega)⟩

/-- The convolution at a token: its own row and the three above it, nearest first. -/
def conv4 (w : Fin 4 → EReal) (bias x0 x1 x2 x3 : EReal) : EReal :=
  bias + w 3 * x0 + w 0 * x3 + w 1 * x2 + w 2 * x1

/-- A head's linear map of its own columns. -/
def headLin (u : Fin 1024 → EReal) (w : Fin 4 → Fin 256 → Fin 256 → EReal) (b : Fin 1024 → EReal) (h : Fin 4)
    (d : Fin 256) : EReal := ∑ k, u (hcol h k) * w h k d + b (hcol h d)

/-- The logarithm of a token's decay. -/
def headLog (u : Fin 1024 → EReal) (wa : Fin 4 → Fin 256 → Fin 256 → EReal) (ba lam : Fin 1024 → EReal) (h : Fin 4)
    (d : Fin 256) : EReal := logDecay (headLin u wa ba h d) (lam (hcol h d))

/-- A token's decay. -/
def decayOf (u : Fin 1024 → EReal) (wa : Fin 4 → Fin 256 → Fin 256 → EReal) (ba lam : Fin 1024 → EReal) (h : Fin 4)
    (d : Fin 256) : EReal := Ideal.exp (headLog u wa ba lam h d)

/-- The scale of a token's input, of the logarithm of its decay. -/
def inScale (g : EReal) : EReal := Ideal.sqrt (-(Ideal.exp (Ideal.ofBits .f32 1073741824#32 * g) - 1))

/-- What a token adds to the state. -/
def inputOf (u : Fin 1024 → EReal) (wa : Fin 4 → Fin 256 → Fin 256 → EReal) (ba lam : Fin 1024 → EReal)
    (wx : Fin 4 → Fin 256 → Fin 256 → EReal) (bx : Fin 1024 → EReal) (h : Fin 4) (d : Fin 256) : EReal :=
  inScale (headLog u wa ba lam h d) * sigm (headLin u wx bx h d) * u (hcol h d)

/-- The branch's result on a row: the states `s` gated by `z`, projected, and gated by `gl`. -/
def lruRow (s z gl : Fin 1024 → EReal) (w : Fin 1024 → Fin 1024 → EReal) (j : Fin 1024) : EReal :=
  sigm (gl j) * ∑ c, s c * (z c * sigm (z c)) * w c j

/-- A projection of a row's norm. -/
def projRow (x g : Fin 1024 → EReal) (w : Fin 1024 → Fin 1024 → EReal) (b : Fin 1024 → EReal) (c : Fin 1024) : EReal :=
  ∑ k, normRow x g k * w k c + b c

end Cert.Layer

end
-- ==== Proof.Layer.LruSeq.lean ====
/- The gated linear recurrence's branch over a sequence of tokens: what it computes at token `T`, of plain families. -/
module

public import proofs.«01_k».proof.Proof.Layer.Lru

@[expose] public section

noncomputable section

open Idealize.ShloMosaic

namespace Cert.Layer

open scoped BigOperators

/-- The head of a column, and its place in the head. -/
def headOf (c : Fin 1024) : Fin 4 := ⟨c.val / 256, by omega⟩
def inHead (c : Fin 1024) : Fin 256 := ⟨c.val % 256, by omega⟩

theorem headOf_hcol (h : Fin 4) (d : Fin 256) : headOf (hcol h d) = h :=
  Fin.ext (by show (h.val * 256 + d.val) / 256 = h.val; omega)

theorem inHead_hcol (h : Fin 4) (d : Fin 256) : inHead (hcol h d) = d :=
  Fin.ext (by show (h.val * 256 + d.val) % 256 = d.val; omega)

theorem hcol_split (c : Fin 1024) : hcol (headOf c) (inHead c) = c :=
  Fin.ext (by show c.val / 256 * 256 + c.val % 256 = c.val; omega)

/-- One sequence's tokens and the branch's parameters. -/
structure LruArgs where
  x : ℕ → Fin 1024 → EReal
  g : Fin 1024 → EReal
  wp : Fin 1024 → Fin 1024 → EReal
  bp : Fin 1024 → EReal
  cw : Fin 4 → Fin 1024 → EReal
  cb : Fin 1024 → EReal
  wa : Fin 4 → Fin 256 → Fin 256 → EReal
  ba : Fin 1024 → EReal
  wx : Fin 4 → Fin 256 → Fin 256 → EReal
  bx : Fin 1024 → EReal
  lam : Fin 1024 → EReal
  wz : Fin 1024 → Fin 1024 → EReal
  bz : Fin 1024 → EReal
  wg : Fin 1024 → Fin 1024 → EReal
  bg : Fin 1024 → EReal
  wb : Fin 1024 → Fin 1024 → EReal

namespace LruArgs

variable (A : LruArgs)

/-- A token's projection, and the projection of the token `e` before it, zero before the sequence begins. -/
def px (T : ℕ) (c : Fin 1024) : EReal := projRow (A.x T) A.g A.wp A.bp c
def back (e T : ℕ) (c : Fin 1024) : EReal := if e ≤ T then A.px (T - e) c else 0

/-- The convolution at a token. -/
def u (T : ℕ) (c : Fin 1024) : EReal :=
  conv4 (fun e => A.cw e c) (A.cb c) (A.px T c) (A.back 1 T c) (A.back 2 T c) (A.back 3 T c)

/-- A column's decay and input at a token, and its state before the token. -/
def a (c : Fin 1024) (T : ℕ) : EReal := decayOf (A.u T) A.wa A.ba A.lam (headOf c) (inHead c)
def b (c : Fin 1024) (T : ℕ) : EReal := inputOf (A.u T) A.wa A.ba A.lam A.wx A.bx (headOf c) (inHead c)
def state (c : Fin 1024) (T : ℕ) : EReal := recur (A.a c) (A.b c) T

/-- The branch's contribution at a token. -/
def out (T : ℕ) (j : Fin 1024) : EReal :=
  lruRow (fun c => A.state c (T + 1)) (projRow (A.x T) A.g A.wz A.bz) (projRow (A.x T) A.g A.wg A.bg) A.wb j

theorem a_tame (c : Fin 1024) (T : ℕ) : Tame (A.a c T) := decay_tame _ _

end LruArgs

end Cert.Layer

end
-- ==== Proof.Layer.Index.lean ====
/- Indices of arrays of two and three axes, spelt by their coordinates. -/
module

public import Idealize.ShloMosaic.Lib.Pointwise

@[expose] public section

open Idealize.ShloMosaic

namespace Cert.Layer

theorem exists_ix3 {n0 n1 n2 : ℕ} (i : (⟨3, ![n0, n1, n2]⟩ : Shape).Idx) :
    ∃ (a : Fin n0) (b : Fin n1) (c : Fin n2), i = ix3 a b c :=
  ⟨i 0, i 1, i 2, funext fun a => match a with | ⟨0, _⟩ => rfl | ⟨1, _⟩ => rfl | ⟨2, _⟩ => rfl⟩

theorem exists_ix2 {n0 n1 : ℕ} (i : (⟨2, ![n0, n1]⟩ : Shape).Idx) : ∃ (a : Fin n0) (b : Fin n1), i = ix2 a b :=
  ⟨i 0, i 1, funext fun a => match a with | ⟨0, _⟩ => rfl | ⟨1, _⟩ => rfl⟩

/-- An index of an array with one slab. -/
theorem exists_slab {n1 n2 : ℕ} (i : (⟨3, ![1, n1, n2]⟩ : Shape).Idx) :
    ∃ (b : Fin n1) (c : Fin n2), i = ix3 (0 : Fin 1) b c := by
  obtain ⟨a, b, c, rfl⟩ := exists_ix3 i
  obtain rfl : a = 0 := Subsingleton.elim _ _
  exact ⟨b, c, rfl⟩

/-- An index of an array with one row. -/
theorem exists_line {n1 : ℕ} (i : (⟨2, ![1, n1]⟩ : Shape).Idx) : ∃ b : Fin n1, i = ix2 (0 : Fin 1) b := by
  obtain ⟨a, b, rfl⟩ := exists_ix2 i
  obtain rfl : a = 0 := Subsingleton.elim _ _
  exact ⟨b, rfl⟩

/-- Offsets of the first block are zero. -/
theorem first_zero {f g : Fin 2 → ℕ} (h0 : f 0 = 0) (h1 : f 1 = 0) : (fun a => f a * g a) = fun _ => 0 :=
  funext fun a => match a with
    | ⟨0, _⟩ => by show f 0 * _ = 0; rw [h0, Nat.zero_mul]
    | ⟨1, _⟩ => by show f 1 * _ = 0; rw [h1, Nat.zero_mul]

end Cert.Layer
-- ==== Proof.LruRows.lean ====
/- The values the recurrence kernel's body computes, read at an index as the functions of one row in `Layer.Lru`: each
   lemma reads generated payloads, for operands of any contents. -/
module

public import proofs.«01_k».proof.Proof.Layer.Lru
public import proofs.«01_k».proof.Proof.Layer.Index
public import proofs.«01_k».proof.Proof.Gen.LruIdeal.Skeleton
public import Idealize.ShloMosaic.Lib.Pointwise

@[expose] public section

set_option maxRecDepth 16384

noncomputable section

open Idealize.ShloMosaic Idealize.ShloMosaic.TcCoe Idealize.SL.Sem

namespace Cert.LruIdeal.Rows

open Cert.LruIdeal Cert.LruIdeal.Gen Cert.Layer

open scoped BigOperators

theorem norm_at (a : Vec Ideal S1x256x1024 .f32) (g : Vec Ideal S1x1024 .f32) (r : Fin 256) (k : Fin 1024) :
    k0_pay5 a g (ix2 r k) = normRow (fun k => a (ix3 0 r k)) (fun k => g (ix2 0 k)) k := by
  unfold k0_pay5
  pointwise
  rfl

theorem proj_at (a : Vec Ideal S1x256x1024 .f32) (g : Vec Ideal S1x1024 .f32) (w : Vec Ideal S1024x1024 .bf16)
    (b : Vec Ideal S1x1024 .f32) (r : Fin 256) (c : Fin 1024) :
    k0_pay6 a g w b (ix2 r c)
      = projRow (fun k => a (ix3 0 r k)) (fun k => g (ix2 0 k)) (fun k c => w (ix2 k c)) (fun c => b (ix2 0 c)) c := by
  have h := norm_at a g r
  unfold k0_pay6
  generalize k0_pay5 a g = y at h
  pointwise
  simp only [h]
  rfl

theorem proj_stored (a : Vec Ideal S1x256x1024 .f32) (g : Vec Ideal S1x1024 .f32) (w : Vec Ideal S1024x1024 .bf16)
    (b : Vec Ideal S1x1024 .f32) : k0_pay7 a g w b = k0_pay6 a g w b := by
  unfold k0_pay7
  funext i
  obtain ⟨r, c, rfl⟩ := exists_ix2 i
  generalize k0_pay6 a g w b = y
  pointwise

theorem conv_at (p : FVec Ideal S256x1024 .f32) (cb w3 : Vec Ideal S1x1024 .f32) (p3 : Vec Ideal S256x1024 .f32)
    (w0 : Vec Ideal S1x1024 .f32) (p2 : Vec Ideal S256x1024 .f32) (w1 : Vec Ideal S1x1024 .f32)
    (p1 : Vec Ideal S256x1024 .f32) (w2 : Vec Ideal S1x1024 .f32) (r : Fin 256) (c : Fin 1024) :
    k0_pay10 p (k0_pay8 cb) (k0_pay9 w3) p3 w0 p2 w1 p1 w2 (ix2 r c)
      = conv4 (fun e => ![w0, w1, w2, w3] e (ix2 0 c)) (cb (ix2 0 c)) (p (ix2 r c)) (p1 (ix2 r c)) (p2 (ix2 r c))
          (p3 (ix2 r c)) := by
  unfold k0_pay10 k0_pay8 k0_pay9
  pointwise
  rfl

theorem cast_at (u : FVec Ideal S256x1024 .f32) (p : FVec Ideal S256x1024 .f32) (cb : FVec Ideal S1x1024 .f32)
    (w3 : FVec Ideal S256x1024 .f32) (p3 : Vec Ideal S256x1024 .f32) (w0 : Vec Ideal S1x1024 .f32)
    (p2 : Vec Ideal S256x1024 .f32) (w1 : Vec Ideal S1x1024 .f32) (p1 : Vec Ideal S256x1024 .f32)
    (w2 : Vec Ideal S1x1024 .f32) (hu : k0_pay10 p cb w3 p3 w0 p2 w1 p1 w2 = u) :
    k0_pay12 p cb w3 p3 w0 p2 w1 p1 w2 = u := by
  unfold k0_pay12
  rw [hu]
  funext i
  obtain ⟨r, c, rfl⟩ := exists_ix2 i
  pointwise

theorem logSigm_at (lam : Vec Ideal S1x1024 .f32) (c : Fin 1024) : k0_pay13 lam (ix2 0 c) = logSigm (lam (ix2 0 c)) := by
  rw [← logSigm_eq]
  unfold k0_pay13
  pointwise
  rfl

/-- The logarithm of a decay, of the gate's logit and the logistic function's logarithm at lambda. -/
def lg (z l : EReal) : EReal := Ideal.ofBits .f32 1090519040#32 * sigm z * l

/-- What a token adds, in the kernel's spelling. -/
def inp (g z u : EReal) : EReal := Ideal.sqrt ((0 - Ideal.tanh g) * (1 + Ideal.exp g * Ideal.exp g)) * sigm z * u

/-- A head's linear map read at a row. -/
def lin (x : Fin 256 → EReal) (w : Fin 256 → EReal) (b : EReal) : EReal := ∑ k, x k * w k + b

section Heads

variable (u : FVec Ideal S256x1024 .f32) (l : FVec Ideal S1x1024 .f32) (wa wx : Vec Ideal S1x256x256 .bf16)
  (ba bx : Vec Ideal S1x256 .f32) (r d : Fin 256)

/-- The logarithm of head `h`'s decay at a row, from its own slab of the weights. -/
def logAt (h : Fin 4) : EReal :=
  lg (lin (fun k => u (ix2 r (hcol h k))) (fun k => wa (ix3 0 k d)) (ba (ix2 0 d))) (l (ix2 0 (hcol h d)))

/-- What head `h` adds at a row. -/
def inpAt (h : Fin 4) : EReal :=
  inp (logAt u l wa ba r d h) (lin (fun k => u (ix2 r (hcol h k))) (fun k => wx (ix3 0 k d)) (bx (ix2 0 d)))
    (u (ix2 r (hcol h d)))

theorem hcol_zero : hcol 0 = fun d : Fin 256 => ⟨d.val, by omega⟩ :=
  funext fun d => Fin.ext (by show 0 * 256 + d.val = d.val; omega)

theorem slice0_at (p : FVec Ideal S256x1024 .f32) (cb : FVec Ideal S1x1024 .f32)
    (w3 : FVec Ideal S256x1024 .f32) (p3 : Vec Ideal S256x1024 .f32) (w0 : Vec Ideal S1x1024 .f32)
    (p2 : Vec Ideal S256x1024 .f32) (w1 : Vec Ideal S1x1024 .f32) (p1 : Vec Ideal S256x1024 .f32)
    (w2 : Vec Ideal S1x1024 .f32) (hu : k0_pay10 p cb w3 p3 w0 p2 w1 p1 w2 = u) :
    k0_pay14 p cb w3 p3 w0 p2 w1 p1 w2 (ix2 r d) = u (ix2 r (hcol 0 d)) := by
  unfold k0_pay14
  rw [cast_at u p cb w3 p3 w0 p2 w1 p1 w2 hu, hcol_zero]
  pointwise

theorem log0_at (x : FVec Ideal S256x256 .bf16) (hx : ∀ k, x (ix2 r k) = u (ix2 r (hcol 0 k))) :
    k0_pay16 l x wa ba (ix2 r d) = logAt u l wa ba r d 0 := by
  unfold k0_pay16 logAt
  pointwise
  simp only [gate_eq, hx, hcol_zero]
  rfl

theorem decay0_at (x : FVec Ideal S256x256 .bf16) (hx : ∀ k, x (ix2 r k) = u (ix2 r (hcol 0 k))) :
    k0_pay18 l x wa ba (ix2 r d) = Ideal.exp (logAt u l wa ba r d 0) := by
  rw [← log0_at u l wa ba r d x hx]
  unfold k0_pay18 k0_pay17
  generalize k0_pay16 l x wa ba = y
  pointwise

theorem input0_at (x : FVec Ideal S256x256 .bf16) (hx : ∀ k, x (ix2 r k) = u (ix2 r (hcol 0 k))) :
    k0_pay20 u (k0_pay15 u wx bx) (k0_pay17 l x wa ba) (k0_pay19 l x wa ba) (Scalar.ofBits .f32 0x00000000#32) (ix2 r d)
      = inpAt u l wa wx ba bx r d 0 := by
  unfold inpAt
  rw [← log0_at u l wa ba r d x hx]
  unfold k0_pay20 k0_pay17 k0_pay19 k0_pay15
  generalize k0_pay16 l x wa ba = y
  pointwise
  simp only [gate_eq, hcol_zero]
  rfl

theorem log1_at : k0_pay23 l (k0_pay21 u wa ba) (ix2 r d) = logAt u l wa ba r d 1 := by
  unfold k0_pay23 k0_pay21 logAt
  pointwise
  simp only [gate_eq]
  rfl

theorem decay1_at : k0_pay25 l (k0_pay21 u wa ba) (ix2 r d) = Ideal.exp (logAt u l wa ba r d 1) := by
  rw [← log1_at]
  unfold k0_pay25 k0_pay24
  generalize k0_pay23 l (k0_pay21 u wa ba) = y
  pointwise

theorem input1_at : k0_pay26 u l (k0_pay21 u wa ba) (k0_pay22 u wx bx) (Scalar.ofBits .f32 0x3F000000#32) (ix2 r d)
      = inpAt u l wa wx ba bx r d 1 := by
  unfold inpAt
  rw [← log1_at]
  unfold k0_pay26 k0_pay24 k0_pay22
  generalize k0_pay23 l (k0_pay21 u wa ba) = y
  pointwise
  simp only [gate_eq]
  rfl

theorem log2_at : k0_pay29 l (k0_pay27 u wa ba) k0_pay28 (ix2 r d) = logAt u l wa ba r d 2 := by
  unfold k0_pay29 k0_pay27 k0_pay28 logAt
  pointwise
  simp only [gate_eq]
  rfl

theorem decay2_at : k0_pay31 l (k0_pay27 u wa ba) k0_pay28 (ix2 r d) = Ideal.exp (logAt u l wa ba r d 2) := by
  rw [← log2_at]
  unfold k0_pay31 k0_pay30
  generalize k0_pay29 l (k0_pay27 u wa ba) k0_pay28 = y
  pointwise

theorem input2_at : k0_pay32 u u l (k0_pay27 u wa ba) k0_pay28 wx bx (ix2 r d) = inpAt u l wa wx ba bx r d 2 := by
  unfold inpAt
  rw [← log2_at]
  unfold k0_pay32 k0_pay30
  generalize k0_pay29 l (k0_pay27 u wa ba) k0_pay28 = y
  pointwise
  simp only [gate_eq]
  rfl

theorem log3_at : k0_pay35 l (k0_pay33 u) wa ba (ix2 r d) = logAt u l wa ba r d 3 := by
  unfold k0_pay35 k0_pay33 logAt
  pointwise
  simp only [gate_eq]
  rfl

theorem decay3_at : k0_pay37 l (k0_pay33 u) wa ba (ix2 r d) = Ideal.exp (logAt u l wa ba r d 3) := by
  rw [← log3_at]
  unfold k0_pay37 k0_pay36
  generalize k0_pay35 l (k0_pay33 u) wa ba = y
  pointwise

theorem input3_at : k0_pay39 u (k0_pay34 u wx bx) (k0_pay36 l (k0_pay33 u) wa ba) (k0_pay38 l (k0_pay33 u) wa ba)
      (Scalar.ofBits .f32 0x00000000#32) (ix2 r d) = inpAt u l wa wx ba bx r d 3 := by
  unfold inpAt
  rw [← log3_at]
  unfold k0_pay39 k0_pay36 k0_pay38 k0_pay34
  generalize k0_pay35 l (k0_pay33 u) wa ba = y
  pointwise
  simp only [gate_eq]
  rfl

end Heads

section Scan

theorem scan_at (a b h : Vec Ideal S8x1024 .f32) (r : Fin 8) (c : Fin 1024) (hh : ∀ q, h (ix2 q c) = h (ix2 0 c)) :
    k0_pay2 (iota .tc S8x1024 32 [0] iota_S8x1024_d0_w32) h a b (ix2 r c)
      = groupRow (fun q => a (ix2 q c)) (fun q => b (ix2 q c)) (h (ix2 0 c)) r := by
  unfold k0_pay2
  pointwise
  fin_cases r <;>
    simp [groupRow, stepB, stepA, shiftRow, Scalar.select, IntOp.cmpi, hh] <;> rfl

theorem last_at (h : FVec Ideal S8x1024 .f32) (r : Fin 8) (c : Fin 1024) : k0_pay41 h (ix2 r c) = h (ix2 7 c) := by
  unfold k0_pay41
  pointwise

theorem group_stored (h : FVec Ideal S8x1024 .f32) : k0_pay40 h = h := by
  unfold k0_pay40
  funext i
  obtain ⟨r, c, rfl⟩ := exists_ix2 i
  pointwise

theorem carry_stored (h : Vec Ideal S8x1024 .f32) : k0_pay42 h = h := by
  unfold k0_pay42
  funext i
  obtain ⟨r, c, rfl⟩ := exists_ix2 i
  pointwise

theorem tail_stored (h : Vec Ideal S8x1024 .f32) : k0_pay11 h = h := by
  unfold k0_pay11
  funext i
  obtain ⟨r, c, rfl⟩ := exists_ix2 i
  pointwise

theorem zeroRows_at (r : Fin 8) (c : Fin 1024) : (k0_pay3 (F := Ideal)) (ix2 r c) = 0 := by
  unfold k0_pay3
  pointwise

theorem zeroState_at (r : Fin 8) (c : Fin 1024) : (k0_pay4 (F := Ideal)) (ix2 r c) = 0 := by
  unfold k0_pay4
  pointwise

end Scan

theorem gated_at (p : FVec Ideal S256x1024 .bf16) (w : Vec Ideal S1024x1024 .bf16) (b : Vec Ideal S1x1024 .f32)
    (h : Vec Ideal S256x1024 .f32) (r : Fin 256) (c : Fin 1024) : k0_pay43 p w b h (ix2 r c)
      = h (ix2 r c) * ((∑ k, p (ix2 r k) * w (ix2 k c) + b (ix2 0 c)) * sigm (∑ k, p (ix2 r k) * w (ix2 k c) + b (ix2 0 c))) := by
  unfold k0_pay43
  pointwise
  simp only [gate_eq]
  rfl

theorem out_at (p : FVec Ideal S256x1024 .bf16) (y : FVec Ideal S256x1024 .f32) (wb wg : Vec Ideal S1024x1024 .bf16)
    (bg : Vec Ideal S1x1024 .f32) (r : Fin 256) (j : Fin 1024) : k0_pay1 p y wb wg bg (ix3 0 r j)
      = sigm (∑ k, p (ix2 r k) * wg (ix2 k j) + bg (ix2 0 j)) * ∑ c, y (ix2 r c) * wb (ix2 c j) := by
  unfold k0_pay1
  pointwise
  simp only [gate_eq]
  rfl

end Cert.LruIdeal.Rows

end
-- ==== Proof.LruHeads.lean ====
/- The idealized recurrence call's body from its loads to its output, with the loads named: where they hold a block of a
   sequence, its values are the functions of that sequence in `Layer.LruSeq`. -/
module

public import proofs.«01_k».proof.Proof.Layer.LruSeq
public import proofs.«01_k».proof.Proof.LruRows

@[expose] public section

set_option maxRecDepth 16384

noncomputable section

open Idealize.ShloMosaic Idealize.ShloMosaic.TcCoe Idealize.SL.Sem

namespace Cert.LruIdeal.Block

open Cert.LruIdeal Cert.LruIdeal.Gen Cert.LruIdeal.Rows Cert.Layer

open scoped BigOperators

/-- Four heads' columns stored one after another, read at a row and a column. -/
theorem heads_at (w0 w1 w2 w3 : Vec Ideal S256x256 .f32) (G : Fin 256 → Fin 1024 → EReal)
    (h0 : ∀ r d, w0 (ix2 r d) = G r (hcol 0 d)) (h1 : ∀ r d, w1 (ix2 r d) = G r (hcol 1 d))
    (h2 : ∀ r d, w2 (ix2 r d) = G r (hcol 2 d)) (h3 : ∀ r d, w3 (ix2 r d) = G r (hcol 3 d)) (r : Fin 256) (c : Fin 1024) :
    View.canon (Val := Elt Ideal) (s := S256x1024) (e := .f32)
      [⟨Rect.unit ![0, 768] ![256, 256] inb_S256x1024_S256x256_0_768, w3⟩,
        ⟨Rect.unit ![0, 512] ![256, 256] inb_S256x1024_S256x256_0_512, w2⟩,
        ⟨Rect.unit ![0, 256] ![256, 256] inb_S256x1024_S256x256_0_256, w1⟩,
        ⟨Rect.unit ![0, 0] ![256, 256] inb_S256x1024_S256x256_0_0, w0⟩] (ix2 r c) = G r c := by
  have hp : ∀ (h : Fin 4) (a : ℕ) (inb : ∀ i, (![0, a] : Fin 2 → ℕ) i + (![256, 256] : Fin 2 → ℕ) i ≤ S256x1024.size i)
      (x : (Rect.unit (s := S256x1024) ![0, a] ![256, 256] inb).shape.Idx), a = h.val * 256 →
      ∃ (r' d : Fin 256), x = ix2 r' d
        ∧ (Rect.unit (s := S256x1024) ![0, a] ![256, 256] inb).emb x = ix2 r' (hcol h d) := fun h a inb x ha =>
    ⟨x 0, x 1, funext fun i => match i with | ⟨0, _⟩ => rfl | ⟨1, _⟩ => rfl,
      funext fun i => Fin.ext (match i with
        | ⟨0, _⟩ => show 0 + 1 * (x 0).val = (x 0).val by omega
        | ⟨1, _⟩ => show a + 1 * (x 1).val = h.val * 256 + (x 1).val by omega)⟩
  refine View.canon_apply_of_pieces (Val := Elt Ideal) (S := S256x1024) (e := .f32) (fun y => G (y 0) (y 1)) _ ?_ (ix2 r c) ?_
  · simp only [List.forall_mem_cons, List.not_mem_nil, false_imp_iff, implies_true, and_true]
    refine ⟨fun x => ?_, fun x => ?_, fun x => ?_, fun x => ?_⟩
    · obtain ⟨r', d, rfl, he⟩ := hp 3 768 inb_S256x1024_S256x256_0_768 x rfl; rw [he]; exact h3 r' d
    · obtain ⟨r', d, rfl, he⟩ := hp 2 512 inb_S256x1024_S256x256_0_512 x rfl; rw [he]; exact h2 r' d
    · obtain ⟨r', d, rfl, he⟩ := hp 1 256 inb_S256x1024_S256x256_0_256 x rfl; rw [he]; exact h1 r' d
    · obtain ⟨r', d, rfl, he⟩ := hp 0 0 inb_S256x1024_S256x256_0_0 x rfl; rw [he]; exact h0 r' d
  · have hm : ∀ (a : ℕ) (inb : ∀ i, (![0, a] : Fin 2 → ℕ) i + (![256, 256] : Fin 2 → ℕ) i ≤ S256x1024.size i),
        a ≤ c.val → c.val < a + 256 →
        (ix2 r c : S256x1024.Idx) ∈ (Rect.unit (s := S256x1024) ![0, a] ![256, 256] inb).set := by
      intro a inb h1 h2
      rw [Rect.mem_set_unit]
      intro i
      match i with
      | ⟨0, _⟩ => exact ⟨Nat.zero_le _, by show r.val < 0 + 256; omega⟩
      | ⟨1, _⟩ => exact ⟨h1, h2⟩
    by_cases h3 : 768 ≤ c.val
    · exact ⟨_, List.mem_cons_self, hm 768 inb_S256x1024_S256x256_0_768 h3 (by omega)⟩
    by_cases h2 : 512 ≤ c.val
    · exact ⟨_, List.mem_cons_of_mem _ List.mem_cons_self, hm 512 inb_S256x1024_S256x256_0_512 h2 (by omega)⟩
    by_cases h1 : 256 ≤ c.val
    · exact ⟨_, List.mem_cons_of_mem _ (List.mem_cons_of_mem _ List.mem_cons_self), hm 256 inb_S256x1024_S256x256_0_256 h1 (by omega)⟩
    · exact ⟨_, List.mem_cons_of_mem _ (List.mem_cons_of_mem _ (List.mem_cons_of_mem _ List.mem_cons_self)),
        hm 0 inb_S256x1024_S256x256_0_0 (Nat.zero_le _) (by omega)⟩

section Seq

variable (A : LruArgs) (n : ℕ)

/-- A head's loads hold its own slab of a gate's weights and its own columns of the bias. -/
def HeadLoads (w : Vec Ideal S1x256x256 .bf16) (v : Vec Ideal S1x256 .f32) (W : Fin 4 → Fin 256 → Fin 256 → EReal)
    (V : Fin 1024 → EReal) (h : Fin 4) : Prop :=
  (∀ k d, w (ix3 0 k d) = W h k d) ∧ ∀ d, v (ix2 0 d) = V (hcol h d)

section Gates

variable (U : FVec Ideal S256x1024 .f32) (hU : ∀ r c, U (ix2 r c) = A.u (n + r.val) c)
  (lam : Vec Ideal S1x1024 .f32) (hl : ∀ c, lam (ix2 0 c) = A.lam c)

include hU hl

theorem logAt_eq (wa : Vec Ideal S1x256x256 .bf16) (ba : Vec Ideal S1x256 .f32) (h : Fin 4)
    (ha : HeadLoads wa ba A.wa A.ba h) (r d : Fin 256) :
    logAt U (k0_pay13 lam) wa ba r d h = headLog (A.u (n + r.val)) A.wa A.ba A.lam h d := by
  unfold logAt
  rw [logSigm_at, hl]
  simp only [hU, ha.1, ha.2]
  rfl

theorem decayAt_eq (wa : Vec Ideal S1x256x256 .bf16) (ba : Vec Ideal S1x256 .f32) (h : Fin 4)
    (ha : HeadLoads wa ba A.wa A.ba h) (r d : Fin 256) :
    Ideal.exp (logAt U (k0_pay13 lam) wa ba r d h) = A.a (hcol h d) (n + r.val) := by
  rw [logAt_eq A n U hU lam hl wa ba h ha]
  unfold LruArgs.a
  rw [headOf_hcol, inHead_hcol]
  rfl

theorem inpAt_eq (wa wx : Vec Ideal S1x256x256 .bf16) (ba bx : Vec Ideal S1x256 .f32) (h : Fin 4)
    (ha : HeadLoads wa ba A.wa A.ba h) (hx : HeadLoads wx bx A.wx A.bx h) (r d : Fin 256) :
    inpAt U (k0_pay13 lam) wa wx ba bx r d h = A.b (hcol h d) (n + r.val) := by
  unfold inpAt
  rw [logAt_eq A n U hU lam hl wa ba h ha]
  unfold LruArgs.b inp
  rw [headOf_hcol, inHead_hcol, scale_eq]
  simp only [hU, hx.1, hx.2]
  rfl

variable (U5 : FVec Ideal S256x1024 .bf16) (h5 : U5 = U) (s : FVec Ideal S256x256 .bf16)
  (hs : ∀ r k, s (ix2 r k) = U (ix2 r (hcol 0 k)))
  (wa0 wa1 wa2 wa3 wx0 wx1 wx2 wx3 : Vec Ideal S1x256x256 .bf16) (ba0 ba1 ba2 ba3 bx0 bx1 bx2 bx3 : Vec Ideal S1x256 .f32)
  (a0 : HeadLoads wa0 ba0 A.wa A.ba 0) (a1 : HeadLoads wa1 ba1 A.wa A.ba 1) (a2 : HeadLoads wa2 ba2 A.wa A.ba 2)
  (a3 : HeadLoads wa3 ba3 A.wa A.ba 3)

include h5 hs a0 a1 a2 a3

theorem decays_at (r : Fin 256) (c : Fin 1024) :
    View.canon (Val := Elt Ideal) (s := S256x1024) (e := .f32)
      [⟨Rect.unit ![0, 768] ![256, 256] inb_S256x1024_S256x256_0_768, k0_pay37 (k0_pay13 lam) (k0_pay33 U5) wa3 ba3⟩,
        ⟨Rect.unit ![0, 512] ![256, 256] inb_S256x1024_S256x256_0_512,
          k0_pay31 (k0_pay13 lam) (k0_pay27 U5 wa2 ba2) k0_pay28⟩,
        ⟨Rect.unit ![0, 256] ![256, 256] inb_S256x1024_S256x256_0_256, k0_pay25 (k0_pay13 lam) (k0_pay21 U5 wa1 ba1)⟩,
        ⟨Rect.unit ![0, 0] ![256, 256] inb_S256x1024_S256x256_0_0, k0_pay18 (k0_pay13 lam) s wa0 ba0⟩] (ix2 r c)
      = A.a c (n + r.val) := by
  subst h5
  refine heads_at _ _ _ _ (fun r c => A.a c (n + r.val)) (fun r d => ?_) (fun r d => ?_) (fun r d => ?_) (fun r d => ?_) r c
  · rw [decay0_at U5 _ wa0 ba0 r d s (hs r)]; exact decayAt_eq A n U5 hU lam hl wa0 ba0 0 a0 r d
  · rw [decay1_at]; exact decayAt_eq A n U5 hU lam hl wa1 ba1 1 a1 r d
  · rw [decay2_at]; exact decayAt_eq A n U5 hU lam hl wa2 ba2 2 a2 r d
  · rw [decay3_at]; exact decayAt_eq A n U5 hU lam hl wa3 ba3 3 a3 r d

variable (b0 : HeadLoads wx0 bx0 A.wx A.bx 0) (b1 : HeadLoads wx1 bx1 A.wx A.bx 1) (b2 : HeadLoads wx2 bx2 A.wx A.bx 2)
  (b3 : HeadLoads wx3 bx3 A.wx A.bx 3)

include b0 b1 b2 b3

theorem inputs_at (r : Fin 256) (c : Fin 1024) :
    View.canon (Val := Elt Ideal) (s := S256x1024) (e := .f32)
      [⟨Rect.unit ![0, 768] ![256, 256] inb_S256x1024_S256x256_0_768,
          k0_pay39 U (k0_pay34 U5 wx3 bx3) (k0_pay36 (k0_pay13 lam) (k0_pay33 U5) wa3 ba3)
            (k0_pay38 (k0_pay13 lam) (k0_pay33 U5) wa3 ba3) (Scalar.ofBits .f32 0x00000000#32)⟩,
        ⟨Rect.unit ![0, 512] ![256, 256] inb_S256x1024_S256x256_0_512,
          k0_pay32 U U5 (k0_pay13 lam) (k0_pay27 U5 wa2 ba2) k0_pay28 wx2 bx2⟩,
        ⟨Rect.unit ![0, 256] ![256, 256] inb_S256x1024_S256x256_0_256,
          k0_pay26 U (k0_pay13 lam) (k0_pay21 U5 wa1 ba1) (k0_pay22 U5 wx1 bx1) (Scalar.ofBits .f32 0x3F000000#32)⟩,
        ⟨Rect.unit ![0, 0] ![256, 256] inb_S256x1024_S256x256_0_0,
          k0_pay20 U (k0_pay15 U5 wx0 bx0) (k0_pay17 (k0_pay13 lam) s wa0 ba0) (k0_pay19 (k0_pay13 lam) s wa0 ba0)
            (Scalar.ofBits .f32 0x00000000#32)⟩] (ix2 r c)
      = A.b c (n + r.val) := by
  subst h5
  refine heads_at _ _ _ _ (fun r c => A.b c (n + r.val)) (fun r d => ?_) (fun r d => ?_) (fun r d => ?_) (fun r d => ?_) r c
  · rw [input0_at U5 _ wa0 wx0 ba0 bx0 r d s (hs r)]; exact inpAt_eq A n U5 hU lam hl wa0 wx0 ba0 bx0 0 a0 b0 r d
  · rw [input1_at]; exact inpAt_eq A n U5 hU lam hl wa1 wx1 ba1 bx1 1 a1 b1 r d
  · rw [input2_at]; exact inpAt_eq A n U5 hU lam hl wa2 wx2 ba2 bx2 2 a2 b2 r d
  · rw [input3_at]; exact inpAt_eq A n U5 hU lam hl wa3 wx3 ba3 bx3 3 a3 b3 r d

end Gates

/-- The convolution of a block, where the three shifted loads hold the projections of the tokens before. -/
theorem conv_block (y0 : Vec Ideal S1x256x1024 .f32) (y1 : Vec Ideal S1x1024 .f32) (y2 : Vec Ideal S1024x1024 .bf16)
    (y3 : Vec Ideal S1x1024 .f32) (cb w0 w1 w2 w3 : Vec Ideal S1x1024 .f32) (p3 p2 p1 : Vec Ideal S256x1024 .f32)
    (hx : ∀ r k, y0 (ix3 0 r k) = A.x (n + r.val) k) (hg : ∀ k, y1 (ix2 0 k) = A.g k) (hw : ∀ k c, y2 (ix2 k c) = A.wp k c)
    (hb : ∀ c, y3 (ix2 0 c) = A.bp c) (hcb : ∀ c, cb (ix2 0 c) = A.cb c)
    (hcw : ∀ e c, ![w0, w1, w2, w3] e (ix2 0 c) = A.cw e c)
    (h3 : ∀ r c, p3 (ix2 r c) = A.back 3 (n + r.val) c) (h2 : ∀ r c, p2 (ix2 r c) = A.back 2 (n + r.val) c)
    (h1 : ∀ r c, p1 (ix2 r c) = A.back 1 (n + r.val) c) (r : Fin 256) (c : Fin 1024) :
    k0_pay10 (k0_pay6 y0 y1 y2 y3) (k0_pay8 cb) (k0_pay9 w3) p3 w0 p2 w1 p1 w2 (ix2 r c) = A.u (n + r.val) c := by
  rw [conv_at, proj_at, h3, h2, h1, hcb]
  simp only [hx, hg, hw, hb, hcw]
  rfl

/-- A block's output, where the states are known. -/
theorem out_block (y0 : Vec Ideal S1x256x1024 .f32) (y1 : Vec Ideal S1x1024 .f32) (wz : Vec Ideal S1024x1024 .bf16)
    (bz : Vec Ideal S1x1024 .f32) (h : Vec Ideal S256x1024 .f32) (wb wg : Vec Ideal S1024x1024 .bf16)
    (bg : Vec Ideal S1x1024 .f32)
    (hx : ∀ r k, y0 (ix3 0 r k) = A.x (n + r.val) k) (hg : ∀ k, y1 (ix2 0 k) = A.g k) (hwz : ∀ k c, wz (ix2 k c) = A.wz k c)
    (hbz : ∀ c, bz (ix2 0 c) = A.bz c) (hwg : ∀ k c, wg (ix2 k c) = A.wg k c) (hbg : ∀ c, bg (ix2 0 c) = A.bg c)
    (hwb : ∀ k c, wb (ix2 k c) = A.wb k c) (hh : ∀ r c, h (ix2 r c) = A.state c (n + r.val + 1))
    (r : Fin 256) (j : Fin 1024) :
    k0_pay1 (k0_pay5 y0 y1) (k0_pay43 (k0_pay5 y0 y1) wz bz h) wb wg bg (ix3 0 r j) = A.out (n + r.val) j := by
  rw [out_at]
  simp only [gated_at, norm_at, hx, hg, hwz, hbz, hwg, hbg, hwb, hh]
  rfl

end Seq

end Cert.LruIdeal.Block

end
-- ==== Proof.Layer.LruArrays.lean ====
/- The gated linear recurrence's branch of one sample, of the arrays that the program is called with. -/
module

public import proofs.«01_k».proof.Proof.Layer.LruSeq
public import proofs.«01_k».proof.Proof.Layer.Index

@[expose] public section

noncomputable section

open Idealize.ShloMosaic

namespace Cert.Layer

/-- Sample `b` of the arrays: the norm, the input projection, the convolution, the two gates, the decay's parameter and the
    branch's own projection. The input projection holds the branch's inputs, its gate and the merge's gate at columns
    0, 1024 and 6144. -/
def sample (x0 : (⟨3, ![2, 8192, 1024]⟩ : Shape).Idx → EReal) (x1 : (⟨2, ![1, 1024]⟩ : Shape).Idx → EReal)
    (x2 : (⟨3, ![1, 1024, 9216]⟩ : Shape).Idx → EReal) (x3 : (⟨2, ![1, 9216]⟩ : Shape).Idx → EReal)
    (x4 : (⟨3, ![1, 4, 1024]⟩ : Shape).Idx → EReal) (x5 : (⟨2, ![1, 1024]⟩ : Shape).Idx → EReal)
    (x6 : (⟨4, ![1, 4, 256, 256]⟩ : Shape).Idx → EReal) (x7 : (⟨2, ![1, 1024]⟩ : Shape).Idx → EReal)
    (x8 : (⟨4, ![1, 4, 256, 256]⟩ : Shape).Idx → EReal) (x9 x10 : (⟨2, ![1, 1024]⟩ : Shape).Idx → EReal)
    (x11 : (⟨4, ![1, 3, 1024, 1024]⟩ : Shape).Idx → EReal) (b : Fin 2) : LruArgs where
  x T k := if h : T < 8192 then x0 (ix3 b ⟨T, h⟩ k) else 0
  g k := x1 (ix2 0 k)
  wp k c := x2 (ix3 0 k ⟨c.val, by omega⟩)
  bp c := x3 (ix2 0 ⟨c.val, by omega⟩)
  cw e c := x4 (ix3 0 e c)
  cb c := x5 (ix2 0 c)
  wa h k d := x6 (ix4 0 h k d)
  ba c := x7 (ix2 0 c)
  wx h k d := x8 (ix4 0 h k d)
  bx c := x9 (ix2 0 c)
  lam c := x10 (ix2 0 c)
  wz k c := x2 (ix3 0 k ⟨1024 + c.val, by omega⟩)
  bz c := x3 (ix2 0 ⟨1024 + c.val, by omega⟩)
  wg k c := x2 (ix3 0 k ⟨6144 + c.val, by omega⟩)
  bg c := x3 (ix2 0 ⟨6144 + c.val, by omega⟩)
  wb k c := x11 (ix4 0 0 k c)

/-- A projection of an earlier token, seen from a later one. -/
theorem LruArgs.back_from (A : LruArgs) (e f T T' : ℕ) (h : T' + f = T + e) (c : Fin 1024) : A.back e T' c = A.back f T c := by
  unfold LruArgs.back
  by_cases he : e ≤ T'
  · rw [if_pos he, if_pos (by omega), show T' - e = T - f by omega]
  · rw [if_neg he, if_neg (by omega)]

end Cert.Layer

end
-- ==== Proof.LruLoop.lean ====
/- The idealized recurrence call's loop over the 32 groups of eight tokens of a block: a trip's result and its one store, and
   what all trips leave when the two arrays of factors and offsets hold those of a recurrence. -/
module

public import proofs.«01_k».proof.Proof.LruRows
public import proofs.«01_k».proof.Proof.Gen.LruIdeal.Loops
public import Idealize.ShloMosaic.Lib.Writes

@[expose] public section

set_option maxRecDepth 16384

noncomputable section

open Idealize.ShloMosaic Idealize.ShloMosaic.TcCoe Idealize.SL.Sem

namespace Cert.LruIdeal.Groups

open Cert.LruIdeal Cert.LruIdeal.Gen Cert.LruIdeal.Rows Cert.Layer

section Body

variable (arg2 : Memref sig .tc .vmem S1x256x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x2048 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S4x256x256 .bf16) (harg8 : arg8.IsWhole)
  (arg9 : Memref sig .tc .vmem S1x1024 .f32) (harg9 : arg9.IsWhole)
  (arg10 : Memref sig .tc .vmem S4x256x256 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1x256x1024 .f32) (harg16 : arg16.IsWhole)
  (arg17 : Memref sig .tc .vmem S264x1024 .f32) (harg17 : arg17.IsWhole)
  (arg18 : Memref sig .tc .vmem S256x1024 .f32) (harg18 : arg18.IsWhole)
  (arg19 : Memref sig .tc .vmem S256x1024 .f32) (harg19 : arg19.IsWhole)
  (arg20 : Memref sig .tc .vmem S8x1024 .f32) (harg20 : arg20.IsWhole)

  (c : Dev nD) (i : grid0.Coords) (v19 : FVec Ideal S256x1024 .bf16) (v55 : FVec Ideal S256x1024 .f32)
  (v259 v265 v269 : FVec Ideal S256x256 .f32) (cst_124 : Ideal .f32)
  (X18 : BufTy.Contents (Elt Ideal) arg18.view.ty) (G19 : BufTy.Contents (Elt Ideal) arg19.view.ty)
  (init : Vec Ideal S8x1024 .f32)

/-- The rectangle of a trip: eight rows. -/
abbrev grp (k : Fin k0_t1_loop.trips) : Rect S256x1024 := Rect.unit (s := S256x1024) (k0_off1 k) S8x1024.size (k0_off1_inb k)

theorem trip_result (k : Fin k0_t1_loop.trips) (acc : Vec Ideal S8x1024 .f32) (f : BufTy.Contents (Elt Ideal) arg19.view.ty) :
    tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124 (iota .tc S8x1024 32 [0] iota_S8x1024_d0_w32) X18 k acc f
      = k0_pay41 (k0_pay2 (iota .tc S8x1024 32 [0] iota_S8x1024_d0_w32) acc (View.ld (arg18.view.read _ X18) (grp k))
          (View.ld (arg19.view.read _ f) (grp k))) := by
  unfold tripR_k0_t1 trip_k0_t1
  rfl

theorem trip_store (k : Fin k0_t1_loop.trips) (acc : Vec Ideal S8x1024 .f32) (f : BufTy.Contents (Elt Ideal) arg19.view.ty) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124 (iota .tc S8x1024 32 [0] iota_S8x1024_d0_w32) X18 k acc f
      = [⟨grp k, k0_pay40 (k0_pay2 (iota .tc S8x1024 32 [0] iota_S8x1024_d0_w32) acc (View.ld (arg18.view.read _ X18) (grp k))
          (View.ld (arg19.view.read _ f) (grp k)))⟩] := by
  unfold tripL_k0_t1 trip_k0_t1
  rfl

theorem off_eq (k : Fin k0_t1_loop.trips) : k.val < 32 ∧ k0_off1 k 0 = 8 * k.val ∧ k0_off1 k 1 = 0 := by
  revert k
  decide +kernel

/-- A row of a trip's rectangle. -/
theorem grp_at (X : Vec Ideal S256x1024 .f32) (k : Fin k0_t1_loop.trips) (q : Fin 8) (j : Fin 1024) (t : Fin 256)
    (ht : t.val = 8 * k.val + q.val) : View.ld X (grp k) (ix2 q j) = X (ix2 t j) := by
  obtain ⟨h, h0, h1⟩ := off_eq k
  show X _ = X _
  congr 1
  funext x
  apply Fin.ext
  match x with
  | ⟨0, _⟩ => show k0_off1 k 0 + 1 * q.val = t.val; omega
  | ⟨1, _⟩ => show k0_off1 k 1 + 1 * j.val = j.val; omega

variable (a b : Fin 1024 → ℕ → EReal) (n : ℕ) (tame : ∀ j t, Tame (a j t))
  (ha : ∀ t j, arg18.view.read _ X18 (ix2 t j) = a j (n + t.val))
  (hb : ∀ t j, arg19.view.read _ G19 (ix2 t j) = b j (n + t.val))
  (hi : ∀ q j, init (ix2 q j) = recur (a j) (b j) n)

/-- The state before trip `k`. -/
abbrev stAt (k : ℕ) :=
  st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124 (iota .tc S8x1024 32 [0] iota_S8x1024_d0_w32) X18 G19 init k

include tame ha hb hi in
/-- Before trip `k` the carried rows hold the state after `8k` tokens, and the array holds the states of those tokens over
    the later tokens' offsets. -/
theorem st_at : ∀ k ≤ 32,
    (∀ q j, (stAt arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i v19 v55 v259 v265 v269 cst_124 X18 G19 init k).1 (ix2 q j) = recur (a j) (b j) (n + 8 * k))
    ∧ ∀ (t : Fin 256) j, arg19.view.read _ (arg19.view.writes _ G19 (stAt arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i v19 v55 v259 v265 v269 cst_124 X18 G19 init k).2) (ix2 t j)
        = if t.val < 8 * k then recur (a j) (b j) (n + t.val + 1) else b j (n + t.val)
  | 0, _ => ⟨fun q j => hi q j, fun t j => by rw [if_neg (by omega)]; exact hb t j⟩
  | k + 1, hk => by
    obtain ⟨h1, h2⟩ := st_at k (by omega)
    have hkt : k < k0_t1_loop.trips := by
      have e : k0_t1_loop.trips = 32 := by decide +kernel
      omega
    have hs := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124 (iota .tc S8x1024 32 [0] iota_S8x1024_d0_w32) X18 G19 init ⟨k, hkt⟩
    rw [trip_result, trip_store] at hs
    simp only [stAt] at h1 h2 ⊢
    have hs' := hs
    clear hs
    generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124 (iota .tc S8x1024 32 [0] iota_S8x1024_d0_w32) X18 G19 init k = s at h1 h2 hs'
    change st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124 (iota .tc S8x1024 32 [0] iota_S8x1024_d0_w32) X18 G19 init (k + 1) = _ at hs'
    rw [hs']
    clear hs'
    obtain ⟨hlt, o0, o1⟩ := off_eq ⟨k, hkt⟩
    have hg : ∀ (q : Fin 8) (j : Fin 1024),
        k0_pay2 (iota .tc S8x1024 32 [0] iota_S8x1024_d0_w32) s.1 (View.ld (arg18.view.read _ X18) (grp ⟨k, hkt⟩))
          (View.ld (arg19.view.read _ (arg19.view.writes _ G19 s.2)) (grp ⟨k, hkt⟩)) (ix2 q j)
          = recur (a j) (b j) (n + 8 * k + q.val + 1) := by
      intro q j
      rw [scan_at _ _ _ q j fun q => (h1 q j).trans (h1 0 j).symm, h1 0 j]
      have ea : (fun q => View.ld (arg18.view.read _ X18) (grp ⟨k, hkt⟩) (ix2 q j)) = fun q : Fin 8 => a j (n + 8 * k + q.val) := by
        funext q
        rw [grp_at _ ⟨k, hkt⟩ q j ⟨8 * k + q.val, by omega⟩ rfl, ha]
        congr 1
        show n + (8 * k + q.val) = _
        omega
      have eb : (fun q => View.ld (arg19.view.read _ (arg19.view.writes _ G19 s.2)) (grp ⟨k, hkt⟩) (ix2 q j))
          = fun q : Fin 8 => b j (n + 8 * k + q.val) := by
        funext q
        rw [grp_at _ ⟨k, hkt⟩ q j ⟨8 * k + q.val, by omega⟩ rfl, h2, if_neg (by show ¬ 8 * k + q.val < 8 * k; omega)]
        congr 1
        show n + (8 * k + q.val) = _
        omega
      rw [ea, eb]
      exact groupRow_eq (n + 8 * k) (fun r => tame j _) q
    generalize k0_pay2 (iota .tc S8x1024 32 [0] iota_S8x1024_d0_w32) s.1 (View.ld (arg18.view.read _ X18) (grp ⟨k, hkt⟩))
          (View.ld (arg19.view.read _ (arg19.view.writes _ G19 s.2)) (grp ⟨k, hkt⟩)) = g at hg ⊢
    refine ⟨fun q j => ?_, fun t j => ?_⟩
    · show k0_pay41 g (ix2 q j) = _
      rw [last_at, hg]
      congr 1
    · rw [group_stored]
      show arg19.view.read _ (arg19.view.writes _ G19 (⟨grp ⟨k, hkt⟩, g⟩ :: s.2)) (ix2 t j) = _
      by_cases hin : 8 * k ≤ t.val ∧ t.val < 8 * k + 8
      · rw [if_pos (by omega)]
        rw [View.read_writes_cons_hit_of_coords arg19.view G19 (grp ⟨k, hkt⟩) g s.2
          (ix2 (⟨t.val - 8 * k, by omega⟩ : Fin 8) j) (ix2 t j) (fun x => match x with
            | ⟨0, _⟩ => show t.val = k0_off1 ⟨k, hkt⟩ 0 + 1 * (t.val - 8 * k) by rw [o0]; show t.val = 8 * k + _; omega
            | ⟨1, _⟩ => show j.val = k0_off1 ⟨k, hkt⟩ 1 + 1 * j.val by omega), hg]
        congr 1
        show n + 8 * k + (t.val - 8 * k) + 1 = _
        omega
      · rw [View.read_writes_cons_miss_of_axis arg19.view G19 ⟨grp ⟨k, hkt⟩, g⟩ s.2 (ix2 t j) 0 (8 * k) 8 o0 rfl rfl
          (by show t.val < 8 * k ∨ 8 * k + 8 ≤ t.val; omega), h2]
        by_cases ht : t.val < 8 * k
        · rw [if_pos ht, if_pos (by omega)]
        · rw [if_neg ht, if_neg (by omega)]

end Body

end Cert.LruIdeal.Groups

end
-- ==== Proof.LruRun.lean ====
/-
  One point of the idealized recurrence call run with its contents named: what its stores leave in the output block and in
  the two scratch buffers the next point reads (the convolution's window and the carried state), as the pieces the run
  finds, for a point that starts a sequence (`runFresh`) and for one that goes on (`runNext`).
-/
module

public import proofs.«01_k».proof.Proof.LruIdealFrame

@[expose] public section

set_option maxRecDepth 16384

noncomputable section

namespace Cert.LruIdeal.Point

open Cert.LruIdeal Cert.LruIdeal.Gen
open Cert.LruIdeal.Hand (some_owns fresh)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (arg2 : Memref sig .tc .vmem S1x256x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x2048 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S4x256x256 .bf16) (harg8 : arg8.IsWhole)
  (arg9 : Memref sig .tc .vmem S1x1024 .f32) (harg9 : arg9.IsWhole)
  (arg10 : Memref sig .tc .vmem S4x256x256 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1x256x1024 .f32) (harg16 : arg16.IsWhole)
  (arg17 : Memref sig .tc .vmem S264x1024 .f32) (harg17 : arg17.IsWhole)
  (arg18 : Memref sig .tc .vmem S256x1024 .f32) (harg18 : arg18.IsWhole)
  (arg19 : Memref sig .tc .vmem S256x1024 .f32) (harg19 : arg19.IsWhole)
  (arg20 : Memref sig .tc .vmem S8x1024 .f32) (harg20 : arg20.IsWhole)

/-- The inputs at their contents. -/
abbrev Inputs (c : Dev nD) (x0 : Vec F S1x256x1024 .f32) (x1 : Vec F S1x1024 .f32) (x2 : Vec F S1024x2048 .bf16) (x3 : Vec F S1x2048 .f32) (x4 : Vec F S4x1024 .f32) (x5 : Vec F S1x1024 .f32) (x6 : Vec F S4x256x256 .bf16) (x7 : Vec F S1x1024 .f32) (x8 : Vec F S4x256x256 .bf16) (x9 : Vec F S1x1024 .f32) (x10 : Vec F S1x1024 .f32) (x11 : Vec F S1024x1024 .bf16) (x12 : Vec F S1x1024 .f32) (x13 : Vec F S1024x1024 .bf16) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare x7
    ∗ owns (c : Thread nD τ) arg10 fullShare x8
    ∗ owns (c : Thread nD τ) arg11 fullShare x9
    ∗ owns (c : Thread nD τ) arg12 fullShare x10
    ∗ owns (c : Thread nD τ) arg13 fullShare x11
    ∗ owns (c : Thread nD τ) arg14 fullShare x12
    ∗ owns (c : Thread nD τ) arg15 fullShare x13)

set_option maxHeartbeats 4000000 in
/-- The body at a point where `fresh i`, from named contents. -/
def runFresh (c : Dev nD) (i : grid0.Coords) (hc : fresh i)
    (x0 : Vec F S1x256x1024 .f32) (x1 : Vec F S1x1024 .f32) (x2 : Vec F S1024x2048 .bf16) (x3 : Vec F S1x2048 .f32) (x4 : Vec F S4x1024 .f32) (x5 : Vec F S1x1024 .f32) (x6 : Vec F S4x256x256 .bf16) (x7 : Vec F S1x1024 .f32) (x8 : Vec F S4x256x256 .bf16) (x9 : Vec F S1x1024 .f32) (x10 : Vec F S1x1024 .f32) (x11 : Vec F S1024x1024 .bf16) (x12 : Vec F S1x1024 .f32) (x13 : Vec F S1024x1024 .bf16)
    (xs : Vec F S264x1024 .f32) (ga gb : Vec F S256x1024 .f32) (hs : Vec F S8x1024 .f32) :
    Σ' (L14 : List (View.Piece (Elt F) S1x256x1024 .f32)), Σ' (L15 : List (View.Piece (Elt F) S264x1024 .f32)),
      { L18 : List (View.Piece (Elt F) S8x1024 .f32) // ∀ (K : PUnit → sProp 𝕄),
        iprop(Inputs arg2 arg3 arg4 arg5 arg6 arg7 arg8 arg9 arg10 arg11 arg12 arg13 arg14 arg15 c x0 x1 x2 x3 x4 x5 x6 x7 x8 x9 x10 x11 x12 x13
            ∗ some_owns c arg16 ∗ owns (c : Thread nD τ) arg17 fullShare xs ∗ owns (c : Thread nD τ) arg18 fullShare ga
            ∗ owns (c : Thread nD τ) arg19 fullShare gb ∗ owns (c : Thread nD τ) arg20 fullShare hs
            ∗ (iprop(Inputs arg2 arg3 arg4 arg5 arg6 arg7 arg8 arg9 arg10 arg11 arg12 arg13 arg14 arg15 c x0 x1 x2 x3 x4 x5 x6 x7 x8 x9 x10 x11 x12 x13
              ∗ (∃ f, arg16.view.loc (c : Thread nD τ) ↦[arg16.view.set]{fullShare} arg16.view.writes (Elt F) f L14)
              ∗ (∃ f, arg17.view.loc (c : Thread nD τ) ↦[arg17.view.set]{fullShare} arg17.view.writes (Elt F) f L15)
              ∗ some_owns c arg18 ∗ some_owns c arg19
              ∗ (∃ f, arg20.view.loc (c : Thread nD τ) ↦[arg20.view.set]{fullShare} arg20.view.writes (Elt F) f L18))
              -∗ K ⟨⟩))
          ⊢ wp frame (wpE (defs₀ (F := F)) Variants.none c none) Set.univ (cc0_branch_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun K => ?run⟩
  case run =>
    simp only [cc0_branch_lru_eq_skeleton]; unfold cc0_branch_lru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold Inputs some_owns owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, ⟨%f15, %hf15, H15⟩, ⟨%f16, %hf16, H16⟩, ⟨%f17, %hf17, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hf15; obtain rfl := harg18.eq_unread hf16; obtain rfl := harg19.eq_unread hf17; obtain rfl := harg20.eq_unread hf18
    sl_exec (disch := first | sl_exact hc)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [H14]; · iexists _; iexact H14
    isplitl [H15]; · iexists _; iexact H15
    isplitl [H16]
    · iexists _, _; isplitr; swap; · iexact H16
      ipureintro; rfl
    isplitl [H17]
    · iexists _, _; isplitr; swap; · iexact H17
      ipureintro; rfl
    iexists _; iexact H18

set_option maxHeartbeats 4000000 in
/-- The body at a point where `¬ fresh i`, from named contents. -/
def runNext (c : Dev nD) (i : grid0.Coords) (hc : ¬ fresh i)
    (x0 : Vec F S1x256x1024 .f32) (x1 : Vec F S1x1024 .f32) (x2 : Vec F S1024x2048 .bf16) (x3 : Vec F S1x2048 .f32) (x4 : Vec F S4x1024 .f32) (x5 : Vec F S1x1024 .f32) (x6 : Vec F S4x256x256 .bf16) (x7 : Vec F S1x1024 .f32) (x8 : Vec F S4x256x256 .bf16) (x9 : Vec F S1x1024 .f32) (x10 : Vec F S1x1024 .f32) (x11 : Vec F S1024x1024 .bf16) (x12 : Vec F S1x1024 .f32) (x13 : Vec F S1024x1024 .bf16)
    (xs : Vec F S264x1024 .f32) (ga gb : Vec F S256x1024 .f32) (hs : Vec F S8x1024 .f32) :
    Σ' (L14 : List (View.Piece (Elt F) S1x256x1024 .f32)), Σ' (L15 : List (View.Piece (Elt F) S264x1024 .f32)),
      { L18 : List (View.Piece (Elt F) S8x1024 .f32) // ∀ (K : PUnit → sProp 𝕄),
        iprop(Inputs arg2 arg3 arg4 arg5 arg6 arg7 arg8 arg9 arg10 arg11 arg12 arg13 arg14 arg15 c x0 x1 x2 x3 x4 x5 x6 x7 x8 x9 x10 x11 x12 x13
            ∗ some_owns c arg16 ∗ owns (c : Thread nD τ) arg17 fullShare xs ∗ owns (c : Thread nD τ) arg18 fullShare ga
            ∗ owns (c : Thread nD τ) arg19 fullShare gb ∗ owns (c : Thread nD τ) arg20 fullShare hs
            ∗ (iprop(Inputs arg2 arg3 arg4 arg5 arg6 arg7 arg8 arg9 arg10 arg11 arg12 arg13 arg14 arg15 c x0 x1 x2 x3 x4 x5 x6 x7 x8 x9 x10 x11 x12 x13
              ∗ (∃ f, arg16.view.loc (c : Thread nD τ) ↦[arg16.view.set]{fullShare} arg16.view.writes (Elt F) f L14)
              ∗ (∃ f, arg17.view.loc (c : Thread nD τ) ↦[arg17.view.set]{fullShare} arg17.view.writes (Elt F) f L15)
              ∗ some_owns c arg18 ∗ some_owns c arg19
              ∗ (∃ f, arg20.view.loc (c : Thread nD τ) ↦[arg20.view.set]{fullShare} arg20.view.writes (Elt F) f L18))
              -∗ K ⟨⟩))
          ⊢ wp frame (wpE (defs₀ (F := F)) Variants.none c none) Set.univ (cc0_branch_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun K => ?run⟩
  case run =>
    simp only [cc0_branch_lru_eq_skeleton]; unfold cc0_branch_lru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold Inputs some_owns owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, ⟨%f15, %hf15, H15⟩, ⟨%f16, %hf16, H16⟩, ⟨%f17, %hf17, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hf15; obtain rfl := harg18.eq_unread hf16; obtain rfl := harg19.eq_unread hf17; obtain rfl := harg20.eq_unread hf18
    sl_exec (disch := first | sl_exact hc)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [H14]; · iexists _; iexact H14
    isplitl [H15]; · iexists _; iexact H15
    isplitl [H16]
    · iexists _, _; isplitr; swap; · iexact H16
      ipureintro; rfl
    isplitl [H17]
    · iexists _, _; isplitr; swap; · iexact H17
      ipureintro; rfl
    iexists _; iexact H18

end Body

end Cert.LruIdeal.Point

end
-- ==== Proof.LruBlock.lean ====
/- What the idealized recurrence call's body leaves, where its operands hold a block of a sequence and its scratch what the
   sequence's tokens before left: the block's output, and what the next block's point reads. -/
module

public import proofs.«01_k».proof.Proof.LruHeads
public import proofs.«01_k».proof.Proof.Layer.LruArrays
public import proofs.«01_k».proof.Proof.LruLoop
public import proofs.«01_k».proof.Proof.LruRun

@[expose] public section

set_option maxRecDepth 16384

noncomputable section

open Idealize.ShloMosaic Idealize.ShloMosaic.TcCoe Idealize.SL.Sem

namespace Cert.LruIdeal.Block

open Cert.LruIdeal Cert.LruIdeal.Gen Cert.LruIdeal.Rows Cert.LruIdeal.Groups Cert.LruIdeal.Point Cert.Layer
open Cert.LruIdeal.Hand (fresh)

open scoped BigOperators

theorem z3 : (![0, 0, 0] : Fin 3 → ℕ) = fun _ => 0 := by decide
theorem z2 : (![0, 0] : Fin 2 → ℕ) = fun _ => 0 := by decide

/-- A load of a rectangle of a matrix. -/
theorem ld2 {n m p w a b : ℕ} {e : EltTy} (X : (⟨2, ![n, m]⟩ : Shape).Idx → Elt Ideal e)
    (inb : ∀ i, ![a, b] i + ![p, w] i ≤ (⟨2, ![n, m]⟩ : Shape).size i) (i : Fin p) (j : Fin w) (i' : Fin n) (j' : Fin m)
    (hi : i'.val = a + i.val) (hj : j'.val = b + j.val) :
    View.ld X (Rect.unit ![a, b] ![p, w] inb) (ix2 i j) = X (ix2 i' j') := by
  show X _ = X _
  congr 1
  funext x
  apply Fin.ext
  match x with
  | ⟨0, _⟩ => show a + 1 * i.val = i'.val; omega
  | ⟨1, _⟩ => show b + 1 * j.val = j'.val; omega

/-- A load of one slab. -/
theorem ld3 {l n m a : ℕ} {e : EltTy} (X : (⟨3, ![l, n, m]⟩ : Shape).Idx → Elt Ideal e)
    (inb : ∀ i, ![a, 0, 0] i + ![1, n, m] i ≤ (⟨3, ![l, n, m]⟩ : Shape).size i) (i : Fin n) (j : Fin m) (a' : Fin l)
    (h : a'.val = a) :
    View.ld X (Rect.unit ![a, 0, 0] ![1, n, m] inb) (ix3 0 i j) = X (ix3 a' i j) := by
  show X _ = X _
  congr 1
  funext x
  apply Fin.ext
  match x with
  | ⟨0, _⟩ => show a + 1 * 0 = a'.val; omega
  | ⟨1, _⟩ => show 0 + 1 * i.val = i.val; omega
  | ⟨2, _⟩ => show 0 + 1 * j.val = j.val; omega

/-- A load of a buffer's rectangle where the buffer holds an array. -/
theorem load_eq {κ : Kind} {sp : Space} {S : Shape} {e : EltTy} {arg : Memref sig κ sp S e} (harg : arg.IsWhole)
    (x : S.Idx → Elt Ideal e) (R : Rect S) :
    View.readAt (Elt Ideal) arg.view R.toLoadRect (harg.unread x) = View.ld x R := by
  rw [View.readAt_eq_ld, harg.read_unread]

/-- A head's loads of the two arrays of a gate. -/
theorem headLoads {argw : Memref sig .tc .vmem S4x256x256 .bf16} (hargw : argw.IsWhole)
    {argb : Memref sig .tc .vmem S1x1024 .f32} (hargb : argb.IsWhole) {x : Vec Ideal S4x256x256 .bf16}
    {y : Vec Ideal S1x1024 .f32} {W : Fin 4 → Fin 256 → Fin 256 → EReal} {V : Fin 1024 → EReal}
    (hW : ∀ h k d, x (ix3 h k d) = W h k d) (hV : ∀ c, y (ix2 0 c) = V c) (h : Fin 4) (o p : ℕ) (ho : h.val = o)
    (hp : h.val * 256 = p) (inb : ∀ i, (![o, 0, 0] : Fin 3 → ℕ) i + S1x256x256.size i ≤ S4x256x256.size i)
    (inb' : ∀ i, (![0, p] : Fin 2 → ℕ) i + S1x256.size i ≤ S1x1024.size i) :
    HeadLoads (View.readAt (Elt Ideal) argw.view (Rect.unit (s := S4x256x256) ![o, 0, 0] S1x256x256.size inb).toLoadRect (hargw.unread x))
      (View.readAt (Elt Ideal) argb.view (Rect.unit (s := S1x1024) ![0, p] S1x256.size inb').toLoadRect (hargb.unread y)) W V h := by
  rw [load_eq, load_eq]
  refine ⟨fun k d => ?_, fun d => ?_⟩
  · rw [← hW]; exact ld3 x inb k d h ho
  · rw [← hV]; exact ld2 y inb' 0 d 0 (hcol h d) rfl (by show h.val * 256 + d.val = _; omega)

variable (A : LruArgs) (n : ℕ)

/-- The operands hold a block of the sequence, from token `n` on, and the branch's parameters. -/
structure Holds (x0 : Vec Ideal S1x256x1024 .f32) (x1 : Vec Ideal S1x1024 .f32) (x2 : Vec Ideal S1024x2048 .bf16) (x3 : Vec Ideal S1x2048 .f32) (x4 : Vec Ideal S4x1024 .f32) (x5 : Vec Ideal S1x1024 .f32) (x6 : Vec Ideal S4x256x256 .bf16) (x7 : Vec Ideal S1x1024 .f32) (x8 : Vec Ideal S4x256x256 .bf16) (x9 : Vec Ideal S1x1024 .f32) (x10 : Vec Ideal S1x1024 .f32) (x11 : Vec Ideal S1024x1024 .bf16) (x12 : Vec Ideal S1x1024 .f32) (x13 : Vec Ideal S1024x1024 .bf16) : Prop where
  x : ∀ r k, x0 (ix3 0 r k) = A.x (n + r.val) k
  g : ∀ k, x1 (ix2 0 k) = A.g k
  wp : ∀ k c, x2 (ix2 k (keyCol c)) = A.wp k c
  wz : ∀ k c, x2 (ix2 k (valCol c)) = A.wz k c
  bp : ∀ c, x3 (ix2 0 (keyCol c)) = A.bp c
  bz : ∀ c, x3 (ix2 0 (valCol c)) = A.bz c
  cw : ∀ e c, x4 (ix2 e c) = A.cw e c
  cb : ∀ c, x5 (ix2 0 c) = A.cb c
  wa : ∀ h k d, x6 (ix3 h k d) = A.wa h k d
  ba : ∀ c, x7 (ix2 0 c) = A.ba c
  wx : ∀ h k d, x8 (ix3 h k d) = A.wx h k d
  bx : ∀ c, x9 (ix2 0 c) = A.bx c
  lam : ∀ c, x10 (ix2 0 c) = A.lam c
  wg : ∀ k c, x11 (ix2 k c) = A.wg k c
  bg : ∀ c, x12 (ix2 0 c) = A.bg c
  wb : ∀ k c, x13 (ix2 k c) = A.wb k c

/-- The window's rows from the eighth on are the block's own projections. -/
theorem own_row (w : Vec Ideal S256x1024 .f32) (hw : ∀ r c, w (ix2 r c) = A.px (n + r.val) c) (r : Fin 256) (m : ℕ)
    (h : m = 8 + r.val) (c : Fin 1024) : w (ix2 r c) = A.back 8 (n + m) c := by
  unfold LruArgs.back
  rw [hw, if_pos (by omega), show n + m - 8 = n + r.val by omega]

/-- The body's loads of its operands hold their parts of the block and of the branch's parameters. -/
structure Loads (y0 : Vec Ideal S1x256x1024 .f32) (y1 : Vec Ideal S1x1024 .f32) (y2 : Vec Ideal S1024x1024 .bf16) (y3 : Vec Ideal S1x1024 .f32) (cb w0 w1 w2 w3 : Vec Ideal S1x1024 .f32) (wa0 wa1 wa2 wa3 wx0 wx1 wx2 wx3 : Vec Ideal S1x256x256 .bf16) (ba0 ba1 ba2 ba3 bx0 bx1 bx2 bx3 : Vec Ideal S1x256 .f32) (lam : Vec Ideal S1x1024 .f32) (wz : Vec Ideal S1024x1024 .bf16) (bz : Vec Ideal S1x1024 .f32) (wb wg : Vec Ideal S1024x1024 .bf16) (bg : Vec Ideal S1x1024 .f32) : Prop where
  x : ∀ r k, y0 (ix3 0 r k) = A.x (n + r.val) k
  g : ∀ k, y1 (ix2 0 k) = A.g k
  wp : ∀ k c, y2 (ix2 k c) = A.wp k c
  bp : ∀ c, y3 (ix2 0 c) = A.bp c
  cb : ∀ c, cb (ix2 0 c) = A.cb c
  cw : ∀ e c, ![w0, w1, w2, w3] e (ix2 0 c) = A.cw e c
  a0 : HeadLoads wa0 ba0 A.wa A.ba 0
  a1 : HeadLoads wa1 ba1 A.wa A.ba 1
  a2 : HeadLoads wa2 ba2 A.wa A.ba 2
  a3 : HeadLoads wa3 ba3 A.wa A.ba 3
  b0 : HeadLoads wx0 bx0 A.wx A.bx 0
  b1 : HeadLoads wx1 bx1 A.wx A.bx 1
  b2 : HeadLoads wx2 bx2 A.wx A.bx 2
  b3 : HeadLoads wx3 bx3 A.wx A.bx 3
  lam : ∀ c, lam (ix2 0 c) = A.lam c
  wz : ∀ k c, wz (ix2 k c) = A.wz k c
  bz : ∀ c, bz (ix2 0 c) = A.bz c
  wb : ∀ k c, wb (ix2 k c) = A.wb k c
  wg : ∀ k c, wg (ix2 k c) = A.wg k c
  bg : ∀ c, bg (ix2 0 c) = A.bg c

section Pieces

variable (U : FVec Ideal S256x1024 .f32) (U5 : FVec Ideal S256x1024 .bf16) (S7 : FVec Ideal S256x256 .bf16) (l : FVec Ideal S1x1024 .f32)
  (wa0 wa1 wa2 wa3 wx0 wx1 wx2 wx3 : Vec Ideal S1x256x256 .bf16) (ba0 ba1 ba2 ba3 bx0 bx1 bx2 bx3 : Vec Ideal S1x256 .f32)

/-- The four heads' stores of the decays and of the inputs, last first. -/
abbrev decayPieces : List (View.Piece (Elt Ideal) S256x1024 .f32) :=
  [⟨Rect.unit (s := S256x1024) ![0, 768] S256x256.size inb_S256x1024_S256x256_0_768, k0_pay37 l (k0_pay33 U5) wa3 ba3⟩,
        ⟨Rect.unit (s := S256x1024) ![0, 512] S256x256.size inb_S256x1024_S256x256_0_512, k0_pay31 l (k0_pay27 U5 wa2 ba2) k0_pay28⟩,
        ⟨Rect.unit (s := S256x1024) ![0, 256] S256x256.size inb_S256x1024_S256x256_0_256, k0_pay25 l (k0_pay21 U5 wa1 ba1)⟩,
        ⟨Rect.unit (s := S256x1024) ![0, 0] S256x256.size inb_S256x1024_S256x256_0_0, k0_pay18 l S7 wa0 ba0⟩]
abbrev inputPieces : List (View.Piece (Elt Ideal) S256x1024 .f32) :=
  [⟨Rect.unit (s := S256x1024) ![0, 768] S256x256.size inb_S256x1024_S256x256_0_768,
          k0_pay39 U (k0_pay34 U5 wx3 bx3) (k0_pay36 l (k0_pay33 U5) wa3 ba3) (k0_pay38 l (k0_pay33 U5) wa3 ba3)
            (Scalar.ofBits .f32 0x00000000#32)⟩,
        ⟨Rect.unit (s := S256x1024) ![0, 512] S256x256.size inb_S256x1024_S256x256_0_512,
          k0_pay32 U U5 l (k0_pay27 U5 wa2 ba2) k0_pay28 wx2 bx2⟩,
        ⟨Rect.unit (s := S256x1024) ![0, 256] S256x256.size inb_S256x1024_S256x256_0_256,
          k0_pay26 U l (k0_pay21 U5 wa1 ba1) (k0_pay22 U5 wx1 bx1) (Scalar.ofBits .f32 0x3F000000#32)⟩,
        ⟨Rect.unit (s := S256x1024) ![0, 0] S256x256.size inb_S256x1024_S256x256_0_0,
          k0_pay20 U (k0_pay15 U5 wx0 bx0) (k0_pay17 l S7 wa0 ba0) (k0_pay19 l S7 wa0 ba0)
            (Scalar.ofBits .f32 0x00000000#32)⟩]

end Pieces

section Body

variable (arg2 : Memref sig .tc .vmem S1x256x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x2048 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S4x256x256 .bf16) (harg8 : arg8.IsWhole)
  (arg9 : Memref sig .tc .vmem S1x1024 .f32) (harg9 : arg9.IsWhole)
  (arg10 : Memref sig .tc .vmem S4x256x256 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1x256x1024 .f32) (harg16 : arg16.IsWhole)
  (arg17 : Memref sig .tc .vmem S264x1024 .f32) (harg17 : arg17.IsWhole)
  (arg18 : Memref sig .tc .vmem S256x1024 .f32) (harg18 : arg18.IsWhole)
  (arg19 : Memref sig .tc .vmem S256x1024 .f32) (harg19 : arg19.IsWhole)
  (arg20 : Memref sig .tc .vmem S8x1024 .f32) (harg20 : arg20.IsWhole)

  (c : Dev nD) (i : grid0.Coords) (v19 : FVec Ideal S256x1024 .bf16) (v55 : FVec Ideal S256x1024 .f32)
  (v259 v265 v269 : FVec Ideal S256x256 .f32) (cst_124 : Ideal .f32)

/-- What the loop leaves, when the two arrays hold the block's decays and inputs and it begins at the state before. -/
theorem states_at (L16 L17 : List (View.Piece (Elt Ideal) S256x1024 .f32)) (init : Vec Ideal S8x1024 .f32)
    (hD : ∀ r j, View.canon L16 (ix2 r j) = A.a j (n + r.val)) (hI : ∀ r j, View.canon L17 (ix2 r j) = A.b j (n + r.val))
    (hi : ∀ q j, init (ix2 q j) = A.state j n) :
    (∀ r j, View.readAt (Elt Ideal) arg19.view (Rect.unit (s := S256x1024) ![0, 0] S256x1024.size inb_S256x1024_S256x1024_0_0).toLoadRect
        (arg19.view.writes _ arg19.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124
          (iota .tc S8x1024 32 [0] iota_S8x1024_d0_w32) (arg18.view.writes _ arg18.view.junk L16)
          (arg19.view.writes _ arg19.view.junk L17) init (Scf.trips k0_t1_loop.lb k0_t1_loop.ub k0_t1_loop.st)).2 ++ L17)) (ix2 r j)
        = A.state j (n + r.val + 1))
    ∧ ∀ q j, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124
          (iota .tc S8x1024 32 [0] iota_S8x1024_d0_w32) (arg18.view.writes _ arg18.view.junk L16)
          (arg19.view.writes _ arg19.view.junk L17) init (Scf.trips k0_t1_loop.lb k0_t1_loop.ub k0_t1_loop.st)).1 (ix2 q j)
        = A.state j (n + 256) := by
  have e : Scf.trips k0_t1_loop.lb k0_t1_loop.ub k0_t1_loop.st = 32 := by decide +kernel
  rw [e]
  obtain ⟨h1, h2⟩ := st_at arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i v19 v55 v259 v265 v269 cst_124 (arg18.view.writes _ arg18.view.junk L16)
    (arg19.view.writes _ arg19.view.junk L17) init A.a A.b n A.a_tame
    (fun t j => by rw [View.read_writes_junk_eq_canon]; exact hD t j)
    (fun t j => by rw [View.read_writes_junk_eq_canon]; exact hI t j) hi 32 le_rfl
  refine ⟨fun r j => ?_, h1⟩
  rw [View.readAt_eq_ld, View.ld_unit_zero z2, View.writes_append, h2 r j, if_pos (by omega)]
  rfl

/-- They do where the operands hold the block. -/
theorem loads_of (x0 : Vec Ideal S1x256x1024 .f32) (x1 : Vec Ideal S1x1024 .f32) (x2 : Vec Ideal S1024x2048 .bf16) (x3 : Vec Ideal S1x2048 .f32) (x4 : Vec Ideal S4x1024 .f32) (x5 : Vec Ideal S1x1024 .f32) (x6 : Vec Ideal S4x256x256 .bf16) (x7 : Vec Ideal S1x1024 .f32) (x8 : Vec Ideal S4x256x256 .bf16) (x9 : Vec Ideal S1x1024 .f32) (x10 : Vec Ideal S1x1024 .f32) (x11 : Vec Ideal S1024x1024 .bf16) (x12 : Vec Ideal S1x1024 .f32) (x13 : Vec Ideal S1024x1024 .bf16) (H : Holds A n x0 x1 x2 x3 x4 x5 x6 x7 x8 x9 x10 x11 x12 x13) :
    Loads A n
      (View.readAt (Elt Ideal) arg2.view (Rect.unit (s := S1x256x1024) ![0, 0, 0] S1x256x1024.size inb_S1x256x1024_S1x256x1024_0_0_0).toLoadRect (harg2.unread x0))
      (View.readAt (Elt Ideal) arg3.view (Rect.unit (s := S1x1024) ![0, 0] S1x1024.size inb_S1x1024_S1x1024_0_0).toLoadRect (harg3.unread x1))
      (View.readAt (Elt Ideal) arg4.view (Rect.unit (s := S1024x2048) ![0, 0] S1024x1024.size inb_S1024x2048_S1024x1024_0_0).toLoadRect (harg4.unread x2))
      (View.readAt (Elt Ideal) arg5.view (Rect.unit (s := S1x2048) ![0, 0] S1x1024.size inb_S1x2048_S1x1024_0_0).toLoadRect (harg5.unread x3))
      (View.readAt (Elt Ideal) arg7.view (Rect.unit (s := S1x1024) ![0, 0] S1x1024.size inb_S1x1024_S1x1024_0_0).toLoadRect (harg7.unread x5))
      (View.readAt (Elt Ideal) arg6.view (Rect.unit (s := S4x1024) ![0, 0] S1x1024.size inb_S4x1024_S1x1024_0_0).toLoadRect (harg6.unread x4))
      (View.readAt (Elt Ideal) arg6.view (Rect.unit (s := S4x1024) ![1, 0] S1x1024.size inb_S4x1024_S1x1024_1_0).toLoadRect (harg6.unread x4))
      (View.readAt (Elt Ideal) arg6.view (Rect.unit (s := S4x1024) ![2, 0] S1x1024.size inb_S4x1024_S1x1024_2_0).toLoadRect (harg6.unread x4))
      (View.readAt (Elt Ideal) arg6.view (Rect.unit (s := S4x1024) ![3, 0] S1x1024.size inb_S4x1024_S1x1024_3_0).toLoadRect (harg6.unread x4))
      (View.readAt (Elt Ideal) arg8.view (Rect.unit (s := S4x256x256) ![0, 0, 0] S1x256x256.size inb_S4x256x256_S1x256x256_0_0_0).toLoadRect (harg8.unread x6))
      (View.readAt (Elt Ideal) arg8.view (Rect.unit (s := S4x256x256) ![1, 0, 0] S1x256x256.size inb_S4x256x256_S1x256x256_1_0_0).toLoadRect (harg8.unread x6))
      (View.readAt (Elt Ideal) arg8.view (Rect.unit (s := S4x256x256) ![2, 0, 0] S1x256x256.size inb_S4x256x256_S1x256x256_2_0_0).toLoadRect (harg8.unread x6))
      (View.readAt (Elt Ideal) arg8.view (Rect.unit (s := S4x256x256) ![3, 0, 0] S1x256x256.size inb_S4x256x256_S1x256x256_3_0_0).toLoadRect (harg8.unread x6))
      (View.readAt (Elt Ideal) arg10.view (Rect.unit (s := S4x256x256) ![0, 0, 0] S1x256x256.size inb_S4x256x256_S1x256x256_0_0_0).toLoadRect (harg10.unread x8))
      (View.readAt (Elt Ideal) arg10.view (Rect.unit (s := S4x256x256) ![1, 0, 0] S1x256x256.size inb_S4x256x256_S1x256x256_1_0_0).toLoadRect (harg10.unread x8))
      (View.readAt (Elt Ideal) arg10.view (Rect.unit (s := S4x256x256) ![2, 0, 0] S1x256x256.size inb_S4x256x256_S1x256x256_2_0_0).toLoadRect (harg10.unread x8))
      (View.readAt (Elt Ideal) arg10.view (Rect.unit (s := S4x256x256) ![3, 0, 0] S1x256x256.size inb_S4x256x256_S1x256x256_3_0_0).toLoadRect (harg10.unread x8))
      (View.readAt (Elt Ideal) arg9.view (Rect.unit (s := S1x1024) ![0, 0] S1x256.size inb_S1x1024_S1x256_0_0).toLoadRect (harg9.unread x7))
      (View.readAt (Elt Ideal) arg9.view (Rect.unit (s := S1x1024) ![0, 256] S1x256.size inb_S1x1024_S1x256_0_256).toLoadRect (harg9.unread x7))
      (View.readAt (Elt Ideal) arg9.view (Rect.unit (s := S1x1024) ![0, 512] S1x256.size inb_S1x1024_S1x256_0_512).toLoadRect (harg9.unread x7))
      (View.readAt (Elt Ideal) arg9.view (Rect.unit (s := S1x1024) ![0, 768] S1x256.size inb_S1x1024_S1x256_0_768).toLoadRect (harg9.unread x7))
      (View.readAt (Elt Ideal) arg11.view (Rect.unit (s := S1x1024) ![0, 0] S1x256.size inb_S1x1024_S1x256_0_0).toLoadRect (harg11.unread x9))
      (View.readAt (Elt Ideal) arg11.view (Rect.unit (s := S1x1024) ![0, 256] S1x256.size inb_S1x1024_S1x256_0_256).toLoadRect (harg11.unread x9))
      (View.readAt (Elt Ideal) arg11.view (Rect.unit (s := S1x1024) ![0, 512] S1x256.size inb_S1x1024_S1x256_0_512).toLoadRect (harg11.unread x9))
      (View.readAt (Elt Ideal) arg11.view (Rect.unit (s := S1x1024) ![0, 768] S1x256.size inb_S1x1024_S1x256_0_768).toLoadRect (harg11.unread x9))
      (View.readAt (Elt Ideal) arg12.view (Rect.unit (s := S1x1024) ![0, 0] S1x1024.size inb_S1x1024_S1x1024_0_0).toLoadRect (harg12.unread x10))
      (View.readAt (Elt Ideal) arg4.view (Rect.unit (s := S1024x2048) ![0, 1024] S1024x1024.size inb_S1024x2048_S1024x1024_0_1024).toLoadRect (harg4.unread x2))
      (View.readAt (Elt Ideal) arg5.view (Rect.unit (s := S1x2048) ![0, 1024] S1x1024.size inb_S1x2048_S1x1024_0_1024).toLoadRect (harg5.unread x3))
      (View.readAt (Elt Ideal) arg15.view (Rect.unit (s := S1024x1024) ![0, 0] S1024x1024.size inb_S1024x1024_S1024x1024_0_0).toLoadRect (harg15.unread x13))
      (View.readAt (Elt Ideal) arg13.view (Rect.unit (s := S1024x1024) ![0, 0] S1024x1024.size inb_S1024x1024_S1024x1024_0_0).toLoadRect (harg13.unread x11))
      (View.readAt (Elt Ideal) arg14.view (Rect.unit (s := S1x1024) ![0, 0] S1x1024.size inb_S1x1024_S1x1024_0_0).toLoadRect (harg14.unread x12)) where
  x := fun r k => by rw [load_eq, View.ld_unit_zero z3]; exact H.x r k
  g := fun k => by rw [load_eq, View.ld_unit_zero z2]; exact H.g k
  wp := fun k c => by rw [load_eq, ← H.wp]; exact ld2 x2 _ k c k (keyCol c) (by omega) (by show c.val = 0 + c.val; omega)
  bp := fun c => by rw [load_eq, ← H.bp]; exact ld2 x3 _ 0 c 0 (keyCol c) rfl (by show c.val = 0 + c.val; omega)
  cb := fun c => by rw [load_eq, View.ld_unit_zero z2]; exact H.cb c
  cw := fun e c => by
    rw [load_eq, load_eq, load_eq, load_eq, ← H.cw]
    match e with
    | 0 => exact ld2 x4 _ 0 c 0 c rfl (by omega)
    | 1 => exact ld2 x4 _ 0 c 1 c rfl (by omega)
    | 2 => exact ld2 x4 _ 0 c 2 c rfl (by omega)
    | 3 => exact ld2 x4 _ 0 c 3 c rfl (by omega)
  a0 := headLoads harg8 harg9 H.wa H.ba 0 0 0 rfl rfl _ _
  a1 := headLoads harg8 harg9 H.wa H.ba 1 1 256 rfl rfl _ _
  a2 := headLoads harg8 harg9 H.wa H.ba 2 2 512 rfl rfl _ _
  a3 := headLoads harg8 harg9 H.wa H.ba 3 3 768 rfl rfl _ _
  b0 := headLoads harg10 harg11 H.wx H.bx 0 0 0 rfl rfl _ _
  b1 := headLoads harg10 harg11 H.wx H.bx 1 1 256 rfl rfl _ _
  b2 := headLoads harg10 harg11 H.wx H.bx 2 2 512 rfl rfl _ _
  b3 := headLoads harg10 harg11 H.wx H.bx 3 3 768 rfl rfl _ _
  lam := fun c => by rw [load_eq, View.ld_unit_zero z2]; exact H.lam c
  wz := fun k c => by rw [load_eq, ← H.wz]; exact ld2 x2 _ k c k (valCol c) (by omega) rfl
  bz := fun c => by rw [load_eq, ← H.bz]; exact ld2 x3 _ 0 c 0 (valCol c) rfl rfl
  wb := fun k c => by rw [load_eq, View.ld_unit_zero z2]; exact H.wb k c
  wg := fun k c => by rw [load_eq, View.ld_unit_zero z2]; exact H.wg k c
  bg := fun c => by rw [load_eq, View.ld_unit_zero z2]; exact H.bg c

/-- What the body stores in its output and carries on, with its loads named. -/
theorem body_at (y0 : Vec Ideal S1x256x1024 .f32) (y1 : Vec Ideal S1x1024 .f32) (y2 : Vec Ideal S1024x1024 .bf16) (y3 : Vec Ideal S1x1024 .f32) (cb w0 w1 w2 w3 : Vec Ideal S1x1024 .f32) (wa0 wa1 wa2 wa3 wx0 wx1 wx2 wx3 : Vec Ideal S1x256x256 .bf16) (ba0 ba1 ba2 ba3 bx0 bx1 bx2 bx3 : Vec Ideal S1x256 .f32) (lam : Vec Ideal S1x1024 .f32) (wz : Vec Ideal S1024x1024 .bf16) (bz : Vec Ideal S1x1024 .f32) (wb wg : Vec Ideal S1024x1024 .bf16) (bg : Vec Ideal S1x1024 .f32) (p3 p2 p1 : Vec Ideal S256x1024 .f32) (init : Vec Ideal S8x1024 .f32)
    (H : Loads A n y0 y1 y2 y3 cb w0 w1 w2 w3 wa0 wa1 wa2 wa3 wx0 wx1 wx2 wx3 ba0 ba1 ba2 ba3 bx0 bx1 bx2 bx3 lam wz bz wb wg bg)
    (h3 : ∀ r c, p3 (ix2 r c) = A.back 3 (n + r.val) c) (h2 : ∀ r c, p2 (ix2 r c) = A.back 2 (n + r.val) c)
    (h1 : ∀ r c, p1 (ix2 r c) = A.back 1 (n + r.val) c) (hi : ∀ q j, init (ix2 q j) = A.state j n) :
    (∀ r j, k0_pay1 (k0_pay5 y0 y1) (k0_pay43 (k0_pay5 y0 y1) wz bz
      (View.readAt (Elt Ideal) arg19.view (Rect.unit (s := S256x1024) ![0, 0] S256x1024.size inb_S256x1024_S256x1024_0_0).toLoadRect
        (arg19.view.writes _ arg19.view.junk ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124
          (iota .tc S8x1024 32 [0] iota_S8x1024_d0_w32) (arg18.view.writes _ arg18.view.junk (decayPieces (k0_pay12 (k0_pay6 y0 y1 y2 y3) (k0_pay8 cb) (k0_pay9 w3) p3 w0 p2 w1 p1 w2) (k0_pay14 (k0_pay6 y0 y1 y2 y3) (k0_pay8 cb) (k0_pay9 w3) p3 w0 p2 w1 p1 w2) (k0_pay13 lam) wa0 wa1 wa2 wa3 ba0 ba1 ba2 ba3))
          (arg19.view.writes _ arg19.view.junk (inputPieces (k0_pay10 (k0_pay6 y0 y1 y2 y3) (k0_pay8 cb) (k0_pay9 w3) p3 w0 p2 w1 p1 w2) (k0_pay12 (k0_pay6 y0 y1 y2 y3) (k0_pay8 cb) (k0_pay9 w3) p3 w0 p2 w1 p1 w2) (k0_pay14 (k0_pay6 y0 y1 y2 y3) (k0_pay8 cb) (k0_pay9 w3) p3 w0 p2 w1 p1 w2) (k0_pay13 lam) wa0 wa1 wa2 wa3 wx0 wx1 wx2 wx3 ba0 ba1 ba2 ba3 bx0 bx1 bx2 bx3)) init (Scf.trips k0_t1_loop.lb k0_t1_loop.ub k0_t1_loop.st)).2 ++ (inputPieces (k0_pay10 (k0_pay6 y0 y1 y2 y3) (k0_pay8 cb) (k0_pay9 w3) p3 w0 p2 w1 p1 w2) (k0_pay12 (k0_pay6 y0 y1 y2 y3) (k0_pay8 cb) (k0_pay9 w3) p3 w0 p2 w1 p1 w2) (k0_pay14 (k0_pay6 y0 y1 y2 y3) (k0_pay8 cb) (k0_pay9 w3) p3 w0 p2 w1 p1 w2) (k0_pay13 lam) wa0 wa1 wa2 wa3 wx0 wx1 wx2 wx3 ba0 ba1 ba2 ba3 bx0 bx1 bx2 bx3))))) wb wg bg (ix3 0 r j) = A.out (n + r.val) j)
    ∧ ∀ q j, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v19 v55 v259 v265 v269 cst_124
          (iota .tc S8x1024 32 [0] iota_S8x1024_d0_w32) (arg18.view.writes _ arg18.view.junk (decayPieces (k0_pay12 (k0_pay6 y0 y1 y2 y3) (k0_pay8 cb) (k0_pay9 w3) p3 w0 p2 w1 p1 w2) (k0_pay14 (k0_pay6 y0 y1 y2 y3) (k0_pay8 cb) (k0_pay9 w3) p3 w0 p2 w1 p1 w2) (k0_pay13 lam) wa0 wa1 wa2 wa3 ba0 ba1 ba2 ba3))
          (arg19.view.writes _ arg19.view.junk (inputPieces (k0_pay10 (k0_pay6 y0 y1 y2 y3) (k0_pay8 cb) (k0_pay9 w3) p3 w0 p2 w1 p1 w2) (k0_pay12 (k0_pay6 y0 y1 y2 y3) (k0_pay8 cb) (k0_pay9 w3) p3 w0 p2 w1 p1 w2) (k0_pay14 (k0_pay6 y0 y1 y2 y3) (k0_pay8 cb) (k0_pay9 w3) p3 w0 p2 w1 p1 w2) (k0_pay13 lam) wa0 wa1 wa2 wa3 wx0 wx1 wx2 wx3 ba0 ba1 ba2 ba3 bx0 bx1 bx2 bx3)) init (Scf.trips k0_t1_loop.lb k0_t1_loop.ub k0_t1_loop.st)).1 (ix2 q j) = A.state j (n + 256) := by
  have hU := conv_block A n y0 y1 y2 y3 cb w0 w1 w2 w3 p3 p2 p1 H.x H.g H.wp H.bp H.cb H.cw h3 h2 h1
  have h5 := cast_at _ (k0_pay6 y0 y1 y2 y3) (k0_pay8 cb) (k0_pay9 w3) p3 w0 p2 w1 p1 w2 rfl
  have hs := fun r d => slice0_at _ r d (k0_pay6 y0 y1 y2 y3) (k0_pay8 cb) (k0_pay9 w3) p3 w0 p2 w1 p1 w2 rfl
  have hd := decays_at A n _ hU lam H.lam _ h5 _ hs wa0 wa1 wa2 wa3 ba0 ba1 ba2 ba3 H.a0 H.a1 H.a2 H.a3
  have hin := inputs_at A n _ hU lam H.lam _ h5 _ hs wa0 wa1 wa2 wa3 wx0 wx1 wx2 wx3 ba0 ba1 ba2 ba3 bx0 bx1 bx2 bx3
    H.a0 H.a1 H.a2 H.a3 H.b0 H.b1 H.b2 H.b3
  obtain ⟨e1, e2⟩ := states_at A n arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i v19 v55 v259 v265 v269 cst_124 _ _ init hd hin hi
  exact ⟨fun r j => out_block A n y0 y1 wz bz _ wb wg bg H.x H.g H.wz H.bz H.wg H.bg H.wb e1 r j, e2⟩

/-- The projections that the body stores are the branch's. -/
theorem own_at {y0 : Vec Ideal S1x256x1024 .f32} {y1 : Vec Ideal S1x1024 .f32} {y2 : Vec Ideal S1024x1024 .bf16} {y3 : Vec Ideal S1x1024 .f32}
    (hx : ∀ r k, y0 (ix3 0 r k) = A.x (n + r.val) k) (hg : ∀ k, y1 (ix2 0 k) = A.g k)
    (hw : ∀ k c, y2 (ix2 k c) = A.wp k c) (hb : ∀ c, y3 (ix2 0 c) = A.bp c) (r : Fin 256) (j : Fin 1024) :
    k0_pay7 y0 y1 y2 y3 (ix2 r j) = A.px (n + r.val) j := by
  rw [proj_stored, proj_at]
  simp only [hx, hg, hw, hb]
  rfl

/-- The window's rows from the eighth on, after the block's projections are stored. -/
theorem window_own (w : Vec Ideal S256x1024 .f32) (hw : ∀ r c, w (ix2 r c) = A.px (n + r.val) c) (f)
    (L : List (View.Piece (Elt Ideal) S264x1024 .f32)) (m : Fin 264) (hm : 8 ≤ m.val) (j : Fin 1024) :
    View.read (Elt Ideal) arg17.view (arg17.view.writes (Elt Ideal) f (⟨Rect.unit (s := S264x1024) ![8, 0] S256x1024.size inb_S264x1024_S256x1024_8_0, w⟩ :: L)) (ix2 m j) = A.back 8 (n + m.val) j := by
  refine (View.read_writes_cons_hit_of_coords arg17.view f (Rect.unit (s := S264x1024) ![8, 0] S256x1024.size inb_S264x1024_S256x1024_8_0) w L (ix2 (⟨m.val - 8, by omega⟩ : Fin 256) j) (ix2 m j) fun a => ?_).trans ?_
  · match a with
    | ⟨0, _⟩ => show m.val = 8 + 1 * (m.val - 8); omega
    | ⟨1, _⟩ => show j.val = 0 + 1 * j.val; omega
  · exact own_row A n w hw _ m.val (by show m.val = 8 + (m.val - 8); omega) j

/-- The window where the rows before the block are carried. -/
theorem window_next (w : Vec Ideal S256x1024 .f32) (hw : ∀ r c, w (ix2 r c) = A.px (n + r.val) c) (xs : Vec Ideal S264x1024 .f32)
    (hxs : ∀ (q : Fin 8) j, xs (ix2 (⟨q.val, by omega⟩ : Fin 264) j) = A.back 8 (n + q.val) j) (m : Fin 264) (j : Fin 1024) :
    View.read (Elt Ideal) arg17.view (arg17.view.writes (Elt Ideal) (harg17.unread xs) [⟨Rect.unit (s := S264x1024) ![8, 0] S256x1024.size inb_S264x1024_S256x1024_8_0, w⟩]) (ix2 m j) = A.back 8 (n + m.val) j := by
  by_cases hm : 8 ≤ m.val
  · exact window_own A n arg17 w hw _ _ m hm j
  · refine (View.read_writes_cons_miss_of_axis arg17.view _ _ [] (ix2 m j) 0 8 256 rfl rfl rfl (Or.inl (by show m.val < 8; omega))).trans ?_
    rw [View.writes_nil, harg17.read_unread]
    exact hxs ⟨m.val, by omega⟩ j

/-- The window of the first block: the rows before it are zero. -/
theorem window_fresh (w : Vec Ideal S256x1024 .f32) (hw : ∀ r c, w (ix2 r c) = A.px (n + r.val) c) (hn : n = 0)
    (f) (m : Fin 264) (j : Fin 1024) :
    View.read (Elt Ideal) arg17.view (arg17.view.writes (Elt Ideal) f [⟨Rect.unit (s := S264x1024) ![8, 0] S256x1024.size inb_S264x1024_S256x1024_8_0, w⟩, ⟨Rect.unit (s := S264x1024) ![0, 0] S8x1024.size inb_S264x1024_S8x1024_0_0, k0_pay3 (F := Ideal)⟩]) (ix2 m j) = A.back 8 (n + m.val) j := by
  by_cases hm : 8 ≤ m.val
  · exact window_own A n arg17 w hw _ _ m hm j
  · refine (View.read_writes_cons_miss_of_axis arg17.view _ _ _ (ix2 m j) 0 8 256 rfl rfl rfl (Or.inl (by show m.val < 8; omega))).trans ?_
    refine (View.read_writes_cons_hit_of_coords arg17.view f (Rect.unit (s := S264x1024) ![0, 0] S8x1024.size inb_S264x1024_S8x1024_0_0) (k0_pay3 (F := Ideal)) [] (ix2 (⟨m.val, by omega⟩ : Fin 8) j) (ix2 m j) fun a => ?_).trans ?_
    · match a with
      | ⟨0, _⟩ => show m.val = 0 + 1 * m.val; omega
      | ⟨1, _⟩ => show j.val = 0 + 1 * j.val; omega
    · unfold LruArgs.back
      rw [if_neg (by omega)]
      exact zeroRows_at _ _

/-- A load of the window. -/
theorem shifted (X : Vec Ideal S264x1024 .f32) (hX : ∀ m j, X (ix2 m j) = A.back 8 (n + m.val) j) (o e p : ℕ) (hp : o + p ≤ 264)
    (inb : ∀ a, (![o, 0] : Fin 2 → ℕ) a + (![p, 1024] : Fin 2 → ℕ) a ≤ S264x1024.size a) (T : ℕ) (r : Fin p) (ht : n + (o + r.val) + e = T + 8) (j : Fin 1024) :
    View.ld X (Rect.unit (s := S264x1024) ![o, 0] ![p, 1024] inb) (ix2 r j) = A.back e T j := by
  refine (ld2 X inb r j ⟨o + r.val, by omega⟩ j rfl (by omega)).trans ((hX _ j).trans ?_)
  exact A.back_from 8 e T _ ht j

/-- A list of stores whose newest is of the whole buffer reads as that store. -/
theorem newest2 {sp : Space} {p q : ℕ} {e : EltTy} (arg : Memref sig .tc sp ⟨2, ![p, q]⟩ e) (f)
    (inb : ∀ a, (![0, 0] : Fin 2 → ℕ) a + (![p, q] : Fin 2 → ℕ) a ≤ (⟨2, ![p, q]⟩ : Shape).size a) (w : Vec Ideal ⟨2, ![p, q]⟩ e)
    (L : List (View.Piece (Elt Ideal) ⟨2, ![p, q]⟩ e)) (i : Fin p) (j : Fin q) :
    View.read (Elt Ideal) arg.view (arg.view.writes (Elt Ideal) f (⟨Rect.unit ![0, 0] ![p, q] inb, w⟩ :: L)) (ix2 i j) = w (ix2 i j) :=
  View.read_writes_cons_hit_of_coords arg.view f (Rect.unit ![0, 0] ![p, q] inb) w L (ix2 i j) (ix2 i j) fun a => by
    match a with
    | ⟨0, _⟩ => show i.val = 0 + 1 * i.val; omega
    | ⟨1, _⟩ => show j.val = 0 + 1 * j.val; omega

end Body

end Cert.LruIdeal.Block

end
-- ==== Proof.LruPoint.lean ====
/- The LRU branch's body at a point, from named contents: what it leaves in its output, in the window carried to the next
   block and in the state carried to the next block. -/
module

public import proofs.«01_k».proof.Proof.LruBlock

@[expose] public section

set_option maxRecDepth 16384

noncomputable section

open Idealize.ShloMosaic Idealize.ShloMosaic.TcCoe Idealize.SL.Sem

namespace Cert.LruIdeal.Block

open Cert.LruIdeal Cert.LruIdeal.Gen Cert.LruIdeal.Rows Cert.LruIdeal.Groups Cert.LruIdeal.Point Cert.Layer
open Cert.LruIdeal.Hand (fresh)

open scoped BigOperators

variable (A : LruArgs) (n : ℕ)

section Body

variable (arg2 : Memref sig .tc .vmem S1x256x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x2048 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S4x256x256 .bf16) (harg8 : arg8.IsWhole)
  (arg9 : Memref sig .tc .vmem S1x1024 .f32) (harg9 : arg9.IsWhole)
  (arg10 : Memref sig .tc .vmem S4x256x256 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1x256x1024 .f32) (harg16 : arg16.IsWhole)
  (arg17 : Memref sig .tc .vmem S264x1024 .f32) (harg17 : arg17.IsWhole)
  (arg18 : Memref sig .tc .vmem S256x1024 .f32) (harg18 : arg18.IsWhole)
  (arg19 : Memref sig .tc .vmem S256x1024 .f32) (harg19 : arg19.IsWhole)
  (arg20 : Memref sig .tc .vmem S8x1024 .f32) (harg20 : arg20.IsWhole)
  (c : Dev nD) (i : grid0.Coords)

set_option maxHeartbeats 1600000 in
/-- What the body leaves at a point where the sequence goes on. -/
theorem next_at (x0 : Vec Ideal S1x256x1024 .f32) (x1 : Vec Ideal S1x1024 .f32) (x2 : Vec Ideal S1024x2048 .bf16) (x3 : Vec Ideal S1x2048 .f32) (x4 : Vec Ideal S4x1024 .f32) (x5 : Vec Ideal S1x1024 .f32) (x6 : Vec Ideal S4x256x256 .bf16) (x7 : Vec Ideal S1x1024 .f32) (x8 : Vec Ideal S4x256x256 .bf16) (x9 : Vec Ideal S1x1024 .f32) (x10 : Vec Ideal S1x1024 .f32) (x11 : Vec Ideal S1024x1024 .bf16) (x12 : Vec Ideal S1x1024 .f32) (x13 : Vec Ideal S1024x1024 .bf16)
    (xs : Vec Ideal S264x1024 .f32) (ga gb : Vec Ideal S256x1024 .f32) (hs : Vec Ideal S8x1024 .f32) (H : Holds A n x0 x1 x2 x3 x4 x5 x6 x7 x8 x9 x10 x11 x12 x13) (hc : ¬ fresh i) (hxs : ∀ (q : Fin 8) j, xs (ix2 (⟨q.val, by omega⟩ : Fin 264) j) = A.back 8 (n + q.val) j)
    (hhs : ∀ q j, hs (ix2 q j) = A.state j n) :
    (∀ f r j, View.read (Elt Ideal) arg16.view (arg16.view.writes (Elt Ideal) f (runNext (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i hc x0 x1 x2 x3 x4 x5 x6 x7 x8 x9 x10 x11 x12 x13 xs ga gb hs).1) (ix3 0 r j) = A.out (n + r.val) j)
    ∧ (∀ f (q : Fin 8) j, View.read (Elt Ideal) arg17.view (arg17.view.writes (Elt Ideal) f (runNext (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i hc x0 x1 x2 x3 x4 x5 x6 x7 x8 x9 x10 x11 x12 x13 xs ga gb hs).2.1)
        (ix2 (⟨q.val, by omega⟩ : Fin 264) j) = A.back 8 (n + 256 + q.val) j)
    ∧ (∀ f q j, View.read (Elt Ideal) arg20.view (arg20.view.writes (Elt Ideal) f (runNext (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i hc x0 x1 x2 x3 x4 x5 x6 x7 x8 x9 x10 x11 x12 x13 xs ga gb hs).2.2.1) (ix2 q j) = A.state j (n + 256)) := by
  have HL := loads_of A n arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 H
  have hw := window_next A n arg17 harg17 _ (own_at A n HL.x HL.g HL.wp HL.bp) xs hxs
  have hi : ∀ q j, (View.readAt (Elt Ideal) arg20.view (Rect.unit (s := S8x1024) ![0, 0] S8x1024.size inb_S8x1024_S8x1024_0_0).toLoadRect (harg20.unread hs)) (ix2 q j) = A.state j n := by
    intro q j
    rw [← hhs q j]
    show View.ld (View.read (Elt Ideal) arg20.view (harg20.unread hs)) (Rect.unit (s := S8x1024) ![0, 0] S8x1024.size inb_S8x1024_S8x1024_0_0) (ix2 q j) = _
    rw [View.ld_unit_zero z2, harg20.read_unread]
  unfold runNext
  dsimp only
  refine ⟨fun f r j => ?_, fun f q j => ?_, fun f q j => ?_⟩
  · refine (View.read_writes_cons_hit_of_coords arg16.view f _ _ _ (ix3 0 r j) (ix3 0 r j) fun a => ?_).trans ?_
    · match a with
      | ⟨0, _⟩ => show 0 = 0 + 1 * 0; rfl
      | ⟨1, _⟩ => show r.val = 0 + 1 * r.val; omega
      | ⟨2, _⟩ => show j.val = 0 + 1 * j.val; omega
    · refine (body_at A n arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i _ _ _ _ _ _ _ _ _ _ _ _ _ _ _ _ _ _ _ _ _ _ _ _ _ _ _ _ _ _ _ _ _ _ _ _ _
        (View.ld (View.read (Elt Ideal) arg17.view (arg17.view.writes (Elt Ideal) (harg17.unread xs) [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩])) (Rect.unit (s := S264x1024) ![5, 0] S256x1024.size inb_S264x1024_S256x1024_5_0)) (View.ld (View.read (Elt Ideal) arg17.view (arg17.view.writes (Elt Ideal) (harg17.unread xs) [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩])) (Rect.unit (s := S264x1024) ![6, 0] S256x1024.size inb_S264x1024_S256x1024_6_0)) (View.ld (View.read (Elt Ideal) arg17.view (arg17.view.writes (Elt Ideal) (harg17.unread xs) [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩])) (Rect.unit (s := S264x1024) ![7, 0] S256x1024.size inb_S264x1024_S256x1024_7_0)) _ HL (fun r c => ?_) (fun r c => ?_) (fun r c => ?_) hi).1 r j
      · exact shifted A n _ hw 5 3 256 (by omega) _ _ r (by omega) c
      · exact shifted A n _ hw 6 2 256 (by omega) _ _ r (by omega) c
      · exact shifted A n _ hw 7 1 256 (by omega) _ _ r (by omega) c
  · refine (View.read_writes_cons_hit_of_coords arg17.view f _ _ _ (ix2 q j) (ix2 (⟨q.val, by omega⟩ : Fin 264) j) fun a => ?_).trans ?_
    · match a with
      | ⟨0, _⟩ => show q.val = 0 + 1 * q.val; omega
      | ⟨1, _⟩ => show j.val = 0 + 1 * j.val; omega
    · rw [tail_stored]
      show View.ld (View.read (Elt Ideal) arg17.view (arg17.view.writes (Elt Ideal) arg17.view.junk [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩])) (Rect.unit (s := S264x1024) ![256, 0] S8x1024.size inb_S264x1024_S8x1024_256_0) (ix2 q j) = _
      refine (ld2 _ inb_S264x1024_S8x1024_256_0 q j ⟨256 + q.val, by omega⟩ j rfl (by omega)).trans ?_
      refine (window_own A n arg17 _ (own_at A n HL.x HL.g HL.wp HL.bp) _ _ _ (by show 8 ≤ 256 + q.val; omega) j).trans ?_
      show A.back 8 (n + (256 + q.val)) j = _
      rw [Nat.add_assoc]
  · refine (View.read_writes_cons_hit_of_coords arg20.view f _ _ _ (ix2 q j) (ix2 q j) fun a => ?_).trans ?_
    · match a with
      | ⟨0, _⟩ => show q.val = 0 + 1 * q.val; omega
      | ⟨1, _⟩ => show j.val = 0 + 1 * j.val; omega
    · rw [carry_stored]
      refine (body_at A n arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i _ _ _ _ _ _ _ _ _ _ _ _ _ _ _ _ _ _ _ _ _ _ _ _ _ _ _ _ _ _ _ _ _ _ _ _ _
        (View.ld (View.read (Elt Ideal) arg17.view (arg17.view.writes (Elt Ideal) (harg17.unread xs) [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩])) (Rect.unit (s := S264x1024) ![5, 0] S256x1024.size inb_S264x1024_S256x1024_5_0)) (View.ld (View.read (Elt Ideal) arg17.view (arg17.view.writes (Elt Ideal) (harg17.unread xs) [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩])) (Rect.unit (s := S264x1024) ![6, 0] S256x1024.size inb_S264x1024_S256x1024_6_0)) (View.ld (View.read (Elt Ideal) arg17.view (arg17.view.writes (Elt Ideal) (harg17.unread xs) [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩])) (Rect.unit (s := S264x1024) ![7, 0] S256x1024.size inb_S264x1024_S256x1024_7_0)) _ HL (fun r c => ?_) (fun r c => ?_) (fun r c => ?_) hi).2 q j
      · exact shifted A n _ hw 5 3 256 (by omega) _ _ r (by omega) c
      · exact shifted A n _ hw 6 2 256 (by omega) _ _ r (by omega) c
      · exact shifted A n _ hw 7 1 256 (by omega) _ _ r (by omega) c

set_option maxHeartbeats 1600000 in
/-- What the body leaves at a point where the sequence begins. -/
theorem fresh_at (x0 : Vec Ideal S1x256x1024 .f32) (x1 : Vec Ideal S1x1024 .f32) (x2 : Vec Ideal S1024x2048 .bf16) (x3 : Vec Ideal S1x2048 .f32) (x4 : Vec Ideal S4x1024 .f32) (x5 : Vec Ideal S1x1024 .f32) (x6 : Vec Ideal S4x256x256 .bf16) (x7 : Vec Ideal S1x1024 .f32) (x8 : Vec Ideal S4x256x256 .bf16) (x9 : Vec Ideal S1x1024 .f32) (x10 : Vec Ideal S1x1024 .f32) (x11 : Vec Ideal S1024x1024 .bf16) (x12 : Vec Ideal S1x1024 .f32) (x13 : Vec Ideal S1024x1024 .bf16)
    (xs : Vec Ideal S264x1024 .f32) (ga gb : Vec Ideal S256x1024 .f32) (hs : Vec Ideal S8x1024 .f32) (H : Holds A n x0 x1 x2 x3 x4 x5 x6 x7 x8 x9 x10 x11 x12 x13) (hc : fresh i) (hn : n = 0) :
    (∀ f r j, View.read (Elt Ideal) arg16.view (arg16.view.writes (Elt Ideal) f (runFresh (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i hc x0 x1 x2 x3 x4 x5 x6 x7 x8 x9 x10 x11 x12 x13 xs ga gb hs).1) (ix3 0 r j) = A.out (n + r.val) j)
    ∧ (∀ f (q : Fin 8) j, View.read (Elt Ideal) arg17.view (arg17.view.writes (Elt Ideal) f (runFresh (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i hc x0 x1 x2 x3 x4 x5 x6 x7 x8 x9 x10 x11 x12 x13 xs ga gb hs).2.1)
        (ix2 (⟨q.val, by omega⟩ : Fin 264) j) = A.back 8 (n + 256 + q.val) j)
    ∧ (∀ f q j, View.read (Elt Ideal) arg20.view (arg20.view.writes (Elt Ideal) f (runFresh (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i hc x0 x1 x2 x3 x4 x5 x6 x7 x8 x9 x10 x11 x12 x13 xs ga gb hs).2.2.1) (ix2 q j) = A.state j (n + 256)) := by
  have HL := loads_of A n arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 H
  have hw := window_fresh A n arg17 _ (own_at A n HL.x HL.g HL.wp HL.bp) hn arg17.view.junk
  have hi : ∀ q j, (arg20.view.readCov ([⟨Rect.unit (s := S8x1024) ![0, 0] S8x1024.size inb_S8x1024_S8x1024_0_0, k0_pay4 (F := Ideal)⟩] : List (View.Piece (Elt Ideal) S8x1024 .f32)) (Rect.unit (s := S8x1024) ![0, 0] S8x1024.size inb_S8x1024_S8x1024_0_0).toLoadRect) (ix2 q j) = A.state j n := by
    subst hn
    intro q j
    show View.ld (View.read (Elt Ideal) arg20.view (arg20.view.writes (Elt Ideal) arg20.view.junk [⟨Rect.unit (s := S8x1024) ![0, 0] S8x1024.size inb_S8x1024_S8x1024_0_0, k0_pay4 (F := Ideal)⟩])) (Rect.unit (s := S8x1024) ![0, 0] S8x1024.size inb_S8x1024_S8x1024_0_0) (ix2 q j) = _
    rw [View.ld_unit_zero z2]
    exact (newest2 arg20 _ inb_S8x1024_S8x1024_0_0 (k0_pay4 (F := Ideal)) [] q j).trans (zeroState_at q j)
  unfold runFresh
  dsimp only
  refine ⟨fun f r j => ?_, fun f q j => ?_, fun f q j => ?_⟩
  · refine (View.read_writes_cons_hit_of_coords arg16.view f _ _ _ (ix3 0 r j) (ix3 0 r j) fun a => ?_).trans ?_
    · match a with
      | ⟨0, _⟩ => show 0 = 0 + 1 * 0; rfl
      | ⟨1, _⟩ => show r.val = 0 + 1 * r.val; omega
      | ⟨2, _⟩ => show j.val = 0 + 1 * j.val; omega
    · refine (body_at A n arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i _ _ _ _ _ _ _ _ _ _ _ _ _ _ _ _ _ _ _ _ _ _ _ _ _ _ _ _ _ _ _ _ _ _ _ _ _
        (View.ld (View.read (Elt Ideal) arg17.view (arg17.view.writes (Elt Ideal) arg17.view.junk [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩, ⟨Rect.unit (s := S264x1024) ![0, 0] S8x1024.size inb_S264x1024_S8x1024_0_0, k0_pay3 (F := Ideal)⟩])) (Rect.unit (s := S264x1024) ![5, 0] S256x1024.size inb_S264x1024_S256x1024_5_0)) (View.ld (View.read (Elt Ideal) arg17.view (arg17.view.writes (Elt Ideal) arg17.view.junk [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩, ⟨Rect.unit (s := S264x1024) ![0, 0] S8x1024.size inb_S264x1024_S8x1024_0_0, k0_pay3 (F := Ideal)⟩])) (Rect.unit (s := S264x1024) ![6, 0] S256x1024.size inb_S264x1024_S256x1024_6_0)) (View.ld (View.read (Elt Ideal) arg17.view (arg17.view.writes (Elt Ideal) arg17.view.junk [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩, ⟨Rect.unit (s := S264x1024) ![0, 0] S8x1024.size inb_S264x1024_S8x1024_0_0, k0_pay3 (F := Ideal)⟩])) (Rect.unit (s := S264x1024) ![7, 0] S256x1024.size inb_S264x1024_S256x1024_7_0)) _ HL (fun r c => ?_) (fun r c => ?_) (fun r c => ?_) hi).1 r j
      · exact shifted A n _ hw 5 3 256 (by omega) _ _ r (by omega) c
      · exact shifted A n _ hw 6 2 256 (by omega) _ _ r (by omega) c
      · exact shifted A n _ hw 7 1 256 (by omega) _ _ r (by omega) c
  · refine (View.read_writes_cons_hit_of_coords arg17.view f _ _ _ (ix2 q j) (ix2 (⟨q.val, by omega⟩ : Fin 264) j) fun a => ?_).trans ?_
    · match a with
      | ⟨0, _⟩ => show q.val = 0 + 1 * q.val; omega
      | ⟨1, _⟩ => show j.val = 0 + 1 * j.val; omega
    · rw [tail_stored]
      show View.ld (View.read (Elt Ideal) arg17.view (arg17.view.writes (Elt Ideal) arg17.view.junk [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩, ⟨Rect.unit (s := S264x1024) ![0, 0] S8x1024.size inb_S264x1024_S8x1024_0_0, k0_pay3 (F := Ideal)⟩])) (Rect.unit (s := S264x1024) ![256, 0] S8x1024.size inb_S264x1024_S8x1024_256_0) (ix2 q j) = _
      refine (ld2 _ inb_S264x1024_S8x1024_256_0 q j ⟨256 + q.val, by omega⟩ j rfl (by omega)).trans ?_
      refine (window_own A n arg17 _ (own_at A n HL.x HL.g HL.wp HL.bp) _ _ _ (by show 8 ≤ 256 + q.val; omega) j).trans ?_
      show A.back 8 (n + (256 + q.val)) j = _
      rw [Nat.add_assoc]
  · refine (View.read_writes_cons_hit_of_coords arg20.view f _ _ _ (ix2 q j) (ix2 q j) fun a => ?_).trans ?_
    · match a with
      | ⟨0, _⟩ => show q.val = 0 + 1 * q.val; omega
      | ⟨1, _⟩ => show j.val = 0 + 1 * j.val; omega
    · rw [carry_stored]
      refine (body_at A n arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i _ _ _ _ _ _ _ _ _ _ _ _ _ _ _ _ _ _ _ _ _ _ _ _ _ _ _ _ _ _ _ _ _ _ _ _ _
        (View.ld (View.read (Elt Ideal) arg17.view (arg17.view.writes (Elt Ideal) arg17.view.junk [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩, ⟨Rect.unit (s := S264x1024) ![0, 0] S8x1024.size inb_S264x1024_S8x1024_0_0, k0_pay3 (F := Ideal)⟩])) (Rect.unit (s := S264x1024) ![5, 0] S256x1024.size inb_S264x1024_S256x1024_5_0)) (View.ld (View.read (Elt Ideal) arg17.view (arg17.view.writes (Elt Ideal) arg17.view.junk [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩, ⟨Rect.unit (s := S264x1024) ![0, 0] S8x1024.size inb_S264x1024_S8x1024_0_0, k0_pay3 (F := Ideal)⟩])) (Rect.unit (s := S264x1024) ![6, 0] S256x1024.size inb_S264x1024_S256x1024_6_0)) (View.ld (View.read (Elt Ideal) arg17.view (arg17.view.writes (Elt Ideal) arg17.view.junk [⟨Rect.unit (s := S264x1024) ![8, 0] S256x1024.size inb_S264x1024_S256x1024_8_0, k0_pay7 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x2048) ![0, 0] S1024x1024.size inb_S1024x2048_S1024x1024_0_0).toLoadRect (harg4.unread x2)) (View.readAt (Elt Ideal) arg5.view (Rect.unit (s := S1x2048) ![0, 0] S1x1024.size inb_S1x2048_S1x1024_0_0).toLoadRect (harg5.unread x3))⟩, ⟨Rect.unit (s := S264x1024) ![0, 0] S8x1024.size inb_S264x1024_S8x1024_0_0, k0_pay3 (F := Ideal)⟩])) (Rect.unit (s := S264x1024) ![7, 0] S256x1024.size inb_S264x1024_S256x1024_7_0)) _ HL (fun r c => ?_) (fun r c => ?_) (fun r c => ?_) hi).2 q j
      · exact shifted A n _ hw 5 3 256 (by omega) _ _ r (by omega) c
      · exact shifted A n _ hw 6 2 256 (by omega) _ _ r (by omega) c
      · exact shifted A n _ hw 7 1 256 (by omega) _ _ r (by omega) c

end Body

end Cert.LruIdeal.Block

end
-- ==== Proof.LruCarry.lean ====
/- The body at a grid point, from carried contents: the output block is the branch's rows, and the window and the state carried
   to the next block are those of its tokens. -/
module

public import proofs.«01_k».proof.Proof.LruPoint

@[expose] public section

set_option maxRecDepth 16384

noncomputable section

namespace Cert.LruIdeal.Block

open Cert.LruIdeal Cert.LruIdeal.Gen Cert.LruIdeal.Point Cert.Layer
open Cert.LruIdeal.Hand (fresh some_owns)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (A : LruArgs) (n : ℕ)

/-- What is carried to the block of tokens `n`, `n + 1`, …: the eight rows before it and the state before it. -/
def Carried (xs : Vec Ideal S264x1024 .f32) (hs : Vec Ideal S8x1024 .f32) : Prop :=
  (∀ (q : Fin 8) j, xs (ix2 (⟨q.val, by omega⟩ : Fin 264) j) = A.back 8 (n + q.val) j) ∧ ∀ q j, hs (ix2 q j) = A.state j n

/-- The branch's rows of the block. -/
def rows : Vec Ideal S1x256x1024 .f32 := fun i => A.out (n + (i 1).val) (i 2)

section Body

variable (arg2 : Memref sig .tc .vmem S1x256x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x2048 .f32) (harg5 : arg5.IsWhole)
  (arg6 : Memref sig .tc .vmem S4x1024 .f32) (harg6 : arg6.IsWhole)
  (arg7 : Memref sig .tc .vmem S1x1024 .f32) (harg7 : arg7.IsWhole)
  (arg8 : Memref sig .tc .vmem S4x256x256 .bf16) (harg8 : arg8.IsWhole)
  (arg9 : Memref sig .tc .vmem S1x1024 .f32) (harg9 : arg9.IsWhole)
  (arg10 : Memref sig .tc .vmem S4x256x256 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S1x256x1024 .f32) (harg16 : arg16.IsWhole)
  (arg17 : Memref sig .tc .vmem S264x1024 .f32) (harg17 : arg17.IsWhole)
  (arg18 : Memref sig .tc .vmem S256x1024 .f32) (harg18 : arg18.IsWhole)
  (arg19 : Memref sig .tc .vmem S256x1024 .f32) (harg19 : arg19.IsWhole)
  (arg20 : Memref sig .tc .vmem S8x1024 .f32) (harg20 : arg20.IsWhole)

/-- From a run of the body whose pieces read as the branch's rows and the carried contents. -/
theorem point_of (c : Dev nD) (i : grid0.Coords) (x0 : Vec Ideal S1x256x1024 .f32) (x1 : Vec Ideal S1x1024 .f32) (x2 : Vec Ideal S1024x2048 .bf16) (x3 : Vec Ideal S1x2048 .f32) (x4 : Vec Ideal S4x1024 .f32) (x5 : Vec Ideal S1x1024 .f32) (x6 : Vec Ideal S4x256x256 .bf16) (x7 : Vec Ideal S1x1024 .f32) (x8 : Vec Ideal S4x256x256 .bf16) (x9 : Vec Ideal S1x1024 .f32) (x10 : Vec Ideal S1x1024 .f32) (x11 : Vec Ideal S1024x1024 .bf16) (x12 : Vec Ideal S1x1024 .f32) (x13 : Vec Ideal S1024x1024 .bf16)
    (xs : Vec Ideal S264x1024 .f32) (ga gb : Vec Ideal S256x1024 .f32) (hs : Vec Ideal S8x1024 .f32)
    (L14 : List (View.Piece (Elt Ideal) S1x256x1024 .f32)) (L15 : List (View.Piece (Elt Ideal) S264x1024 .f32))
    (L18 : List (View.Piece (Elt Ideal) S8x1024 .f32))
    (run : ∀ K : PUnit → sProp 𝕄, iprop(Inputs arg2 arg3 arg4 arg5 arg6 arg7 arg8 arg9 arg10 arg11 arg12 arg13 arg14 arg15 c x0 x1 x2 x3 x4 x5 x6 x7 x8 x9 x10 x11 x12 x13 ∗ some_owns c arg16 ∗ owns (c : Thread nD τ) arg17 fullShare xs ∗ owns (c : Thread nD τ) arg18 fullShare ga ∗ owns (c : Thread nD τ) arg19 fullShare gb ∗ owns (c : Thread nD τ) arg20 fullShare hs
          ∗ (iprop(Inputs arg2 arg3 arg4 arg5 arg6 arg7 arg8 arg9 arg10 arg11 arg12 arg13 arg14 arg15 c x0 x1 x2 x3 x4 x5 x6 x7 x8 x9 x10 x11 x12 x13 ∗ (∃ f, arg16.view.loc (c : Thread nD τ) ↦[arg16.view.set]{fullShare} arg16.view.writes (Elt Ideal) f L14) ∗ (∃ f, arg17.view.loc (c : Thread nD τ) ↦[arg17.view.set]{fullShare} arg17.view.writes (Elt Ideal) f L15)
              ∗ some_owns c arg18 ∗ some_owns c arg19 ∗ (∃ f, arg20.view.loc (c : Thread nD τ) ↦[arg20.view.set]{fullShare} arg20.view.writes (Elt Ideal) f L18)) -∗ K ⟨⟩))
        ⊢ wp frame (wpE (defs₀ (F := Ideal)) Variants.none c none) Set.univ (cc0_branch_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K)
    (P : (∀ f r j, View.read (Elt Ideal) arg16.view (arg16.view.writes (Elt Ideal) f L14) (ix3 0 r j) = A.out (n + r.val) j)
      ∧ (∀ f (q : Fin 8) j, View.read (Elt Ideal) arg17.view (arg17.view.writes (Elt Ideal) f L15) (ix2 (⟨q.val, by omega⟩ : Fin 264) j) = A.back 8 (n + 256 + q.val) j)
      ∧ (∀ f q j, View.read (Elt Ideal) arg20.view (arg20.view.writes (Elt Ideal) f L18) (ix2 q j) = A.state j (n + 256)))
    (K : PUnit → sProp 𝕄) :
    iprop(Inputs arg2 arg3 arg4 arg5 arg6 arg7 arg8 arg9 arg10 arg11 arg12 arg13 arg14 arg15 c x0 x1 x2 x3 x4 x5 x6 x7 x8 x9 x10 x11 x12 x13 ∗ some_owns c arg16 ∗ owns (c : Thread nD τ) arg17 fullShare xs ∗ owns (c : Thread nD τ) arg18 fullShare ga ∗ owns (c : Thread nD τ) arg19 fullShare gb ∗ owns (c : Thread nD τ) arg20 fullShare hs
        ∗ (iprop(Inputs arg2 arg3 arg4 arg5 arg6 arg7 arg8 arg9 arg10 arg11 arg12 arg13 arg14 arg15 c x0 x1 x2 x3 x4 x5 x6 x7 x8 x9 x10 x11 x12 x13 ∗ owns (c : Thread nD τ) arg16 fullShare (rows A n)
            ∗ (∃ xs' hs', ⌜Carried A (n + 256) xs' hs'⌝ ∗ owns (c : Thread nD τ) arg17 fullShare xs' ∗ owns (c : Thread nD τ) arg20 fullShare hs')
            ∗ some_owns c arg18 ∗ some_owns c arg19) -∗ K ⟨⟩))
      ⊢ wp frame (wpE (defs₀ (F := Ideal)) Variants.none c none) Set.univ (cc0_branch_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  refine BIBase.Entails.trans ?_ (run K)
  iintro ⟨HI, H16, H17, H18, H19, H20, Hk⟩
  isplitl [HI]; · iexact HI
  isplitl [H16]; · iexact H16
  isplitl [H17]; · iexact H17
  isplitl [H18]; · iexact H18
  isplitl [H19]; · iexact H19
  isplitl [H20]; · iexact H20
  iintro ⟨HI, ⟨%e16, H16⟩, ⟨%e17, H17⟩, H18, H19, ⟨%e20, H20⟩⟩
  iapply Hk
  isplitl [HI]; · iexact HI
  isplitl [H16]
  · unfold owns; iexists _; isplitr
    swap; · iexact H16
    ipureintro
    funext y
    obtain ⟨r, j, rfl⟩ := exists_slab (n1 := 256) (n2 := 1024) y
    exact P.1 e16 r j
  isplitl [H17 H20]
  · iexists _; iexists _; isplitr
    · ipureintro; exact ⟨P.2.1 e17, P.2.2 e20⟩
    isplitl [H17]
    · unfold owns; iexists _; isplitr
      swap; · iexact H17
      ipureintro; rfl
    · unfold owns; iexists _; isplitr
      swap; · iexact H20
      ipureintro; rfl
  isplitl [H18]; · iexact H18
  iexact H19

/-- The body at a grid point: at a sample's first block nothing is asked of the carried contents. -/
theorem point (c : Dev nD) (i : grid0.Coords) (x0 : Vec Ideal S1x256x1024 .f32) (x1 : Vec Ideal S1x1024 .f32) (x2 : Vec Ideal S1024x2048 .bf16) (x3 : Vec Ideal S1x2048 .f32) (x4 : Vec Ideal S4x1024 .f32) (x5 : Vec Ideal S1x1024 .f32) (x6 : Vec Ideal S4x256x256 .bf16) (x7 : Vec Ideal S1x1024 .f32) (x8 : Vec Ideal S4x256x256 .bf16) (x9 : Vec Ideal S1x1024 .f32) (x10 : Vec Ideal S1x1024 .f32) (x11 : Vec Ideal S1024x1024 .bf16) (x12 : Vec Ideal S1x1024 .f32) (x13 : Vec Ideal S1024x1024 .bf16)
    (xs : Vec Ideal S264x1024 .f32) (ga gb : Vec Ideal S256x1024 .f32) (hs : Vec Ideal S8x1024 .f32) (H : Holds A n x0 x1 x2 x3 x4 x5 x6 x7 x8 x9 x10 x11 x12 x13)
    (hn : fresh i → n = 0) (hk : ¬ fresh i → Carried A n xs hs) (K : PUnit → sProp 𝕄) :
    iprop(Inputs arg2 arg3 arg4 arg5 arg6 arg7 arg8 arg9 arg10 arg11 arg12 arg13 arg14 arg15 c x0 x1 x2 x3 x4 x5 x6 x7 x8 x9 x10 x11 x12 x13 ∗ some_owns c arg16 ∗ owns (c : Thread nD τ) arg17 fullShare xs ∗ owns (c : Thread nD τ) arg18 fullShare ga ∗ owns (c : Thread nD τ) arg19 fullShare gb ∗ owns (c : Thread nD τ) arg20 fullShare hs
        ∗ (iprop(Inputs arg2 arg3 arg4 arg5 arg6 arg7 arg8 arg9 arg10 arg11 arg12 arg13 arg14 arg15 c x0 x1 x2 x3 x4 x5 x6 x7 x8 x9 x10 x11 x12 x13 ∗ owns (c : Thread nD τ) arg16 fullShare (rows A n)
            ∗ (∃ xs' hs', ⌜Carried A (n + 256) xs' hs'⌝ ∗ owns (c : Thread nD τ) arg17 fullShare xs' ∗ owns (c : Thread nD τ) arg20 fullShare hs')
            ∗ some_owns c arg18 ∗ some_owns c arg19) -∗ K ⟨⟩))
      ⊢ wp frame (wpE (defs₀ (F := Ideal)) Variants.none c none) Set.univ (cc0_branch_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc : fresh i
  · exact point_of A n arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i x0 x1 x2 x3 x4 x5 x6 x7 x8 x9 x10 x11 x12 x13 xs ga gb hs _ _ _
      (runFresh (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i hc x0 x1 x2 x3 x4 x5 x6 x7 x8 x9 x10 x11 x12 x13 xs ga gb hs).2.2.2
      (fresh_at A n arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i x0 x1 x2 x3 x4 x5 x6 x7 x8 x9 x10 x11 x12 x13 xs ga gb hs H hc (hn hc)) K
  · exact point_of A n arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i x0 x1 x2 x3 x4 x5 x6 x7 x8 x9 x10 x11 x12 x13 xs ga gb hs _ _ _
      (runNext (F := Ideal) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i hc x0 x1 x2 x3 x4 x5 x6 x7 x8 x9 x10 x11 x12 x13 xs ga gb hs).2.2.2
      (next_at A n arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c i x0 x1 x2 x3 x4 x5 x6 x7 x8 x9 x10 x11 x12 x13 xs ga gb hs H hc (hk hc).1 (hk hc).2) K

end Body

end Cert.LruIdeal.Block

end
-- ==== Proof.LruHost.lean ====
/- The arrays that the recurrence's host code prepares, read at an index of the arguments, the blocks of the operands that a
   grid point reads, and that they hold the point's block of its sample. -/
module

public import proofs.«01_k».proof.Proof.LruPoint
public import proofs.«01_k».proof.Proof.Layer.LruArrays
public import Idealize.ShloMosaic.Lib.StableHlo.ReadAt

@[expose] public section

set_option maxRecDepth 16384

noncomputable section

open Idealize.ShloMosaic Idealize.ShloMosaic.TcCoe Idealize.SL.Sem

namespace Cert.LruIdeal.Host

open Cert.LruIdeal Cert.LruIdeal.Gen Cert.LruIdeal.Block Cert.Layer

variable (m : (ℓ : Loc nD τ sig) → Buf (Elt Ideal) ℓ) (c : Dev nD)

theorem v7_at (k : Fin 1024) : V m c main_v7 (ix2 0 k) = m (c.tc.loc main_arg1) (ix2 0 k) := by
  unfold V; after_reads_at

theorem v14_at (k : Fin 1024) : V m c main_v14 (ix2 0 k) = m (c.tc.loc main_arg5) (ix2 0 k) := by
  unfold V; after_reads_at

theorem v18_at (k : Fin 1024) : V m c main_v18 (ix2 0 k) = m (c.tc.loc main_arg7) (ix2 0 k) := by
  unfold V; after_reads_at

theorem v22_at (k : Fin 1024) : V m c main_v22 (ix2 0 k) = m (c.tc.loc main_arg9) (ix2 0 k) := by
  unfold V; after_reads_at

theorem v24_at (k : Fin 1024) : V m c main_v24 (ix2 0 k) = m (c.tc.loc main_arg10) (ix2 0 k) := by
  unfold V; after_reads_at

theorem v8_at (k : Fin 1024) (j : Fin 2048) :
    V m c main_v8 (ix2 k j) = m (c.tc.loc main_arg2) (ix3 0 k ⟨j.val, by omega⟩) := by
  unfold V; after_reads_at

theorem v9_at (j : Fin 2048) : V m c main_v9 (ix2 0 j) = m (c.tc.loc main_arg3) (ix2 0 ⟨j.val, by omega⟩) := by
  unfold V; after_reads_at

theorem v12_at (e : Fin 4) (k : Fin 1024) : V m c main_v12 (ix2 e k) = m (c.tc.loc main_arg4) (ix3 0 e k) := by
  unfold V; after_reads_at

theorem v16_at (h : Fin 4) (k d : Fin 256) : V m c main_v16 (ix3 h k d) = m (c.tc.loc main_arg6) (ix4 0 h k d) := by
  unfold V; after_reads_at

theorem v20_at (h : Fin 4) (k d : Fin 256) : V m c main_v20 (ix3 h k d) = m (c.tc.loc main_arg8) (ix4 0 h k d) := by
  unfold V; after_reads_at

theorem v25_at (k j : Fin 1024) :
    V m c main_v25 (ix2 k j) = m (c.tc.loc main_arg2) (ix3 0 k ⟨6144 + j.val, by omega⟩) := by
  unfold V; after_reads_at

theorem v26_at (j : Fin 1024) : V m c main_v26 (ix2 0 j) = m (c.tc.loc main_arg3) (ix2 0 ⟨6144 + j.val, by omega⟩) := by
  unfold V; after_reads_at

theorem v28_at (k j : Fin 1024) : V m c main_v28 (ix2 k j) = m (c.tc.loc main_arg11) (ix4 0 0 k j) := by
  unfold V; after_reads_at

/-! ## The blocks -/

/-- The sample of a grid point, and the first token of its block. -/
def smp (t : Fin cfg0.N) : Fin 2 := ⟨t.val / 32, by have : t.val < 64 := t.isLt; omega⟩
def start (t : ℕ) : ℕ := t % 32 * 256

/-- The block indices of the moving windows at a point. -/
theorem index_moving : ∀ t : Fin grid0.N,
    win0_0.index t 0 = t.val / 32 ∧ win0_0.index t 1 = t.val % 32 ∧ win0_0.index t 2 = 0
    ∧ win0_14.index t 0 = t.val / 32 ∧ win0_14.index t 1 = t.val % 32 ∧ win0_14.index t 2 = 0 := by decide +kernel

/-- The others stay at the first block. -/
theorem index_still : ∀ t : Fin grid0.N,
    win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0
    ∧ win0_5.index t 0 = 0 ∧ win0_5.index t 1 = 0 ∧ win0_6.index t 0 = 0 ∧ win0_6.index t 1 = 0
    ∧ win0_6.index t 2 = 0 ∧ win0_7.index t 0 = 0 ∧ win0_7.index t 1 = 0 ∧ win0_8.index t 0 = 0
    ∧ win0_8.index t 1 = 0 ∧ win0_8.index t 2 = 0 ∧ win0_9.index t 0 = 0 ∧ win0_9.index t 1 = 0
    ∧ win0_10.index t 0 = 0 ∧ win0_10.index t 1 = 0 ∧ win0_11.index t 0 = 0 ∧ win0_11.index t 1 = 0
    ∧ win0_12.index t 0 = 0 ∧ win0_12.index t 1 = 0 ∧ win0_13.index t 0 = 0 ∧ win0_13.index t 1 = 0 := by decide +kernel

/-- Offsets of the first slab are zero. -/
theorem first_zero3 {f g : Fin 3 → ℕ} (h0 : f 0 = 0) (h1 : f 1 = 0) (h2 : f 2 = 0) : (fun a => f a * g a) = fun _ => 0 :=
  funext fun a => match a with
    | ⟨0, _⟩ => by show f 0 * _ = 0; rw [h0, Nat.zero_mul]
    | ⟨1, _⟩ => by show f 1 * _ = 0; rw [h1, Nat.zero_mul]
    | ⟨2, _⟩ => by show f 2 * _ = 0; rw [h2, Nat.zero_mul]

theorem blk_1 (t : Fin cfg0.N) : iblk m c 1 t = V m c main_v7 := by
  have h := index_still t
  have hz : (fun a => win0_1.index t a * main_v7.ty.shape.size a) = fun _ => 0 :=
    first_zero (f := win0_1.index t) (by omega) (by omega)
  exact Memref.read_access_unit_zero (Elt Ideal) main_v7 hz (fun a => by rw [congrFun hz a]; simp) (V m c main_v7)

theorem blk_2 (t : Fin cfg0.N) : iblk m c 2 t = V m c main_v8 := by
  have h := index_still t
  have hz : (fun a => win0_2.index t a * main_v8.ty.shape.size a) = fun _ => 0 :=
    first_zero (f := win0_2.index t) (by omega) (by omega)
  exact Memref.read_access_unit_zero (Elt Ideal) main_v8 hz (fun a => by rw [congrFun hz a]; simp) (V m c main_v8)

theorem blk_3 (t : Fin cfg0.N) : iblk m c 3 t = V m c main_v9 := by
  have h := index_still t
  have hz : (fun a => win0_3.index t a * main_v9.ty.shape.size a) = fun _ => 0 :=
    first_zero (f := win0_3.index t) (by omega) (by omega)
  exact Memref.read_access_unit_zero (Elt Ideal) main_v9 hz (fun a => by rw [congrFun hz a]; simp) (V m c main_v9)

theorem blk_4 (t : Fin cfg0.N) : iblk m c 4 t = V m c main_v12 := by
  have h := index_still t
  have hz : (fun a => win0_4.index t a * main_v12.ty.shape.size a) = fun _ => 0 :=
    first_zero (f := win0_4.index t) (by omega) (by omega)
  exact Memref.read_access_unit_zero (Elt Ideal) main_v12 hz (fun a => by rw [congrFun hz a]; simp) (V m c main_v12)

theorem blk_5 (t : Fin cfg0.N) : iblk m c 5 t = V m c main_v14 := by
  have h := index_still t
  have hz : (fun a => win0_5.index t a * main_v14.ty.shape.size a) = fun _ => 0 :=
    first_zero (f := win0_5.index t) (by omega) (by omega)
  exact Memref.read_access_unit_zero (Elt Ideal) main_v14 hz (fun a => by rw [congrFun hz a]; simp) (V m c main_v14)

theorem blk_6 (t : Fin cfg0.N) : iblk m c 6 t = V m c main_v16 := by
  have h := index_still t
  have hz : (fun a => win0_6.index t a * main_v16.ty.shape.size a) = fun _ => 0 :=
    first_zero3 (f := win0_6.index t) (by omega) (by omega) (by omega)
  exact Memref.read_access_unit_zero (Elt Ideal) main_v16 hz (fun a => by rw [congrFun hz a]; simp) (V m c main_v16)

theorem blk_7 (t : Fin cfg0.N) : iblk m c 7 t = V m c main_v18 := by
  have h := index_still t
  have hz : (fun a => win0_7.index t a * main_v18.ty.shape.size a) = fun _ => 0 :=
    first_zero (f := win0_7.index t) (by omega) (by omega)
  exact Memref.read_access_unit_zero (Elt Ideal) main_v18 hz (fun a => by rw [congrFun hz a]; simp) (V m c main_v18)

theorem blk_8 (t : Fin cfg0.N) : iblk m c 8 t = V m c main_v20 := by
  have h := index_still t
  have hz : (fun a => win0_8.index t a * main_v20.ty.shape.size a) = fun _ => 0 :=
    first_zero3 (f := win0_8.index t) (by omega) (by omega) (by omega)
  exact Memref.read_access_unit_zero (Elt Ideal) main_v20 hz (fun a => by rw [congrFun hz a]; simp) (V m c main_v20)

theorem blk_9 (t : Fin cfg0.N) : iblk m c 9 t = V m c main_v22 := by
  have h := index_still t
  have hz : (fun a => win0_9.index t a * main_v22.ty.shape.size a) = fun _ => 0 :=
    first_zero (f := win0_9.index t) (by omega) (by omega)
  exact Memref.read_access_unit_zero (Elt Ideal) main_v22 hz (fun a => by rw [congrFun hz a]; simp) (V m c main_v22)

theorem blk_10 (t : Fin cfg0.N) : iblk m c 10 t = V m c main_v24 := by
  have h := index_still t
  have hz : (fun a => win0_10.index t a * main_v24.ty.shape.size a) = fun _ => 0 :=
    first_zero (f := win0_10.index t) (by omega) (by omega)
  exact Memref.read_access_unit_zero (Elt Ideal) main_v24 hz (fun a => by rw [congrFun hz a]; simp) (V m c main_v24)

theorem blk_11 (t : Fin cfg0.N) : iblk m c 11 t = V m c main_v25 := by
  have h := index_still t
  have hz : (fun a => win0_11.index t a * main_v25.ty.shape.size a) = fun _ => 0 :=
    first_zero (f := win0_11.index t) (by omega) (by omega)
  exact Memref.read_access_unit_zero (Elt Ideal) main_v25 hz (fun a => by rw [congrFun hz a]; simp) (V m c main_v25)

theorem blk_12 (t : Fin cfg0.N) : iblk m c 12 t = V m c main_v26 := by
  have h := index_still t
  have hz : (fun a => win0_12.index t a * main_v26.ty.shape.size a) = fun _ => 0 :=
    first_zero (f := win0_12.index t) (by omega) (by omega)
  exact Memref.read_access_unit_zero (Elt Ideal) main_v26 hz (fun a => by rw [congrFun hz a]; simp) (V m c main_v26)

theorem blk_13 (t : Fin cfg0.N) : iblk m c 13 t = V m c main_v28 := by
  have h := index_still t
  have hz : (fun a => win0_13.index t a * main_v28.ty.shape.size a) = fun _ => 0 :=
    first_zero (f := win0_13.index t) (by omega) (by omega)
  exact Memref.read_access_unit_zero (Elt Ideal) main_v28 hz (fun a => by rw [congrFun hz a]; simp) (V m c main_v28)

/-- Sample `b` of the arguments. -/
def seq (b : Fin 2) : LruArgs := sample (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) b

theorem tokens_at (t : Fin cfg0.N) (r : Fin 256) (k : Fin 1024) :
    iblk m c 0 t (ix3 0 r k) = (seq m c (smp t)).x (start t.val + r.val) k := by
  obtain ⟨h0, h1, h2, -⟩ := index_moving t
  have ht : start t.val + r.val < 8192 := by unfold start; omega
  refine Eq.trans ?_ (dif_pos ht : (seq m c (smp t)).x (start t.val + r.val) k = m (c.tc.loc main_arg0) (ix3 (smp t) ⟨start t.val + r.val, ht⟩ k)).symm
  unfold iblk
  rw [View.read_apply]
  show V m c main_arg0 _ = _
  rw [V_main_arg0]
  congr 1
  funext a
  apply Fin.ext
  match a with
  | ⟨0, _⟩ => show win0_0.index t 0 * 1 + 1 * 0 = t.val / 32; omega
  | ⟨1, _⟩ => show win0_0.index t 1 * 256 + 1 * r.val = t.val % 32 * 256 + r.val; omega
  | ⟨2, _⟩ => show win0_0.index t 2 * 1024 + 1 * k.val = k.val; omega

/-- A grid point's blocks hold its sample's tokens and the branch's parameters. -/
theorem holds (t : Fin cfg0.N) : Holds (seq m c (smp t)) (start t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  x := tokens_at m c t
  g k := (congrFun (blk_1 m c t) _).trans (v7_at m c k)
  wp k j := (congrFun (blk_2 m c t) _).trans (v8_at m c k _)
  wz k j := (congrFun (blk_2 m c t) _).trans (v8_at m c k _)
  bp j := (congrFun (blk_3 m c t) _).trans (v9_at m c _)
  bz j := (congrFun (blk_3 m c t) _).trans (v9_at m c _)
  cw e j := (congrFun (blk_4 m c t) _).trans (v12_at m c e j)
  cb j := (congrFun (blk_5 m c t) _).trans (v14_at m c j)
  wa h k d := (congrFun (blk_6 m c t) _).trans (v16_at m c h k d)
  ba j := (congrFun (blk_7 m c t) _).trans (v18_at m c j)
  wx h k d := (congrFun (blk_8 m c t) _).trans (v20_at m c h k d)
  bx j := (congrFun (blk_9 m c t) _).trans (v22_at m c j)
  lam j := (congrFun (blk_10 m c t) _).trans (v24_at m c j)
  wg k j := (congrFun (blk_11 m c t) _).trans (v25_at m c k j)
  bg j := (congrFun (blk_12 m c t) _).trans (v26_at m c j)
  wb k j := (congrFun (blk_13 m c t) _).trans (v28_at m c k j)

/-- The body begins afresh at a sample's first block only. -/
theorem fresh_iff : ∀ t : Fin grid0.N, Cert.LruIdeal.Hand.fresh (grid0.coords t) ↔ t.val % 32 = 0 := by decide +kernel

end Cert.LruIdeal.Host

end
-- ==== Proof.LruLaunch.lean ====
/- The launch of the recurrence's call over its grid: every block of the result is the branch's rows, the window and the state
   carried from block to block within a sample. -/
module

public import proofs.«01_k».proof.Proof.LruCarry
public import proofs.«01_k».proof.Proof.LruHost

@[expose] public section

set_option maxRecDepth 16384

noncomputable section

namespace Cert.LruIdeal.Launch

open Cert.LruIdeal Cert.LruIdeal.Gen Cert.LruIdeal.Block Cert.LruIdeal.Host Cert.LruIdeal.Point Cert.Layer
open Cert.LruIdeal.Hand (fresh some_owns PhiA_eq defs_row)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the scratch buffers hold before point `k`: within a sample, what its tokens so far carry. -/
def Kept (c : Dev nD) (k : ℕ) (xs : Vec Ideal S264x1024 .f32) (hs : Vec Ideal S8x1024 .f32) : Prop :=
  k % 32 ≠ 0 → Carried (seq m c ⟨k / 32 % 2, by omega⟩) (start k) xs hs

theorem kept_succ (c : Dev nD) (t : Fin cfg0.N) (xs : Vec Ideal S264x1024 .f32) (hs : Vec Ideal S8x1024 .f32)
    (h : Carried (seq m c (smp t)) (start t.val + 256) xs hs) : Kept m c (t.val + 1) xs hs := by
  intro hk
  have ht : t.val < 64 := t.isLt
  have e1 : (⟨(t.val + 1) / 32 % 2, by omega⟩ : Fin 2) = smp t := by
    apply Fin.ext; show (t.val + 1) / 32 % 2 = t.val / 32; omega
  have e2 : start (t.val + 1) = start t.val + 256 := by unfold start; omega
  rw [e1, e2]; exact h

theorem kept_at (c : Dev nD) (t : Fin cfg0.N) (xs : Vec Ideal S264x1024 .f32) (hs : Vec Ideal S8x1024 .f32)
    (h : Kept m c t.val xs hs) (hc : ¬ fresh (grid0.coords t)) : Carried (seq m c (smp t)) (start t.val) xs hs := by
  have ht : t.val < 64 := t.isLt
  have e1 : (⟨t.val / 32 % 2, by omega⟩ : Fin 2) = smp t := by
    apply Fin.ext; show t.val / 32 % 2 = t.val / 32; omega
  have h' := h fun h0 => hc ((fresh_iff t).mpr h0)
  rw [e1] at h'; exact h'

/-- The scratch buffers before point `k`, and the generator's register. -/
def Phi (c : Dev nD) (k : ℕ) : sProp 𝕄 :=
  iprop((∃ xs hs, ⌜Kept m c k xs hs⌝ ∗ owns (c : Thread nD τ) (Memref.whole cc0_scratch0) fullShare xs
      ∗ owns (c : Thread nD τ) (Memref.whole cc0_scratch3) fullShare hs)
    ∗ some_owns c (Memref.whole cc0_scratch1) ∗ some_owns c (Memref.whole cc0_scratch2) ∗ (∃ r, prngReg c r))

theorem phi_in (c : Dev nD) : (Pipeline.ΦA spec0 c : sProp 𝕄) ⊢ Phi m c 0 := by
  rw [PhiA_eq]; unfold Phi
  iintro ⟨⟨⟨%xs, H0⟩, H1, H2, ⟨%hs, H3⟩⟩, Hg⟩
  isplitl [H0 H3]
  · iexists xs; iexists hs; isplitr
    · ipureintro; exact fun h => absurd rfl h
    isplitl [H0]; · iexact H0
    iexact H3
  isplitl [H1]; · iexact H1
  isplitl [H2]; · iexact H2
  iexact Hg

theorem phi_out (c : Dev nD) (k : ℕ) : Phi m c k ⊢ (Pipeline.ΦA spec0 c : sProp 𝕄) := by
  rw [PhiA_eq]; unfold Phi
  iintro ⟨⟨%xs, %hs, %hK, H0, H3⟩, H1, H2, Hg⟩
  isplitl [H0 H1 H2 H3]
  · isplitl [H0]; · iexists _; iexact H0
    isplitl [H1]; · iexact H1
    isplitl [H2]; · iexact H2
    iexists _; iexact H3
  iexact Hg

/-- The proof data: the arrays as the region finds them, each input's block left in place, the output the branch's rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => rows (seq m c (smp t)) (start t.val)
  Φ k := Phi m c k.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = rows (seq m c (smp t)) (start t.val) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t))

set_option maxHeartbeats 1600000 in
/-- The body at any point, from the run at symbolic memrefs. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = Phi m c (t.val + 1) from rfl,
    show (dats m 0 c).owesAt () t.succ = (dats m 0 c).owesAt () t.castSucc from rfl,
    after_0, after_1, after_2, after_3, after_4, after_5, after_6, after_7, after_8, after_9, after_10, after_11, after_12, after_13, after_14]
  rw [show (dats m 0 c).Φ t.castSucc = Phi m c t.val from rfl]
  unfold Phi
  iintro ⟨⟨⟨%xs, %hs, %hK, HS0, HS3⟩, ⟨%ga, HS1⟩, ⟨%gb, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (point (seq m c (smp t)) (start t.val) _ _ _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs ga gb hs (holds m c t) (fun hc => by have := (fresh_iff t).mp hc; unfold start; omega) (kept_at m c t xs hs hK))
  unfold Inputs
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexists _; iexact H14
  isplitl [HS0]; · iexact HS0
  isplitl [HS1]; · iexact HS1
  isplitl [HS2]; · iexact HS2
  isplitl [HS3]; · iexact HS3
  iintro ⟨⟨H0, H1, H2, H3, H4, H5, H6, H7, H8, H9, H10, H11, H12, H13⟩, H14, ⟨%xs', %hs', %hK', HS0, HS3⟩, HS1, HS2⟩
  isplitl [HS0 HS1 HS2 HS3 Hg]
  · isplitl [HS0 HS3]
    · iexists xs'; iexists hs'; isplitr
      · ipureintro; exact kept_succ m c t _ _ hK'
      isplitl [HS0]; · iexact HS0
      iexact HS3
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation. -/
theorem body_obligation (c : Dev nD) :
    BodyObligation (dats m 0 c) (defs₀ (F := Ideal)) Variants.none () Set.univ := fun t => by
  rw [bigSep_W0, bigSep_W0, defs_row]
  exact triple_restated (sound_body m c t) rfl .rfl fun _ => .rfl

set_option backward.isDefEq.respectTransparency.types false in
/-- The launch. -/
theorem run_main : θ_run defs (onTc (τ := τ) (main (F := Ideal))) (s₀ m ρ) (fun r =>
    Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)

/-- The result is the array that the blocks build up; the arguments end as they were launched. -/
theorem run_blocks : θ_run defs (onTc (τ := τ) (main (F := Ideal))) ⟨m, fun _ => 0, ρ⟩ (fun r => ∀ c : Dev nD,
      r.2.mem ((c.tc : Thread nD τ).loc main_v29) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h.1 c).1 14,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩)
    (run_main m ρ)

/-! ## The result -/

/-- The branch at every token of every sample. -/
def result (c : Dev nD) : Buf (Elt Ideal) ((c : Thread nD τ).loc main_v29) := fun i => (seq m c (i 0)).out (i 1).val (i 2)

theorem flushed_eq (c : Dev nD) (t : Fin cfg0.N) (_ : (cfg0.win 14).flush t = true) :
    (dats m 0 c).flushed 14 t = ((cfg0.win 14).blk t).view.read (Elt Ideal) (result m c) := by
  show (cfg0.win 14).cut (grid0.coords t) ((dats m 0 c).after 14 t) = _
  rw [after_14]
  funext j
  obtain ⟨r, k, rfl⟩ := exists_slab (n1 := 256) (n2 := 1024) j
  rw [View.read_apply]
  obtain ⟨-, -, -, h0, h1, h2⟩ := index_moving t
  have he : ((cfg0.win 14).blk t).view.emb (ix3 0 r k)
      = ix3 (smp t) (⟨start t.val + r.val, by unfold start; omega⟩ : Fin 8192) k := by
    funext a
    apply Fin.ext
    match a with
    | ⟨0, _⟩ => show win0_14.index t 0 * 1 + 1 * 0 = t.val / 32; omega
    | ⟨1, _⟩ => show win0_14.index t 1 * 256 + 1 * r.val = t.val % 32 * 256 + r.val; omega
    | ⟨2, _⟩ => show win0_14.index t 2 * 1024 + 1 * k.val = k.val; omega
  rw [he]
  rfl

/-- A grid point's block holds the elements of its sample and its tokens. -/
theorem mem_blk (t : Fin cfg0.N) (i : S2x8192x1024.Idx) (hb : (i 0).val = t.val / 32)
    (hs : (i 1).val / 256 = t.val % 32) : i ∈ ((cfg0.win 14).blk t).view.set := by
  obtain ⟨-, -, -, h0, h1, h2⟩ := index_moving t
  have x : ∀ t : Fin grid0.N, win0_14.xsize (grid0.coords t) 0 = 1 ∧ win0_14.xsize (grid0.coords t) 1 = 256
      ∧ win0_14.xsize (grid0.coords t) 2 = 1024 := by decide +kernel
  obtain ⟨x0, x1, x2⟩ := x t
  show i ∈ ((View.whole main_v29).slice (win0_14.rect t)).set
  rw [View.set_slice_whole, Rect.mem_set_unit]
  intro a
  match a with
  | ⟨0, _⟩ =>
    show win0_14.index t 0 * 1 ≤ (i 0).val ∧ (i 0).val < win0_14.index t 0 * 1 + win0_14.xsize (grid0.coords t) 0
    omega
  | ⟨1, _⟩ =>
    show win0_14.index t 1 * 256 ≤ (i 1).val ∧ (i 1).val < win0_14.index t 1 * 256 + win0_14.xsize (grid0.coords t) 1
    omega
  | ⟨2, _⟩ =>
    have : (i 2).val < 1024 := (i 2).isLt
    show win0_14.index t 2 * 1024 ≤ (i 2).val ∧ (i 2).val < win0_14.index t 2 * 1024 + win0_14.xsize (grid0.coords t) 2
    omega

/-- So the array that the kernel leaves is the branch. -/
theorem final_eq (c : Dev nD) : (dats m 0 c).arrAt 14 cfg0.N = result m c :=
  (dats m 0 c).arrAt_eq_of_cover 14 (result m c) (flushed_eq m c) fun i => by
    have h0 : (i 0).val < 2 := (i 0).isLt
    have h1 : (i 1).val < 8192 := (i 1).isLt
    have hN : (i 0).val * 32 + (i 1).val / 256 < 64 := by omega
    refine ⟨⟨(i 0).val * 32 + (i 1).val / 256, hN⟩, flush0_14 _, mem_blk _ i ?_ ?_⟩
    · show (i 0).val = ((i 0).val * 32 + (i 1).val / 256) / 32; omega
    · show (i 1).val / 256 = ((i 0).val * 32 + (i 1).val / 256) % 32; omega

end Cert.LruIdeal.Launch

end
-- ==== Proof.LruRef.lean ====
/- What the branch's reference computes before and after its loop over time, read at an index: stage by stage down to the
   branch's own functions of one sample. -/
module

public import proofs.«01_k».proof.Proof.Layer.LruArrays
public import proofs.«01_k».proof.Proof.Gen.LruRefIdeal.Step
public import Idealize.ShloMosaic.Lib.Pointwise
public import Idealize.ShloMosaic.Lib.DynamicIndex
public import Idealize.ShloMosaic.Lib.WordCmp

@[expose] public section

set_option maxRecDepth 16384

noncomputable section

open Idealize.ShloMosaic Idealize.ShloMosaic.TcCoe Idealize.SL.Sem

namespace Cert.LruRefIdeal.Rows

open Cert.LruRefIdeal Cert.LruRefIdeal.Gen Cert.LruRefIdeal.Step Cert.Layer

open scoped BigOperators

variable (x0 : (⟨S2x8192x1024, .f32⟩ : BufTy).Contents (Elt Ideal)) (x1 : (⟨S1x1024, .f32⟩ : BufTy).Contents (Elt Ideal))
  (x2 : (⟨S1x1024x9216, .f32⟩ : BufTy).Contents (Elt Ideal)) (x3 : (⟨S1x9216, .f32⟩ : BufTy).Contents (Elt Ideal))
  (x4 : (⟨S1x4x1024, .f32⟩ : BufTy).Contents (Elt Ideal)) (x5 : (⟨S1x1024, .f32⟩ : BufTy).Contents (Elt Ideal))
  (x6 : (⟨S1x4x256x256, .f32⟩ : BufTy).Contents (Elt Ideal)) (x7 : (⟨S1x1024, .f32⟩ : BufTy).Contents (Elt Ideal))
  (x8 : (⟨S1x4x256x256, .f32⟩ : BufTy).Contents (Elt Ideal)) (x9 x10 : (⟨S1x1024, .f32⟩ : BufTy).Contents (Elt Ideal))
  (x11 : (⟨S1x3x1024x1024, .f32⟩ : BufTy).Contents (Elt Ideal))

theorem zero_word : FloatOps.sitofp (F := Ideal) FTy.f32 0#32 = (0 : EReal) := by
  show (((0#32 : BitVec 32).toInt : ℝ) : EReal) = 0; simp

/-- Five numbers added with the last one moved to the front. -/
theorem last_first (p q r s t : EReal) : p + q + r + s + t = p + t + q + r + s := by
  rw [add_right_comm _ s t, add_right_comm _ r t, add_right_comm _ q t]

theorem token (b : Fin 2) (T : Fin 8192) (k : Fin 1024) : (sample x0 x1 x2 x3 x4 x5 x6 x7 x8 x9 x10 x11 b).x T.val k = x0 (ix3 b T k) :=
  dif_pos T.isLt

theorem norm_at (b : Fin 2) (T : Fin 8192) (k : Fin 1024) :
    A_main_v13 (F := Ideal) x0 x1 x2 x3 x4 x5 x6 x7 x8 x9 x10 (ix3 b T k) = normRow ((sample x0 x1 x2 x3 x4 x5 x6 x7 x8 x9 x10 x11 b).x T.val) (sample x0 x1 x2 x3 x4 x5 x6 x7 x8 x9 x10 x11 b).g k := by
  unfold A_main_v13 A_main_v12 A_main_v11 A_main_v10 A_main_v9 A_main_v8 A_main_v7 A_main_v5 A_main_v3 A_main_v2 A_main_v1 A_main_v0 K_main_v4 K_main_v6 K_main_cst K_main_cst_0 K_main_cst_1
  pointwise
  unfold normRow
  simp only [token]
  rfl

theorem proj_at (b : Fin 2) (T : Fin 8192) (c : Fin 1024) :
    A_main_v21 (F := Ideal) x0 x1 x2 x3 x4 x5 x6 x7 x8 x9 x10 (ix3 b T c) = (sample x0 x1 x2 x3 x4 x5 x6 x7 x8 x9 x10 x11 b).px T.val c := by
  have h : ∀ k, _ = _ := norm_at x0 x1 x2 x3 x4 x5 x6 x7 x8 x9 x10 x11 b T
  unfold A_main_v21 A_main_v20 A_main_v19 A_main_v18 A_main_v17 A_main_v16 A_main_v15 A_main_v14
  generalize A_main_v13 x0 x1 x2 x3 x4 x5 x6 x7 x8 x9 x10 = y at h
  pointwise
  simp only [h]
  rfl

theorem padded_at (b : Fin 2) (m : Fin 8195) (c : Fin 1024) :
    A_main_v22 (F := Ideal) x0 x1 x2 x3 x4 x5 x6 x7 x8 x9 x10 (ix3 b m c) = (sample x0 x1 x2 x3 x4 x5 x6 x7 x8 x9 x10 x11 b).back 3 m.val c := by
  have h := fun T => proj_at x0 x1 x2 x3 x4 x5 x6 x7 x8 x9 x10 x11 b T c
  unfold A_main_v22 K_main_call0_v0 K_main_c
  generalize A_main_v21 x0 x1 x2 x3 x4 x5 x6 x7 x8 x9 x10 = y at h
  unfold LruArgs.back
  by_cases hm : 3 ≤ m.val
  · rw [if_pos hm, ← h ⟨m.val - 3, by omega⟩]
    pointwise
    exact dif_pos (by omega)
  · rw [if_neg hm]
    pointwise
    rw [dif_neg (by omega)]
    exact zero_word

theorem conv_at (b : Fin 2) (T : Fin 8192) (c : Fin 1024) :
    A_main_v53 (F := Ideal) x0 x1 x2 x3 x4 x5 x6 x7 x8 x9 x10 (ix3 b T c) = (sample x0 x1 x2 x3 x4 x5 x6 x7 x8 x9 x10 x11 b).u T.val c := by
  have h := fun m => padded_at x0 x1 x2 x3 x4 x5 x6 x7 x8 x9 x10 x11 b m c
  have e3 := h ⟨T.val, by omega⟩
  have e2 := (h ⟨1 + T.val, by omega⟩).trans (LruArgs.back_from _ 3 2 T.val _ (by show 1 + T.val + 2 = _; omega) c)
  have e1 := (h ⟨2 + T.val, by omega⟩).trans (LruArgs.back_from _ 3 1 T.val _ (by show 2 + T.val + 1 = _; omega) c)
  have e0 := (h ⟨3 + T.val, by omega⟩).trans (LruArgs.back_from _ 3 0 T.val _ (by show 3 + T.val + 0 = _; omega) c)
  unfold A_main_v53 A_main_v52 A_main_v51 A_main_v50 A_main_v49 A_main_v48 A_main_v47 A_main_v46 A_main_v45 A_main_v44 A_main_v43 A_main_v42 A_main_v41 A_main_v40 A_main_v39 A_main_v38 A_main_v37 A_main_v36 A_main_v35 A_main_v34 A_main_v33 A_main_v32 A_main_v31 A_main_v30 A_main_v29 A_main_v28 A_main_v27 A_main_v26 A_main_v25 A_main_v24 A_main_v23
  generalize A_main_v22 x0 x1 x2 x3 x4 x5 x6 x7 x8 x9 x10 = y at e0 e1 e2 e3
  pointwise
  rw [e0, e1, e2, e3]
  unfold LruArgs.u conv4
  rw [show (sample x0 x1 x2 x3 x4 x5 x6 x7 x8 x9 x10 x11 b).back 0 T.val c = (sample x0 x1 x2 x3 x4 x5 x6 x7 x8 x9 x10 x11 b).px T.val c from if_pos (Nat.zero_le _)]
  show x5 (ix2 0 c) + x4 (ix3 0 0 c) * _ + x4 (ix3 0 1 c) * _ + x4 (ix3 0 2 c) * _ + x4 (ix3 0 3 c) * _
    = x5 (ix2 0 c) + x4 (ix3 0 3 c) * _ + x4 (ix3 0 0 c) * _ + x4 (ix3 0 1 c) * _ + x4 (ix3 0 2 c) * _
  exact last_first _ _ _ _ _

theorem decayLin_at (b : Fin 2) (T : Fin 8192) (c : Fin 1024) :
    A_main_v62 (F := Ideal) x0 x1 x2 x3 x4 x5 x6 x7 x8 x9 x10 (ix3 b T c) = headLin ((sample x0 x1 x2 x3 x4 x5 x6 x7 x8 x9 x10 x11 b).u T.val) (sample x0 x1 x2 x3 x4 x5 x6 x7 x8 x9 x10 x11 b).wa (sample x0 x1 x2 x3 x4 x5 x6 x7 x8 x9 x10 x11 b).ba (headOf c) (inHead c) := by
  have h := fun h d => conv_at x0 x1 x2 x3 x4 x5 x6 x7 x8 x9 x10 x11 b T (hcol h d)
  unfold A_main_v62 A_main_v61 A_main_v60 A_main_v59 A_main_v58 A_main_v57 A_main_v56 A_main_v55 A_main_v54
  generalize A_main_v53 x0 x1 x2 x3 x4 x5 x6 x7 x8 x9 x10 = y at h
  pointwise
  unfold headLin
  rw [hcol_split]
  show (∑ k, x6 (ix4 0 (headOf c) k (inHead c)) * y (ix3 b T (hcol (headOf c) k))) + x7 (ix2 0 c) = _
  simp only [h]
  exact congrArg (· + _) (Finset.sum_congr rfl fun k _ => mul_comm _ _)

theorem inputLin_at (b : Fin 2) (T : Fin 8192) (c : Fin 1024) :
    A_main_v76 (F := Ideal) x0 x1 x2 x3 x4 x5 x6 x7 x8 x9 x10 (ix3 b T c) = headLin ((sample x0 x1 x2 x3 x4 x5 x6 x7 x8 x9 x10 x11 b).u T.val) (sample x0 x1 x2 x3 x4 x5 x6 x7 x8 x9 x10 x11 b).wx (sample x0 x1 x2 x3 x4 x5 x6 x7 x8 x9 x10 x11 b).bx (headOf c) (inHead c) := by
  have h := fun h d => conv_at x0 x1 x2 x3 x4 x5 x6 x7 x8 x9 x10 x11 b T (hcol h d)
  unfold A_main_v76 A_main_v75 A_main_v74 A_main_v73 A_main_v72 A_main_v71 A_main_v70 A_main_v69 A_main_v54
  generalize A_main_v53 x0 x1 x2 x3 x4 x5 x6 x7 x8 x9 x10 = y at h
  pointwise
  unfold headLin
  rw [hcol_split]
  show (∑ k, x8 (ix4 0 (headOf c) k (inHead c)) * y (ix3 b T (hcol (headOf c) k))) + x9 (ix2 0 c) = _
  simp only [h]
  exact congrArg (· + _) (Finset.sum_congr rfl fun k _ => mul_comm _ _)

theorem log_at (b : Fin 2) (T : Fin 8192) (c : Fin 1024) :
    A_main_v97 (F := Ideal) x0 x1 x2 x3 x4 x5 x6 x7 x8 x9 x10 (ix3 b T c) = headLog ((sample x0 x1 x2 x3 x4 x5 x6 x7 x8 x9 x10 x11 b).u T.val) (sample x0 x1 x2 x3 x4 x5 x6 x7 x8 x9 x10 x11 b).wa (sample x0 x1 x2 x3 x4 x5 x6 x7 x8 x9 x10 x11 b).ba (sample x0 x1 x2 x3 x4 x5 x6 x7 x8 x9 x10 x11 b).lam (headOf c) (inHead c) := by
  have h := decayLin_at x0 x1 x2 x3 x4 x5 x6 x7 x8 x9 x10 x11 b T c
  unfold A_main_v97 A_main_v96 A_main_v95 A_main_v94 A_main_v93 A_main_v92 A_main_v91 A_main_v90 A_main_v89 A_main_v88 A_main_v86 A_main_v85 A_main_v83 A_main_v68 A_main_v66 A_main_v64 A_main_v63 K_main_v65 K_main_v67 K_main_v84 K_main_v87 K_main_cst_2 K_main_cst_3 K_main_cst_6 K_main_cst_7
  generalize A_main_v62 x0 x1 x2 x3 x4 x5 x6 x7 x8 x9 x10 = y at h
  unfold headLog
  rw [← h, hcol_split]
  pointwise
  rfl

theorem decay_at (b : Fin 2) (T : Fin 8192) (c : Fin 1024) : A_main_v98 (F := Ideal) x0 x1 x2 x3 x4 x5 x6 x7 x8 x9 x10 (ix3 b T c) = (sample x0 x1 x2 x3 x4 x5 x6 x7 x8 x9 x10 x11 b).a c T.val := by
  have h := log_at x0 x1 x2 x3 x4 x5 x6 x7 x8 x9 x10 x11 b T c
  unfold A_main_v98
  generalize A_main_v97 x0 x1 x2 x3 x4 x5 x6 x7 x8 x9 x10 = y at h
  pointwise
  rw [h]
  rfl

theorem input_at (b : Fin 2) (T : Fin 8192) (c : Fin 1024) : A_main_v105 (F := Ideal) x0 x1 x2 x3 x4 x5 x6 x7 x8 x9 x10 (ix3 b T c) = (sample x0 x1 x2 x3 x4 x5 x6 x7 x8 x9 x10 x11 b).b c T.val := by
  have h := log_at x0 x1 x2 x3 x4 x5 x6 x7 x8 x9 x10 x11 b T c
  have hi := inputLin_at x0 x1 x2 x3 x4 x5 x6 x7 x8 x9 x10 x11 b T c
  have hu := conv_at x0 x1 x2 x3 x4 x5 x6 x7 x8 x9 x10 x11 b T c
  unfold LruArgs.b inputOf
  rw [← h, ← hi, hcol_split, ← hu]
  unfold A_main_v105 A_main_v104 A_main_v103 A_main_v102 A_main_v101 A_main_v100 A_main_v82 A_main_v80 A_main_v78 A_main_v77 K_main_v99 K_main_v79 K_main_v81 K_main_cst_8 K_main_cst_4 K_main_cst_5
  generalize A_main_v97 x0 x1 x2 x3 x4 x5 x6 x7 x8 x9 x10 = y
  generalize A_main_v76 x0 x1 x2 x3 x4 x5 x6 x7 x8 x9 x10 = z
  generalize A_main_v53 x0 x1 x2 x3 x4 x5 x6 x7 x8 x9 x10 = w
  pointwise
  rfl

section Trips

variable (j : ℕ) (s : State Ideal)

theorem trip_start (h : j < 8192) : (BitVec.ofNat 32 j).toInt = (j : Int) := by
  have e : (BitVec.ofNat 32 j).toNat = j := by rw [BitVec.toNat_ofNat]; omega
  rw [BitVec.toInt_eq_toNat_of_lt (by omega), e]

theorem row_at (h : j < 8192) (b : Fin 2) (c : Fin 1024) : b9 j s (ix2 b c)
    = s.main_v110_0 (ix3 ⟨j, h⟩ b c) * s.main_v110_3 (ix2 b c) + s.main_v110_1 (ix3 ⟨j, h⟩ b c) := by
  have hs : S8192x2x1024.Slices ![j, 0, 0] S1x2x1024 := ⟨rfl, fun a => by
    match a with
    | ⟨0, _⟩ => show j + 1 ≤ 8192; omega
    | ⟨1, _⟩ => show 0 + 2 ≤ 2; omega
    | ⟨2, _⟩ => show 0 + 1024 ≤ 1024; omega⟩
  have e : ∀ x : (⟨S8192x2x1024, .f32⟩ : BufTy).Contents (Elt Ideal), Host.dynamicSlice S1x2x1024 x (fun k => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k (Shape.Idx.first h_S_)).toInt) sliceFits_S8192x2x1024_S1x2x1024
      = extractStridedSlice S1x2x1024 ![j, 0, 0] x hs := fun x =>
    Host.dynamicSlice_eq_extractStridedSlice _ _ _ _ _ _ fun a => by
      match a with
      | ⟨0, _⟩ => exact trip_start j h
      | ⟨1, _⟩ => rfl
      | ⟨2, _⟩ => rfl
  unfold b9 b8 b7 b6 b3 b2 b1 b0 b4 b5
  rw [e, e]
  pointwise

theorem stack_at (h : j < 8192) (t : Fin 8192) (b : Fin 2) (c : Fin 1024) : b13 j s (ix3 t b c)
    = if t.val = j then b9 j s (ix2 b c) else s.main_v110_4 (ix3 t b c) := by
  have hs : S8192x2x1024.Slices ![j, 0, 0] S1x2x1024 := ⟨rfl, fun a => by
    match a with
    | ⟨0, _⟩ => show j + 1 ≤ 8192; omega
    | ⟨1, _⟩ => show 0 + 2 ≤ 2; omega
    | ⟨2, _⟩ => show 0 + 1024 ≤ 1024; omega⟩
  unfold b13 b12 b11
  rw [WordCmp.dynamicUpdateSlice_eq_update _ _ _ _ ![j, 0, 0] hs fun a => by
      match a with
      | ⟨0, _⟩ => exact trip_start j h
      | ⟨1, _⟩ => rfl
      | ⟨2, _⟩ => rfl]
  unfold b10
  generalize b9 j s = y
  pointwise
  by_cases e : t.val = j
  · rw [if_pos e, dif_pos (by omega)]
  · rw [if_neg e, dif_neg (by omega)]

end Trips

section Loop

variable (S : ℕ → State Ideal) (h0 : S 0 = init x0 x1 x2 x3 x4 x5 x6 x7 x8 x9 x10) (hs : ∀ k, S (k + 1) = step k (S k))

include h0 hs

theorem kept (k : ℕ) : (S k).main_v110_0 = A_main_v107 x0 x1 x2 x3 x4 x5 x6 x7 x8 x9 x10 ∧ (S k).main_v110_1 = A_main_v108 x0 x1 x2 x3 x4 x5 x6 x7 x8 x9 x10 := by
  induction k with
  | zero => rw [h0]; exact ⟨rfl, rfl⟩
  | succ k ih => rw [hs]; exact ih

theorem decays_at (k : ℕ) (t : Fin 8192) (b : Fin 2) (c : Fin 1024) : (S k).main_v110_0 (ix3 t b c) = (sample x0 x1 x2 x3 x4 x5 x6 x7 x8 x9 x10 x11 b).a c t.val := by
  have h := decay_at x0 x1 x2 x3 x4 x5 x6 x7 x8 x9 x10 x11 b t c
  rw [(kept x0 x1 x2 x3 x4 x5 x6 x7 x8 x9 x10 S h0 hs k).1]
  unfold A_main_v107
  generalize A_main_v98 x0 x1 x2 x3 x4 x5 x6 x7 x8 x9 x10 = y at h
  pointwise
  exact h

theorem inputs_at (k : ℕ) (t : Fin 8192) (b : Fin 2) (c : Fin 1024) : (S k).main_v110_1 (ix3 t b c) = (sample x0 x1 x2 x3 x4 x5 x6 x7 x8 x9 x10 x11 b).b c t.val := by
  have h := input_at x0 x1 x2 x3 x4 x5 x6 x7 x8 x9 x10 x11 b t c
  rw [(kept x0 x1 x2 x3 x4 x5 x6 x7 x8 x9 x10 S h0 hs k).2]
  unfold A_main_v108
  generalize A_main_v105 x0 x1 x2 x3 x4 x5 x6 x7 x8 x9 x10 = y at h
  pointwise
  exact h

/-- The state after `k` trips is the recurrence's before token `k`. -/
theorem state_at (b : Fin 2) (c : Fin 1024) : ∀ k ≤ 8192, (S k).main_v110_3 (ix2 b c) = (sample x0 x1 x2 x3 x4 x5 x6 x7 x8 x9 x10 x11 b).state c k
  | 0, _ => by
    rw [h0]
    show K_main_v106 (ix2 b c) = 0
    unfold K_main_v106 K_main_cst_9
    pointwise
  | k + 1, hk => by
    rw [hs]
    show b9 k (S k) (ix2 b c) = _
    rw [row_at k (S k) (by omega), state_at b c k (by omega), decays_at x0 x1 x2 x3 x4 x5 x6 x7 x8 x9 x10 x11 S h0 hs, inputs_at x0 x1 x2 x3 x4 x5 x6 x7 x8 x9 x10 x11 S h0 hs, add_comm]
    rfl

/-- The stack after `k` trips holds the states after the first `k` tokens. -/
theorem states_at (b : Fin 2) (c : Fin 1024) (t : Fin 8192) : ∀ k ≤ 8192, t.val < k →
    (S k).main_v110_4 (ix3 t b c) = (sample x0 x1 x2 x3 x4 x5 x6 x7 x8 x9 x10 x11 b).state c (t.val + 1)
  | 0, _, ht => absurd ht (Nat.not_lt_zero _)
  | k + 1, hk, ht => by
    have e := state_at x0 x1 x2 x3 x4 x5 x6 x7 x8 x9 x10 x11 S h0 hs b c (k + 1) hk
    rw [hs] at e ⊢
    show b13 k (S k) (ix3 t b c) = _
    rw [stack_at k (S k) (by omega)]
    by_cases ek : t.val = k
    · rw [if_pos ek, ek]; exact e
    · rw [if_neg ek]; exact states_at b c t k (by omega) (by omega)

/-- The reference's result is the branch's. -/
theorem result_at (b : Fin 2) (T : Fin 8192) (j : Fin 1024) :
    R_main_v167 (F := Ideal) (S 8192) x0 x1 x2 x3 x11 (ix3 b T j) = (sample x0 x1 x2 x3 x4 x5 x6 x7 x8 x9 x10 x11 b).out T.val j := by
  have h := fun c => states_at x0 x1 x2 x3 x4 x5 x6 x7 x8 x9 x10 x11 S h0 hs b c T 8192 le_rfl T.isLt
  unfold R_main_v167
  generalize S 8192 = s at h
  pointwise
  unfold LruArgs.out lruRow projRow normRow sigm
  simp only [h, token]
  rfl

end Loop

end Cert.LruRefIdeal.Rows

end
-- ==== Proof.LruRefRun.lean ====
/- The reference's own loop over time, read as a sequence of states: the generated trip applied to the carried arrays is
   the generated step of the state, and the results are those of the state after the last trip. -/
module

public import proofs.«01_k».proof.Proof.Gen.LruRefIdeal.Run
public import proofs.«01_k».proof.Proof.Gen.LruRefIdeal.Step

@[expose] public section

noncomputable section

namespace Cert.LruRefIdeal.Trips

open Idealize.ShloMosaic Idealize.ShloMosaic.TcCoe Idealize.SL.Sem Idealize.ShloMosaic.StableHlo
open Cert.LruRefIdeal Cert.LruRefIdeal.Gen Cert.LruRefIdeal.Value
open Cert.LruRefIdeal.Step (State step init)

variable {F : FTy → Type} [FloatOps F]

variable (V0 : Valuation τ sig (Elt F)) (s : State F) (j : ℕ)

/-- The carried arrays are the state's, and the counter is the trip's number. -/
structure Carries : Prop where
  state : V0 (Proc.devRef .tc main_v110_3) = s.main_v110_3
  stack : V0 (Proc.devRef .tc main_v110_4) = s.main_v110_4
  decays : V0 (Proc.devRef .tc main_v110_0) = s.main_v110_0
  inputs : V0 (Proc.devRef .tc main_v110_1) = s.main_v110_1
  count : V0 (Proc.devRef .tc main_v110_2) = constantI S_ 32 (BitVec.ofNat 32 j)

variable {V0 s j}

/-- The trip's new state row. -/
theorem row_eq (h : Carries V0 s j) : res_main_while0b_v171 V0 = Cert.LruRefIdeal.Step.b9 j s := by
  unfold res_main_while0b_v171
  rw [h.decays, h.inputs, h.count, h.state]
  rfl

/-- The trip's new state. -/
theorem state_eq (h : Carries V0 s j) : step_main_v110_3 V0 = (step j s).main_v110_3 := by
  unfold step_main_v110_3
  exact row_eq h

/-- The trip's new stack of states. -/
theorem stack_eq (h : Carries V0 s j) : step_main_v110_4 V0 = (step j s).main_v110_4 := by
  unfold step_main_v110_4
  rw [row_eq h, h.stack, h.count]
  rfl

/-- The trip's new count. -/
theorem count_eq (h : Carries V0 s j) : step_main_v110_2 V0 = constantI S_ 32 (BitVec.ofNat 32 (j + 1)) := by
  unfold step_main_v110_2
  rw [h.count]
  funext i
  show BitVec.ofNat 32 j + 1#32 = BitVec.ofNat 32 (j + 1)
  simp only [BitVec.ofNat_add]

/-- A trip carries the stepped state on. -/
theorem carries_step (h : Carries V0 s j) : Carries (STEP V0) (step j s) (j + 1) where
  state := (STEP_main_v110_3 V0).trans (state_eq h)
  stack := (STEP_main_v110_4 V0).trans (stack_eq h)
  count := (STEP_main_v110_2 V0).trans (count_eq h)
  decays := (STEP_main_v110_0 V0).trans h.decays
  inputs := (STEP_main_v110_1 V0).trans h.inputs

set_option maxRecDepth 8192 in
/-- The result is the expression after the loop, of the state. -/
theorem result_eq (h : Carries V0 s j) {x0 x1 x2 x3 x11}
    (h0 : V0 (Proc.devRef .tc main_arg0) = x0) (h1 : V0 (Proc.devRef .tc main_arg1) = x1)
    (h2 : V0 (Proc.devRef .tc main_arg2) = x2) (h3 : V0 (Proc.devRef .tc main_arg3) = x3)
    (h11 : V0 (Proc.devRef .tc main_arg11) = x11) :
    out_main_v167 V0 = Cert.LruRefIdeal.Step.R_main_v167 s x0 x1 x2 x3 x11 := by
  unfold out_main_v167 Cert.LruRefIdeal.Step.R_main_v167
  rw [h.stack, h0, h1, h2, h3, h11]
  try rfl

variable (m : (ℓ : Loc nD τ sig) → Buf (Elt F) ℓ) (c : Dev nD)

/-- The state the first trip starts from. -/
abbrev first : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

set_option maxRecDepth 65536 in
set_option maxHeartbeats 800000 in
/-- The operations before the loop leave the first state. -/
theorem carries_first : Carries (entryContents preI m c) (first m c) 0 := by
  constructor <;> (simp only [entryContents, afterL_cons, afterL_nil]; after_reads_simp) <;> rfl

/-- The state after `k` trips. -/
def after : ℕ → State F
  | 0 => first m c
  | k + 1 => step k (after k)

/-- After `k` trips the carried arrays are the `k`-th state's. -/
theorem carries_after : ∀ k, Carries (STEP^[k] (entryContents preI m c)) (after m c k) k
  | 0 => carries_first m c
  | k + 1 => by
    rw [Function.iterate_succ_apply']
    exact carries_step (carries_after k)

/-- The run's result is the expression after the loop, of the state after the last trip. -/
theorem run_result (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v167) = Cert.LruRefIdeal.Step.R_main_v167 (after m c 8192) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg11)) :=
  (θ_run defs _ _).mono (fun _ h c => (h c).1.trans (result_eq (carries_after m c 8192) (iter_main_arg0 m c 8192) (iter_main_arg1 m c 8192) (iter_main_arg2 m c 8192) (iter_main_arg3 m c 8192) (iter_main_arg11 m c 8192)))
    (Value.run m ρ)

end Cert.LruRefIdeal.Trips

end
-- ==== Proof.LruValue.lean ====
/- The value of the recurrence's branch: the kernel leaves the reference's branch, element by element. -/
module

public import proofs.«01_k».proof.Proof.LruLaunch
public import proofs.«01_k».proof.Proof.LruRef
public import proofs.«01_k».proof.Defs
public import proofs.«01_k».proof.Proof.LruRefRun
public import proofs.«01_k».proof.Proof.Gen.LruRefIdeal.Run
public import Idealize.ShloMosaic.Lib.Claim

@[expose] public section

noncomputable section

open Idealize.ShloMosaic Idealize.ShloMosaic.TcCoe Idealize.SL.Sem

namespace Cert.Proof

open Cert.Layer

/-- From any inputs the kernel leaves the reference's recurrence branch. -/
theorem lru_value : Cert.algebraic_LruIdeal_LruRefIdeal
    (hLruIdeal := Cert.LruIdeal.Gen.facts) (hLruRefIdeal := Cert.LruRefIdeal.Gen.facts) := by
  intro m ρ m' ρ' _ hagree
  refine ⟨fun c => Cert.LruIdeal.Launch.result m c, ?_, ?_⟩
  · exact (θ_run Cert.LruIdeal.defs _ _).mono
      (fun r h c => ⟨(h c).1.trans (Cert.LruIdeal.Launch.final_eq m c), (h c).2⟩)
      (Cert.LruIdeal.Launch.run_blocks m ρ)
  · refine (θ_run Cert.LruRefIdeal.defs _ _).mono (fun r h c => ⟨?_, (h.2 c).2⟩)
      (θ_run_and (Cert.LruRefIdeal.Trips.run_result (F := Ideal) m' ρ') (Cert.LruRefIdeal.Value.run (F := Ideal) m' ρ'))
    obtain ⟨a0, a1, a2, a3, a4, a5, a6, a7, a8, a9, a10, a11⟩ := hagree c
    rw [h.1 c]
    funext i
    obtain ⟨b, T, j, rfl⟩ := exists_ix3 i
    refine (Cert.LruRefIdeal.Rows.result_at _ _ _ _ (m' (c.tc.loc Cert.LruRefIdeal.main_arg4))
      (m' (c.tc.loc Cert.LruRefIdeal.main_arg5)) (m' (c.tc.loc Cert.LruRefIdeal.main_arg6))
      (m' (c.tc.loc Cert.LruRefIdeal.main_arg7)) (m' (c.tc.loc Cert.LruRefIdeal.main_arg8))
      (m' (c.tc.loc Cert.LruRefIdeal.main_arg9)) (m' (c.tc.loc Cert.LruRefIdeal.main_arg10)) _
      (Cert.LruRefIdeal.Trips.after m' c) rfl (fun _ => rfl) b T j).trans ?_
    rw [a0, a1, a2, a3, a4, a5, a6, a7, a8, a9, a10, a11]
    rfl

end Cert.Proof

end
-- ==== Proof.Finite.lean ====
/- The attention call's precondition read back: the arrays it names hold real numbers. -/
module

public import proofs.«01_k».proof.Proof.Layer.Reals
public import proofs.«01_k».proof.Proof.Gen.Pre_attention_inputs_finite
public import Idealize.ShloMosaic.Lib.ReduceAll
public import Idealize.ShloMosaic.Lib.Pointwise

@[expose] public section

noncomputable section

open Idealize.ShloMosaic

namespace Cert.Finite

open Cert.Layer Cert.Pre_attention_inputs_finite

/-- An extended real whose absolute value is below infinity is a real number. -/
theorem real_of_abs_lt {x : EReal} (h : max x (-x) < ⊤) : IsReal x :=
  isReal_iff.mpr ⟨fun e => by simp [e] at h, fun e => by simp [e] at h⟩

/-- The two infinite words that the precondition compares with. -/
theorem top_word32 : Ideal.ofBits .f32 0x7F800000#32 = ⊤ := by
  simp [Ideal.ofBits, Ideal.ieee]

theorem top_word16 : Ideal.ofBits .bf16 0x7F80#16 = ⊤ := by
  simp [Ideal.ofBits, Ideal.ieee]

theorem both {a b : IVec S_ 1} {j : S_.Idx} (h : andi a b j = 1#1) : a j = 1#1 ∧ b j = 1#1 := by
  have h' : a j &&& b j = 1#1 := h
  revert h'
  generalize a j = p
  generalize b j = q
  revert p q
  decide

theorem real_of_all {s : Shape} {φ : FTy} (x : FVec Ideal s φ) (w : BitVec φ.bits) (hw : Ideal.ofBits φ w = ⊤)
    (hb : S_.BroadcastsInDim s (![] : Fin 0 → Fin s.rank)) {axes : List (Fin s.rank)} (init : IVec S_ 1) (h : s.ReducesTo axes S_)
    (hu : 0 < S_.numel) (j : S_.Idx)
    (e : Host.reduce IntOp.andi (cmpf .olt (Host.absf x) (broadcastInDim s ![] hb (constant (F := Ideal) S_ φ w))) init h hu j
      = 1#1) (i : s.Idx) : IsReal (x i) := by
  haveI : Subsingleton S_.Idx := ⟨fun a b => funext fun k => k.elim0⟩
  have h1 := Host.reduce_andi_all _ init h hu j e i
  apply real_of_abs_lt
  rw [← hw]
  have h2 : BitVec.ofBool (decide (max (x i) (-(x i)) < Ideal.ofBits φ w)) = 1#1 := h1
  by_contra hn
  rw [decide_eq_false hn] at h2
  exact absurd h2 (by decide)

theorem finite_args (x0 : FVec Ideal S2x8192x1024 .f32) (x1 : FVec Ideal S1x1024 .f32)
    (x2 : FVec Ideal S1x1024x9216 .f32) (x3 : FVec Ideal S1x9216 .f32) (x4 : FVec Ideal S2x256x2048 .bf16)
    (x5 : FVec Ideal S1x3x1024x1024 .f32) (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ ∀ i, IsReal (x4 i) := by
  have e := congrFun h (fun k : Fin 0 => k.elim0)
  dsimp only [fn, fn_part1] at e
  obtain ⟨e, e4⟩ := both e
  obtain ⟨e, e3⟩ := both e
  obtain ⟨e, e2⟩ := both e
  obtain ⟨e0, e1⟩ := both e
  exact ⟨real_of_all x0 _ top_word32 _ _ _ _ _ e0, real_of_all x1 _ top_word32 _ _ _ _ _ e1,
    real_of_all x2 _ top_word32 _ _ _ _ _ e2, real_of_all x3 _ top_word32 _ _ _ _ _ e3,
    real_of_all x4 _ top_word16 _ _ _ _ _ e4⟩

end Cert.Finite
-- ==== Proof.XattnRef.lean ====
/- What the attention reference computes, read at an index: stage by stage down to the functions of one row in
   `Layer.Rows`. -/
module

public import proofs.«01_k».proof.Proof.Layer.Rows
public import proofs.«01_k».proof.Proof.Gen.XattnRefIdeal.Read

@[expose] public section

set_option maxRecDepth 16384

noncomputable section

open Idealize.ShloMosaic Idealize.ShloMosaic.TcCoe Idealize.SL.Sem

namespace Cert.XattnRefIdeal.Rows

open Cert.XattnRefIdeal Cert.XattnRefIdeal.Read Cert.Layer

open scoped BigOperators

variable (x0 : (⟨S2x8192x1024, .f32⟩ : BufTy).Contents (Elt Ideal)) (x1 : (⟨S1x1024, .f32⟩ : BufTy).Contents (Elt Ideal))
  (x2 : (⟨S1x1024x9216, .f32⟩ : BufTy).Contents (Elt Ideal)) (x3 : (⟨S1x9216, .f32⟩ : BufTy).Contents (Elt Ideal))
  (x4 : (⟨S2x256x2048, .bf16⟩ : BufTy).Contents (Elt Ideal)) (x5 : (⟨S1x3x1024x1024, .f32⟩ : BufTy).Contents (Elt Ideal))

/-- A token's normalised row. -/
def hRow (b : Fin 2) (s : Fin 8192) : Fin 1024 → EReal :=
  normRow (fun k => x0 (ix3 b s k)) fun k => x1 (ix2 0 k)

/-- A token's row after the input projection. -/
def pRow (b : Fin 2) (s : Fin 8192) (c : Fin 9216) : EReal :=
  ∑ k, hRow x0 x1 b s k * x2 (ix3 0 k c) + x3 (ix2 0 c)

theorem h_at (b : Fin 2) (s : Fin 8192) (k : Fin 1024) :
    val_main_v14 (F := Ideal) x0 x1 (ix3 b s k) = hRow x0 x1 b s k := by
  unfold val_main_v14 val_main_v13 val_main_v12 val_main_v11 val_main_v10 val_main_v9 val_main_v8 val_main_v7
    val_main_v6 val_main_v5 val_main_v4 val_main_v3 val_main_v2 val_main_v1 val_main_cst val_main_cst_0
    val_main_cst_1
  pointwise
  rfl

theorem p_at (b : Fin 2) (s : Fin 8192) (c : Fin 9216) :
    val_main_v20 (F := Ideal) x0 x1 x2 x3 (ix3 b s c) = pRow x0 x1 x2 x3 b s c := by
  have h : ∀ k, val_main_v14 (F := Ideal) x0 x1 (ix3 b s k) = hRow x0 x1 b s k := h_at x0 x1 b s
  unfold val_main_v20 val_main_v19 val_main_v18 val_main_v17 val_main_v16 val_main_v15
  generalize val_main_v14 x0 x1 = hb at h
  pointwise
  unfold pRow
  simp only [h]

theorem v27_at (b : Fin 2) (t : Fin 256) (n : Fin 4) (d : Fin 256) :
    val_main_v27 (F := Ideal) x4 (ix4 b t n d) = x4 (ix3 b t ⟨n.val * 256 + d.val, by omega⟩) := by
  unfold val_main_v27 val_main_v26 val_main_v0
  pointwise

theorem v29_at (b : Fin 2) (t : Fin 256) (n : Fin 4) (d : Fin 256) :
    val_main_v29 (F := Ideal) x4 (ix4 b t n d) = x4 (ix3 b t ⟨1024 + (n.val * 256 + d.val), by omega⟩) := by
  unfold val_main_v29 val_main_v28 val_main_v0
  pointwise

theorem v22_at (b : Fin 2) (s : Fin 8192) (n : Fin 4) (d : Fin 256) :
    val_main_v22 (F := Ideal) x0 x1 x2 x3 (ix4 b s n d)
      = pRow x0 x1 x2 x3 b s ⟨4096 + (n.val * 256 + d.val), by omega⟩ := by
  rw [← p_at]
  unfold val_main_v22 val_main_v21
  generalize val_main_v20 (F := Ideal) x0 x1 x2 x3 = p
  pointwise

/-- The query features of a token. -/
def qRow (b : Fin 2) (s : Fin 8192) (c : Fin 1024) : EReal := pRow x0 x1 x2 x3 b s ⟨4096 + c.val, by omega⟩

/-- The memory's rows of keys and values. -/
def kvRow (b : Fin 2) (t : Fin 256) (c : Fin 2048) : EReal := x4 (ix3 b t c)

/-- The first feature of head `n`. -/
def headCol (n : Fin 4) : Fin 1024 := ⟨n.val * 256, by omega⟩

theorem feat_headCol (n : Fin 4) (d : Fin 256) : (feat (headCol n) d).val = n.val * 256 + d.val := by
  show n.val * 256 / 256 * 256 + d.val = _
  omega

theorem score_at (b : Fin 2) (s : Fin 8192) (n : Fin 4) (t : Fin 256) :
    val_main_v32 (F := Ideal) x0 x1 x2 x3 x4 (ix4 b n s t)
      = headScore (qRow x0 x1 x2 x3 b s) (kvRow x4 b) (headCol n) t := by
  have hq : ∀ d, val_main_v22 (F := Ideal) x0 x1 x2 x3 (ix4 b s n d)
      = qRow x0 x1 x2 x3 b s (feat (headCol n) d) := fun d => by
    rw [v22_at]; unfold qRow; congr 2; rw [feat_headCol]
  have hk : ∀ d, val_main_v27 (F := Ideal) x4 (ix4 b t n d) = kvRow x4 b t (keyCol (feat (headCol n) d)) := fun d => by
    rw [v27_at]; unfold kvRow keyCol; congr 2; apply Fin.ext; exact (feat_headCol n d).symm
  unfold val_main_v32 val_main_v31 val_main_cst_2 val_main_v30
  generalize val_main_v22 (F := Ideal) x0 x1 x2 x3 = q at hq
  generalize val_main_v27 (F := Ideal) x4 = k at hk
  pointwise
  unfold headScore score
  simp only [hq, hk]

/-- A maximum over the last of four axes, of any extents, read at an index. -/
theorem hostMax_last {n0 n1 n2 n3 : ℕ} {u : Shape} (h : (⟨4, ![n0, n1, n2, n3]⟩ : Shape).ReducesTo [3] ⟨3, ![n0, n1, n2]⟩)
    (hu : 0 < u.numel) (x : FVec Ideal ⟨4, ![n0, n1, n2, n3]⟩ .f32) (init : FVec Ideal u .f32) (a : Fin n0) (b : Fin n1)
    (c : Fin n2) :
    Host.reduce FloatOps.maximumf x init h hu (ix3 a b c)
      = Finset.fold max (init (Shape.Idx.first hu)) (fun k => x (ix4 a b c k)) Finset.univ := by
  pointwise

theorem max_at (b : Fin 2) (s : Fin 8192) (n : Fin 4) :
    val_main_v35 (F := Ideal) x0 x1 x2 x3 x4 (ix3 b n s)
      = Finset.fold max ⊥ (headScore (qRow x0 x1 x2 x3 b s) (kvRow x4 b) (headCol n)) Finset.univ := by
  have h := score_at x0 x1 x2 x3 x4 b s n
  have h33 : val_main_v33 (F := Ideal) x0 x1 x2 x3 x4 (ix3 b n s)
      = Finset.fold max (val_main_cst_3 (F := Ideal) (Shape.Idx.first Gen.h_S_))
          (fun k => val_main_v32 (F := Ideal) x0 x1 x2 x3 x4 (ix4 b n s k)) Finset.univ :=
    hostMax_last _ _ _ _ b n s
  rw [val_main_v35_apply, h33, val_main_v34_apply, val_main_cst_4_apply, val_main_cst_3_apply]
  simp only [h]
  rw [show FloatOps.ofBits (F := Ideal) .f32 4286578688#32 = (⊥ : EReal) from bot_word]
  exact max_eq_right bot_le

theorem expo_at (b : Fin 2) (s : Fin 8192) (n : Fin 4) (t : Fin 256) :
    val_main_v39 (F := Ideal) x0 x1 x2 x3 x4 (ix4 b n s t)
      = expo (headScore (qRow x0 x1 x2 x3 b s) (kvRow x4 b) (headCol n)) t := by
  have h := score_at x0 x1 x2 x3 x4 b s n
  have hm := max_at x0 x1 x2 x3 x4 b s n
  unfold val_main_v39 val_main_v38 val_main_v37 val_main_v36
  generalize val_main_v32 (F := Ideal) x0 x1 x2 x3 x4 = w at h
  generalize val_main_v35 (F := Ideal) x0 x1 x2 x3 x4 = m at hm
  pointwise
  rw [h, hm]
  rfl

theorem weight_at (b : Fin 2) (s : Fin 8192) (n : Fin 4) (t : Fin 256) :
    val_main_v43 (F := Ideal) x0 x1 x2 x3 x4 (ix4 b n s t)
      = weight (headScore (qRow x0 x1 x2 x3 b s) (kvRow x4 b) (headCol n)) t := by
  have h := expo_at x0 x1 x2 x3 x4 b s n
  unfold val_main_v43 val_main_v42 val_main_v41 val_main_v40 val_main_cst_5
  generalize val_main_v39 (F := Ideal) x0 x1 x2 x3 x4 = w at h
  pointwise
  simp only [h]
  rfl

theorem v44_at (b : Fin 2) (s : Fin 8192) (n : Fin 4) (d : Fin 256) :
    val_main_v44 (F := Ideal) x0 x1 x2 x3 x4 (ix4 b n d s)
      = ∑ t, weight (headScore (qRow x0 x1 x2 x3 b s) (kvRow x4 b) (headCol n)) t
          * kvRow x4 b t ⟨1024 + (n.val * 256 + d.val), by omega⟩ := by
  have h := weight_at x0 x1 x2 x3 x4 b s n
  have hv := fun t => v29_at x4 b t n d
  unfold val_main_v44
  generalize val_main_v43 (F := Ideal) x0 x1 x2 x3 x4 = w at h
  generalize val_main_v29 (F := Ideal) x4 = v at hv
  pointwise
  refine Finset.sum_congr rfl fun t _ => ?_
  rw [h, hv, mul_comm]
  rfl

theorem attend_at (b : Fin 2) (s : Fin 8192) (c : Fin 1024) :
    val_main_v46 (F := Ideal) x0 x1 x2 x3 x4 (ix3 b s c)
      = attend (qRow x0 x1 x2 x3 b s) (kvRow x4 b) c := by
  have h : val_main_v46 (F := Ideal) x0 x1 x2 x3 x4 (ix3 b s c)
      = val_main_v44 (F := Ideal) x0 x1 x2 x3 x4 (ix4 b ⟨c.val / 256, by omega⟩ ⟨c.val % 256, by omega⟩ s) := by
    unfold val_main_v46 val_main_v45
    generalize val_main_v44 (F := Ideal) x0 x1 x2 x3 x4 = y
    pointwise
  rw [h, v44_at]
  unfold attend
  have e1 : headScore (qRow x0 x1 x2 x3 b s) (kvRow x4 b) (headCol ⟨c.val / 256, by omega⟩)
      = headScore (qRow x0 x1 x2 x3 b s) (kvRow x4 b) c := by
    unfold headScore
    have : ∀ d, feat (headCol ⟨c.val / 256, by omega⟩) d = feat c d := fun d => by
      apply Fin.ext
      rw [feat_headCol]
      rfl
    simp only [this]
  have e2 : (⟨1024 + (c.val / 256 * 256 + c.val % 256), by omega⟩ : Fin 2048) = valCol c := by
    apply Fin.ext
    show 1024 + (c.val / 256 * 256 + c.val % 256) = 1024 + c.val
    omega
  simp only [e1, e2]

/-- The row that gates the heads' features, and the logit of the gate on the attention branch. -/
def zRow (b : Fin 2) (s : Fin 8192) (c : Fin 1024) : EReal := pRow x0 x1 x2 x3 b s ⟨5120 + c.val, by omega⟩
def glRow (b : Fin 2) (s : Fin 8192) (c : Fin 1024) : EReal := pRow x0 x1 x2 x3 b s ⟨6144 + (2048 + c.val), by omega⟩

theorem y_at (b : Fin 2) (s : Fin 8192) (c : Fin 1024) :
    val_main_v48 (F := Ideal) x0 x1 x2 x3 x4 (ix3 b s c)
      = attend (qRow x0 x1 x2 x3 b s) (kvRow x4 b) c * (zRow x0 x1 x2 x3 b s c * sigm (zRow x0 x1 x2 x3 b s c)) := by
  have h := attend_at x0 x1 x2 x3 x4 b s c
  have hp := fun c => p_at x0 x1 x2 x3 b s c
  unfold val_main_v48 val_main_v47 val_main_call0_v5 val_main_call0_v4 val_main_call0_v3 val_main_call0_v2
    val_main_call0_v1 val_main_call0_v0 val_main_v23 val_main_call0_cst val_main_call0_cst_0
  generalize val_main_v46 (F := Ideal) x0 x1 x2 x3 x4 = o at h
  generalize val_main_v20 (F := Ideal) x0 x1 x2 x3 = p at hp
  pointwise
  simp only [h, hp]
  rfl

theorem gate_at (b : Fin 2) (s : Fin 8192) (c : Fin 1024) :
    val_main_v56 (F := Ideal) x0 x1 x2 x3 (ix3 b s c) = sigm (glRow x0 x1 x2 x3 b s c) := by
  have hp := fun c => p_at x0 x1 x2 x3 b s c
  unfold val_main_v56 val_main_v55 val_main_v54 val_main_v53 val_main_v52 val_main_v51 val_main_v50 val_main_v49
    val_main_v25 val_main_v24 val_main_cst_6 val_main_cst_7
  generalize val_main_v20 (F := Ideal) x0 x1 x2 x3 = p at hp
  pointwise
  simp only [hp]
  rfl

theorem result_at (b : Fin 2) (s : Fin 8192) (j : Fin 1024) :
    val_main_v60 (F := Ideal) x0 x1 x2 x3 x4 x5 (ix3 b s j)
      = attnRow (qRow x0 x1 x2 x3 b s) (zRow x0 x1 x2 x3 b s) (glRow x0 x1 x2 x3 b s) (kvRow x4 b)
          (fun c j => x5 (ix4 0 2 c j)) j := by
  have hy := fun c => y_at x0 x1 x2 x3 x4 b s c
  have hg := gate_at x0 x1 x2 x3 b s j
  unfold val_main_v60 val_main_v59 val_main_v58 val_main_v57
  generalize val_main_v48 (F := Ideal) x0 x1 x2 x3 x4 = y at hy
  generalize val_main_v56 (F := Ideal) x0 x1 x2 x3 = g at hg
  pointwise
  simp only [hy, hg]
  rfl

end Cert.XattnRefIdeal.Rows
-- ==== Proof.XattnHeads.lean ====
/- The values the attention kernel's body computes, read at an index as the functions of one row in `Layer.Rows`: each
   lemma reads one of the generated payloads, for operands of any contents. -/
module

public import proofs.«01_k».proof.Proof.Layer.Rows
public import proofs.«01_k».proof.Proof.Gen.XattnIdeal.Value
public import Idealize.ShloMosaic.Lib.Pointwise

@[expose] public section

set_option maxRecDepth 16384

noncomputable section

open Idealize.ShloMosaic Idealize.ShloMosaic.TcCoe Idealize.SL.Sem

namespace Cert.XattnIdeal.Heads

open Cert.XattnIdeal Cert.XattnIdeal.Gen Cert.Layer

open scoped BigOperators

theorem norm_at (a : Vec Ideal S1x256x1024 .f32) (g : Vec Ideal S1x1024 .f32) (r : Fin 256) (k : Fin 1024) :
    k0_pay2 a g (ix2 r k) = normRow (fun k => a (ix3 0 r k)) (fun k => g (ix2 0 k)) k := by
  unfold k0_pay2
  pointwise
  rfl

theorem query_at (a : Vec Ideal S1x256x1024 .f32) (g : Vec Ideal S1x1024 .f32) (w : Vec Ideal S1024x1024 .bf16)
    (b : Vec Ideal S1x1024 .f32) (r : Fin 256) (c : Fin 1024) :
    k0_pay3 a g w b (ix2 r c)
      = ∑ k, normRow (fun k => a (ix3 0 r k)) (fun k => g (ix2 0 k)) k * w (ix2 k c) + b (ix2 0 c) := by
  have h := norm_at a g r
  unfold k0_pay3
  generalize k0_pay2 a g = y at h
  pointwise
  simp only [h]

theorem gateRow_at (a : Vec Ideal S1x256x1024 .f32) (g : Vec Ideal S1x1024 .f32) (w : Vec Ideal S1024x1024 .bf16)
    (b : Vec Ideal S1x1024 .f32) (r : Fin 256) (c : Fin 1024) :
    k0_pay4 a g w b (ix2 r c)
      = ∑ k, normRow (fun k => a (ix3 0 r k)) (fun k => g (ix2 0 k)) k * w (ix2 k c) + b (ix2 0 c) := by
  have h := norm_at a g r
  unfold k0_pay4
  generalize k0_pay2 a g = y at h
  pointwise
  simp only [h]

/-- One head's features from scores `s` and value rows `v`, with the weights written as products with a reciprocal. -/
def headOut (s : Fin 256 → EReal) (v : Fin 256 → EReal) : EReal :=
  ∑ t, expo s t * Ideal.div 1 (∑ u, expo s u) * v t

theorem head0_at (q : FVec Ideal S256x1024 .bf16) (k v : Vec Ideal S1x256x256 .bf16) (r d : Fin 256) :
    k0_pay6 q (k0_pay5 k) v (ix2 r d)
      = headOut (score (fun e => q (ix2 r ⟨0 + e.val, by omega⟩)) fun t e => k (ix3 0 t e)) fun t => v (ix3 0 t d) := by
  unfold k0_pay6 k0_pay5
  pointwise
  unfold headOut expo score
  rw [← bot_word]

theorem head1_at (q : FVec Ideal S256x1024 .bf16) (k v : Vec Ideal S1x256x256 .bf16) (r d : Fin 256) :
    k0_pay10 (k0_pay7 v) (k0_pay8 q k) (k0_pay9 q k) (ix2 r d)
      = headOut (score (fun e => q (ix2 r ⟨256 + e.val, by omega⟩)) fun t e => k (ix3 0 t e)) fun t => v (ix3 0 t d) := by
  unfold k0_pay10 k0_pay9 k0_pay8 k0_pay7
  pointwise
  unfold headOut expo score
  rw [← bot_word]

theorem head2_at (q : FVec Ideal S256x1024 .bf16) (k v : Vec Ideal S1x256x256 .bf16) (r d : Fin 256) :
    k0_pay11 q k v (ix2 r d)
      = headOut (score (fun e => q (ix2 r ⟨512 + e.val, by omega⟩)) fun t e => k (ix3 0 t e)) fun t => v (ix3 0 t d) := by
  unfold k0_pay11
  pointwise
  unfold headOut expo score
  rw [← bot_word]

theorem head3_at (q : FVec Ideal S256x1024 .bf16) (k v : Vec Ideal S1x256x256 .bf16) (r d : Fin 256) :
    k0_pay15 (k0_pay12 k) (k0_pay13 v) (k0_pay14 q) (ix2 r d)
      = headOut (score (fun e => q (ix2 r ⟨768 + e.val, by omega⟩)) fun t e => k (ix3 0 t e)) fun t => v (ix3 0 t d) := by
  unfold k0_pay15 k0_pay14 k0_pay13 k0_pay12
  pointwise
  unfold headOut expo score
  rw [← bot_word]

theorem project_at (z : FVec Ideal S256x1024 .f32) (o : Vec Ideal S256x1024 .f32) (w : Vec Ideal S1024x1024 .bf16)
    (r : Fin 256) (j : Fin 1024) :
    k0_pay16 z o w (ix2 r j) = ∑ c, o (ix2 r c) * (z (ix2 r c) * sigm (z (ix2 r c))) * w (ix2 c j) := by
  unfold k0_pay16
  pointwise
  unfold sigm
  simp only [← gate_eq]

theorem logit_at (h : FVec Ideal S256x1024 .bf16) (w : Vec Ideal S1024x1024 .bf16) (r : Fin 256) (j : Fin 1024) :
    k0_pay17 h w (ix2 r j) = ∑ k, h (ix2 r k) * w (ix2 k j) := by
  unfold k0_pay17
  pointwise

theorem out_at (l y : FVec Ideal S256x1024 .f32) (b : Vec Ideal S1x1024 .f32) (r : Fin 256) (j : Fin 1024) :
    k0_pay1 l y (k0_pay18 b) (ix3 0 r j) = sigm (y (ix2 r j) + b (ix2 0 j)) * l (ix2 r j) := by
  unfold k0_pay1 k0_pay18
  pointwise
  unfold sigm
  simp only [← gate_eq]

end Cert.XattnIdeal.Heads
-- ==== Proof.XattnBlock.lean ====
/- What the attention kernel's body leaves in its output block, read at an index as the functions of one row in
   `Layer.Rows` at the blocks of the operands. -/
module

public import proofs.«01_k».proof.Proof.XattnHeads

@[expose] public section

set_option maxRecDepth 16384

noncomputable section

open Idealize.ShloMosaic Idealize.ShloMosaic.TcCoe Idealize.SL.Sem

namespace Cert.XattnIdeal.Block

open Cert.XattnIdeal Cert.XattnIdeal.Gen Cert.XattnIdeal.Heads Cert.Layer

open scoped BigOperators

section Rows

variable (x0 : Vec Ideal S1x256x1024 .f32) (x1 : Vec Ideal S1x1024 .f32) (x2 : Vec Ideal S1024x2048 .bf16)
  (x3 : Vec Ideal S1x2048 .f32) (x4 : Vec Ideal S1x256x2048 .bf16) (x5 : Vec Ideal S1024x1024 .bf16)
  (x6 : Vec Ideal S1x1024 .f32)

/-- Row `r` of the block of tokens, normalised. -/
def bNorm (r : Fin 256) : Fin 1024 → EReal := normRow (fun k => x0 (ix3 0 r k)) fun k => x1 (ix2 0 k)

/-- Its queries, the row that gates the heads' features, and the logits of the gate on the branch. -/
def bQuery (r : Fin 256) (c : Fin 1024) : EReal := ∑ k, bNorm x0 x1 r k * x2 (ix2 k (keyCol c)) + x3 (ix2 0 (keyCol c))
def bGate (r : Fin 256) (c : Fin 1024) : EReal := ∑ k, bNorm x0 x1 r k * x2 (ix2 k (valCol c)) + x3 (ix2 0 (valCol c))
def bLogit (r : Fin 256) (j : Fin 1024) : EReal := ∑ k, bNorm x0 x1 r k * x5 (ix2 k j) + x6 (ix2 0 j)

end Rows

/-- A load of columns of a matrix, all rows. -/
theorem ld_cols {n m w a : ℕ} {e : EltTy} (X : (⟨2, ![n, m]⟩ : Shape).Idx → Elt Ideal e)
    (inb : ∀ i, ![0, a] i + ![n, w] i ≤ (⟨2, ![n, m]⟩ : Shape).size i) (i : Fin n) (j : Fin w) (j' : Fin m)
    (h : j'.val = a + j.val) :
    View.ld X (Rect.unit ![0, a] ![n, w] inb) (ix2 i j) = X (ix2 i j') := by
  show X _ = X _
  congr 1
  funext x
  apply Fin.ext
  match x with
  | ⟨0, _⟩ => show 0 + 1 * i.val = i.val; omega
  | ⟨1, _⟩ => show a + 1 * j.val = j'.val; omega

/-- The same of the one slab of a three-axis block. -/
theorem ld_slab {n m w a : ℕ} {e : EltTy} (X : (⟨3, ![1, n, m]⟩ : Shape).Idx → Elt Ideal e)
    (inb : ∀ i, ![0, 0, a] i + ![1, n, w] i ≤ (⟨3, ![1, n, m]⟩ : Shape).size i) (i : Fin n) (j : Fin w) (j' : Fin m)
    (h : j'.val = a + j.val) :
    View.ld X (Rect.unit ![0, 0, a] ![1, n, w] inb) (ix3 0 i j) = X (ix3 0 i j') := by
  show X _ = X _
  congr 1
  funext x
  apply Fin.ext
  match x with
  | ⟨0, _⟩ => rfl
  | ⟨1, _⟩ => show 0 + 1 * i.val = i.val; omega
  | ⟨2, _⟩ => show a + 1 * j.val = j'.val; omega

/-- Feature `a + d` of what the heads give, when a head's features begin at `a`: from that head's own columns. -/
theorem headOut_eq (q : Fin 1024 → EReal) (kv : Fin 256 → Fin 2048 → EReal) (a : ℕ) (h : a % 256 = 0) (c : Fin 1024)
    (d : Fin 256) (hc : c.val = a + d.val) (qh : Fin 256 → EReal) (key : Fin 256 → Fin 256 → EReal)
    (v : Fin 256 → EReal) (hq : ∀ e c', c'.val = a + e.val → qh e = q c')
    (hk : ∀ t e (c' : Fin 2048), c'.val = a + e.val → key t e = kv t c') (hv : ∀ t, v t = kv t (valCol c)) :
    headOut (score qh key) v = headOut (headScore q kv c) fun t => kv t (valCol c) := by
  have hf : ∀ e, (feat c e).val = a + e.val := fun e => by
    show c.val / 256 * 256 + e.val = _
    omega
  have e1 : qh = fun e => q (feat c e) := funext fun e => hq e _ (hf e)
  have e2 : key = fun t e => kv t (keyCol (feat c e)) := funext fun t => funext fun e => hk t e _ (hf e)
  rw [show v = fun t => kv t (valCol c) from funext hv, e1, e2]
  rfl

/-- A load of a whole shape reads all that the writes left. -/
theorem readCov_whole {sig : RefSig} {κ : Kind} {sp : Space} {S : Shape} {e : EltTy} (v : View sig κ sp S e)
    (L : List (View.Piece (Elt Ideal) S e)) {off : Fin S.rank → ℕ} (h : off = fun _ => 0)
    (inb : ∀ a, off a + S.size a ≤ S.size a) :
    v.readCov L (Rect.unit off S.size inb).toLoadRect = View.canon L := by
  rw [View.readCov_eq_canon']
  exact View.ld_unit_zero h inb _

/-- The scratch array after the four heads' stores, read at a row and a feature. -/
theorem scratch_at (Q : FVec Ideal S256x1024 .bf16) (x4 : Vec Ideal S1x256x2048 .bf16) (r : Fin 256) (c : Fin 1024) :
    View.canon (Val := Elt Ideal) (s := S256x1024) (e := .f32)
      [⟨Rect.unit ![0, 768] ![256, 256] inb_S256x1024_S256x256_0_768,
          k0_pay15 (k0_pay12 (View.ld x4 (Rect.unit ![0, 0, 768] ![1, 256, 256] inb_S1x256x2048_S1x256x256_0_0_768)))
            (k0_pay13 (View.ld x4 (Rect.unit ![0, 0, 1792] ![1, 256, 256] inb_S1x256x2048_S1x256x256_0_0_1792)))
            (k0_pay14 Q)⟩,
        ⟨Rect.unit ![0, 512] ![256, 256] inb_S256x1024_S256x256_0_512,
          k0_pay11 Q (View.ld x4 (Rect.unit ![0, 0, 512] ![1, 256, 256] inb_S1x256x2048_S1x256x256_0_0_512))
            (View.ld x4 (Rect.unit ![0, 0, 1536] ![1, 256, 256] inb_S1x256x2048_S1x256x256_0_0_1536))⟩,
        ⟨Rect.unit ![0, 256] ![256, 256] inb_S256x1024_S256x256_0_256,
          k0_pay10 (k0_pay7 (View.ld x4 (Rect.unit ![0, 0, 1280] ![1, 256, 256] inb_S1x256x2048_S1x256x256_0_0_1280)))
            (k0_pay8 Q (View.ld x4 (Rect.unit ![0, 0, 256] ![1, 256, 256] inb_S1x256x2048_S1x256x256_0_0_256)))
            (k0_pay9 Q (View.ld x4 (Rect.unit ![0, 0, 256] ![1, 256, 256] inb_S1x256x2048_S1x256x256_0_0_256)))⟩,
        ⟨Rect.unit ![0, 0] ![256, 256] inb_S256x1024_S256x256_0_0,
          k0_pay6 Q (k0_pay5 (View.ld x4 (Rect.unit ![0, 0, 0] ![1, 256, 256] inb_S1x256x2048_S1x256x256_0_0_0)))
            (View.ld x4 (Rect.unit ![0, 0, 1024] ![1, 256, 256] inb_S1x256x2048_S1x256x256_0_0_1024))⟩] (ix2 r c)
      = headOut (headScore (fun c' => Q (ix2 r c')) (fun t c' => x4 (ix3 0 t c')) c) fun t => x4 (ix3 0 t (valCol c)) := by
  have hp : ∀ (a : ℕ) (inb : ∀ i, (![0, a] : Fin 2 → ℕ) i + (![256, 256] : Fin 2 → ℕ) i ≤ S256x1024.size i)
      (x : (Rect.unit (s := S256x1024) ![0, a] ![256, 256] inb).shape.Idx),
      a % 256 = 0 → a + 256 ≤ 1024 →
      ∃ (r' d : Fin 256) (c' : Fin 1024), x = ix2 r' d ∧ c'.val = a + d.val
        ∧ (Rect.unit (s := S256x1024) ![0, a] ![256, 256] inb).emb x = ix2 r' c' := fun a inb x _ _ =>
    ⟨x 0, x 1, ⟨a + (x 1).val, by have : (x 1).val < 256 := (x 1).isLt; omega⟩,
      funext fun i => match i with | ⟨0, _⟩ => rfl | ⟨1, _⟩ => rfl, rfl,
      funext fun i => Fin.ext (match i with
        | ⟨0, _⟩ => show 0 + 1 * (x 0).val = (x 0).val by omega
        | ⟨1, _⟩ => show a + 1 * (x 1).val = a + (x 1).val by omega)⟩
  have hh : ∀ (a : ℕ) (r' d : Fin 256) (c' : Fin 1024) (qh : Fin 256 → EReal) (key v : Vec Ideal S1x256x256 .bf16),
      a % 256 = 0 → c'.val = a + d.val → (∀ e c'', c''.val = a + e.val → qh e = Q (ix2 r' c'')) →
      (∀ t e c'', c''.val = a + e.val → key (ix3 0 t e) = x4 (ix3 0 t c'')) →
      (∀ t e c'', c''.val = 1024 + a + e.val → v (ix3 0 t e) = x4 (ix3 0 t c'')) →
      headOut (score qh fun t e => key (ix3 0 t e)) (fun t => v (ix3 0 t d))
        = headOut (headScore (fun c' => Q (ix2 r' c')) (fun t c' => x4 (ix3 0 t c')) c')
            fun t => x4 (ix3 0 t (valCol c')) := fun a r' d c' qh key v ha hc hq hk hv =>
    headOut_eq (fun c' => Q (ix2 r' c')) (fun t c' => x4 (ix3 0 t c')) a ha c' d hc qh (fun t e => key (ix3 0 t e))
      (fun t => v (ix3 0 t d)) hq hk fun t => hv t d _ (by show 1024 + c'.val = _; omega)
  refine View.canon_apply_of_pieces (Val := Elt Ideal) (S := S256x1024) (e := .f32)
    (fun y => headOut (headScore (fun c' => Q (ix2 (y 0) c')) (fun t c' => x4 (ix3 0 t c')) (y 1))
      fun t => x4 (ix3 0 t (valCol (y 1)))) _ ?_ (ix2 r c) ?_
  · simp only [List.forall_mem_cons, List.not_mem_nil, false_imp_iff, implies_true, and_true]
    refine ⟨fun x => ?_, fun x => ?_, fun x => ?_, fun x => ?_⟩
    · obtain ⟨r', d, c', rfl, hc, he⟩ := hp 768 _ x (by decide) (by decide)
      rw [he, head3_at]
      exact hh 768 r' d c' _ _ _ (by decide) hc (fun e c'' h => congrArg (fun c => Q (ix2 r' c)) (Fin.ext h.symm))
        (fun t e c'' h => ld_slab x4 _ t e c'' h) fun t e c'' h => ld_slab x4 _ t e c'' h
    · obtain ⟨r', d, c', rfl, hc, he⟩ := hp 512 _ x (by decide) (by decide)
      rw [he, head2_at]
      exact hh 512 r' d c' _ _ _ (by decide) hc (fun e c'' h => congrArg (fun c => Q (ix2 r' c)) (Fin.ext h.symm))
        (fun t e c'' h => ld_slab x4 _ t e c'' h) fun t e c'' h => ld_slab x4 _ t e c'' h
    · obtain ⟨r', d, c', rfl, hc, he⟩ := hp 256 _ x (by decide) (by decide)
      rw [he, head1_at]
      exact hh 256 r' d c' _ _ _ (by decide) hc (fun e c'' h => congrArg (fun c => Q (ix2 r' c)) (Fin.ext h.symm))
        (fun t e c'' h => ld_slab x4 _ t e c'' h) fun t e c'' h => ld_slab x4 _ t e c'' h
    · obtain ⟨r', d, c', rfl, hc, he⟩ := hp 0 _ x (by decide) (by decide)
      rw [he, head0_at]
      exact hh 0 r' d c' _ _ _ (by decide) hc (fun e c'' h => congrArg (fun c => Q (ix2 r' c)) (Fin.ext h.symm))
        (fun t e c'' h => ld_slab x4 _ t e c'' h) fun t e c'' h => ld_slab x4 _ t e c'' h
  · have hm : ∀ (a : ℕ) (inb : ∀ i, (![0, a] : Fin 2 → ℕ) i + (![256, 256] : Fin 2 → ℕ) i ≤ S256x1024.size i),
        a ≤ c.val → c.val < a + 256 →
        (ix2 r c : S256x1024.Idx) ∈ (Rect.unit (s := S256x1024) ![0, a] ![256, 256] inb).set := by
      intro a inb h1 h2
      rw [Rect.mem_set_unit]
      intro i
      match i with
      | ⟨0, _⟩ => exact ⟨Nat.zero_le _, show r.val < 0 + 256 by omega⟩
      | ⟨1, _⟩ => exact ⟨h1, h2⟩
    have hc := c.isLt
    by_cases h3 : 768 ≤ c.val
    · exact ⟨_, .head _, hm 768 inb_S256x1024_S256x256_0_768 h3 (by omega)⟩
    by_cases h2 : 512 ≤ c.val
    · exact ⟨_, .tail _ (.head _), hm 512 inb_S256x1024_S256x256_0_512 h2 (by omega)⟩
    by_cases h1 : 256 ≤ c.val
    · exact ⟨_, .tail _ (.tail _ (.head _)), hm 256 inb_S256x1024_S256x256_0_256 h1 (by omega)⟩
    · exact ⟨_, .tail _ (.tail _ (.tail _ (.head _))), hm 0 inb_S256x1024_S256x256_0_0 (by omega) (by omega)⟩

/-- What the body leaves in its output block, where the attention's operands are real numbers. -/
theorem block_at (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x256x2048 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S256x1024 .f32) (harg11 : arg11.IsWhole)
    (x0 : Vec Ideal S1x256x1024 .f32) (x1 : Vec Ideal S1x1024 .f32) (x2 : Vec Ideal S1024x2048 .bf16) (x3 : Vec Ideal S1x2048 .f32) (x4 : Vec Ideal S1x256x2048 .bf16) (x5 : Vec Ideal S1024x1024 .bf16) (x6 : Vec Ideal S1x1024 .f32) (x7 : Vec Ideal S1024x1024 .bf16)
    (h0 : ∀ i, IsReal (x0 i)) (h1 : ∀ i, IsReal (x1 i)) (h2 : ∀ i, IsReal (x2 i)) (h3 : ∀ i, IsReal (x3 i))
    (h4 : ∀ i, IsReal (x4 i)) (r : Fin 256) (j : Fin 1024) :
    out0_A_8 c i arg2 harg2 arg3 harg3 arg4 harg4 arg5 harg5 arg6 harg6 arg7 harg7 arg8 harg8 arg9 harg9 arg10 harg10 arg11 harg11 x0 x1 x2 x3 x4 x5 x6 x7 (ix3 0 r j)
      = attnRow (bQuery x0 x1 x2 x3 r) (bGate x0 x1 x2 x3 r) (bLogit x0 x1 x5 x6 r) (fun t c => x4 (ix3 0 t c))
          (fun c j => x7 (ix2 c j)) j := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  have z3 : (![0, 0, 0] : Fin 3 → ℕ) = fun _ => 0 := by decide
  have z2 : (![0, 0] : Fin 2 → ℕ) = fun _ => 0 := by decide
  rw [View.canon_unit_zero z3]
  simp only [View.readAt_eq_ld, harg2.read_unread, harg3.read_unread, harg4.read_unread, harg5.read_unread,
    harg6.read_unread, harg7.read_unread, harg8.read_unread, harg9.read_unread]
  rw [readCov_whole _ _ z2]
  rw [out_at]
  rw [View.ld_unit_zero (S := S1x256x1024) z3, View.ld_unit_zero (S := S1x1024) z2,
    View.ld_unit_zero (S := S1024x1024) z2, View.ld_unit_zero (S := S1x1024) z2 _ x6,
    View.ld_unit_zero (S := S1024x1024) z2 _ x7]
  have hx2 : ∀ (a : ℕ) (inb : ∀ i, (![0, a] : Fin 2 → ℕ) i + (![1024, 1024] : Fin 2 → ℕ) i ≤ S1024x2048.size i)
      (k : Fin 1024) (c' : Fin 1024) (c'' : Fin 2048), c''.val = a + c'.val →
      View.ld x2 (Rect.unit ![0, a] ![1024, 1024] inb) (ix2 k c') = x2 (ix2 k c'') :=
    fun a inb k c' c'' h => ld_cols x2 inb k c' c'' h
  have hx3 : ∀ (a : ℕ) (inb : ∀ i, (![0, a] : Fin 2 → ℕ) i + (![1, 1024] : Fin 2 → ℕ) i ≤ S1x2048.size i)
      (c' : Fin 1024) (c'' : Fin 2048), c''.val = a + c'.val →
      View.ld x3 (Rect.unit ![0, a] ![1, 1024] inb) (ix2 0 c') = x3 (ix2 0 c'') :=
    fun a inb c' c'' h => ld_cols x3 inb 0 c' c'' h
  generalize hQ : k0_pay3 x0 x1 _ _ = Q
  have hq : ∀ c', Q (ix2 r c') = bQuery x0 x1 x2 x3 r c' := fun c' => by
    rw [← hQ, query_at, hx3 0 _ c' (keyCol c') (Nat.zero_add _).symm]
    simp only [hx2 0 _ _ c' (keyCol c') (Nat.zero_add _).symm]
    rfl
  have hz : ∀ c', k0_pay4 x0 x1 (View.ld x2 (Rect.unit ![0, 1024] ![1024, 1024] inb_S1024x2048_S1024x1024_0_1024))
      (View.ld x3 (Rect.unit ![0, 1024] ![1, 1024] inb_S1x2048_S1x1024_0_1024)) (ix2 r c') = bGate x0 x1 x2 x3 r c' :=
    fun c' => by
    rw [gateRow_at, hx3 1024 _ c' (valCol c') rfl]
    simp only [hx2 1024 _ _ c' (valCol c') rfl]
    rfl
  have hn : ∀ k, IsReal (bNorm x0 x1 r k) := normRow_real (fun _ => h0 _) fun _ => h1 _
  have hqr : ∀ c', IsReal (bQuery x0 x1 x2 x3 r c') := fun c' =>
    (IsReal.sum _ fun k => (hn k).mul (h2 _)).add (h3 _)
  rw [project_at, logit_at]
  simp only [scratch_at, hq, hz, norm_at]
  unfold headOut attnRow
  simp only [attend_eq hqr fun t c' => h4 _]
  rfl

end Cert.XattnIdeal.Block
-- ==== Proof.XattnHost.lean ====
/- The arrays that the attention kernel's host code prepares, read at an index of the arguments, and the blocks of the
   operands that a grid point reads. -/
module

public import proofs.«01_k».proof.Proof.XattnBlock
public import proofs.«01_k».proof.Proof.Layer.Index
public import Idealize.ShloMosaic.Lib.StableHlo.ReadAt

@[expose] public section

set_option maxRecDepth 16384

noncomputable section

open Idealize.ShloMosaic Idealize.ShloMosaic.TcCoe Idealize.SL.Sem

namespace Cert.XattnIdeal.Host

open Cert.XattnIdeal Cert.XattnIdeal.Gen Cert.Layer

variable (m : (ℓ : Loc nD τ sig) → Buf (Elt Ideal) ℓ) (c : Dev nD)

theorem v7_at (k : Fin 1024) : V m c main_v7 (ix2 0 k) = m (c.tc.loc main_arg1) (ix2 0 k) := by
  unfold V; after_reads_at

theorem v8_at (k : Fin 1024) (j : Fin 2048) :
    V m c main_v8 (ix2 k j) = m (c.tc.loc main_arg2) (ix3 0 k ⟨4096 + j.val, by omega⟩) := by
  unfold V; after_reads_at

theorem v9_at (j : Fin 2048) : V m c main_v9 (ix2 0 j) = m (c.tc.loc main_arg3) (ix2 0 ⟨4096 + j.val, by omega⟩) := by
  unfold V; after_reads_at

theorem v12_at (k j : Fin 1024) :
    V m c main_v12 (ix2 k j) = m (c.tc.loc main_arg2) (ix3 0 k ⟨6144 + (2048 + j.val), by omega⟩) := by
  unfold V; after_reads_at

theorem v13_at (j : Fin 1024) :
    V m c main_v13 (ix2 0 j) = m (c.tc.loc main_arg3) (ix2 0 ⟨6144 + (2048 + j.val), by omega⟩) := by
  unfold V; after_reads_at

theorem v15_at (k j : Fin 1024) : V m c main_v15 (ix2 k j) = m (c.tc.loc main_arg5) (ix4 0 2 k j) := by
  unfold V; after_reads_at

/-! ## The blocks -/

/-- The sample and the row of tokens that a row of a grid point's block holds. -/
def sample (t : Fin cfg0.N) : Fin 2 := ⟨t.val / 32, by have : t.val < 64 := t.isLt; omega⟩
def token (t : Fin cfg0.N) (r : Fin 256) : Fin 8192 := ⟨t.val % 32 * 256 + r.val, by omega⟩

/-- The block indices of the moving windows at a point. -/
theorem index_moving : ∀ t : Fin grid0.N,
    win0_0.index t 0 = t.val / 32 ∧ win0_0.index t 1 = t.val % 32 ∧ win0_0.index t 2 = 0
    ∧ win0_4.index t 0 = t.val / 32 ∧ win0_4.index t 1 = 0 ∧ win0_4.index t 2 = 0
    ∧ win0_8.index t 0 = t.val / 32 ∧ win0_8.index t 1 = t.val % 32 ∧ win0_8.index t 2 = 0 := by decide +kernel

/-- The others stay at the first block. -/
theorem index_still : ∀ t : Fin grid0.N,
    win0_1.index t 0 = 0 ∧ win0_1.index t 1 = 0 ∧ win0_2.index t 0 = 0 ∧ win0_2.index t 1 = 0
    ∧ win0_3.index t 0 = 0 ∧ win0_3.index t 1 = 0 ∧ win0_5.index t 0 = 0 ∧ win0_5.index t 1 = 0
    ∧ win0_6.index t 0 = 0 ∧ win0_6.index t 1 = 0 ∧ win0_7.index t 0 = 0 ∧ win0_7.index t 1 = 0 := by decide +kernel

theorem tokens_at (t : Fin cfg0.N) (r : Fin 256) (k : Fin 1024) :
    iblk m c 0 t (ix3 0 r k) = m (c.tc.loc main_arg0) (ix3 (sample t) (token t r) k) := by
  obtain ⟨h0, h1, h2, -⟩ := index_moving t
  unfold iblk
  rw [View.read_apply]
  show V m c main_arg0 _ = _
  rw [V_main_arg0]
  congr 1
  funext a
  apply Fin.ext
  match a with
  | ⟨0, _⟩ => show win0_0.index t 0 * 1 + 1 * 0 = t.val / 32; omega
  | ⟨1, _⟩ => show win0_0.index t 1 * 256 + 1 * r.val = t.val % 32 * 256 + r.val; omega
  | ⟨2, _⟩ => show win0_0.index t 2 * 1024 + 1 * k.val = k.val; omega

theorem memory_at (t : Fin cfg0.N) (r : Fin 256) (k : Fin 2048) :
    iblk m c 4 t (ix3 0 r k) = m (c.tc.loc main_arg4) (ix3 (sample t) r k) := by
  obtain ⟨-, -, -, h0, h1, h2, -⟩ := index_moving t
  unfold iblk
  rw [View.read_apply]
  show V m c main_arg4 _ = _
  rw [V_main_arg4]
  congr 1
  funext a
  apply Fin.ext
  match a with
  | ⟨0, _⟩ => show win0_4.index t 0 * 1 + 1 * 0 = t.val / 32; omega
  | ⟨1, _⟩ => show win0_4.index t 1 * 256 + 1 * r.val = r.val; omega
  | ⟨2, _⟩ => show win0_4.index t 2 * 2048 + 1 * k.val = k.val; omega

theorem scale_blk (t : Fin cfg0.N) : iblk m c 1 t = V m c main_v7 := by
  have h := index_still t
  have hz : (fun a => win0_1.index t a * main_v7.ty.shape.size a) = fun _ => 0 :=
    first_zero (f := win0_1.index t) (by omega) (by omega)
  exact Memref.read_access_unit_zero (Elt Ideal) main_v7 hz (fun a => by rw [congrFun hz a]; simp) (V m c main_v7)

theorem proj_blk (t : Fin cfg0.N) : iblk m c 2 t = V m c main_v8 := by
  have h := index_still t
  have hz : (fun a => win0_2.index t a * main_v8.ty.shape.size a) = fun _ => 0 :=
    first_zero (f := win0_2.index t) (by omega) (by omega)
  exact Memref.read_access_unit_zero (Elt Ideal) main_v8 hz (fun a => by rw [congrFun hz a]; simp) (V m c main_v8)

theorem bias_blk (t : Fin cfg0.N) : iblk m c 3 t = V m c main_v9 := by
  have h := index_still t
  have hz : (fun a => win0_3.index t a * main_v9.ty.shape.size a) = fun _ => 0 :=
    first_zero (f := win0_3.index t) (by omega) (by omega)
  exact Memref.read_access_unit_zero (Elt Ideal) main_v9 hz (fun a => by rw [congrFun hz a]; simp) (V m c main_v9)

theorem logitProj_blk (t : Fin cfg0.N) : iblk m c 5 t = V m c main_v12 := by
  have h := index_still t
  have hz : (fun a => win0_5.index t a * main_v12.ty.shape.size a) = fun _ => 0 :=
    first_zero (f := win0_5.index t) (by omega) (by omega)
  exact Memref.read_access_unit_zero (Elt Ideal) main_v12 hz (fun a => by rw [congrFun hz a]; simp) (V m c main_v12)

theorem logitBias_blk (t : Fin cfg0.N) : iblk m c 6 t = V m c main_v13 := by
  have h := index_still t
  have hz : (fun a => win0_6.index t a * main_v13.ty.shape.size a) = fun _ => 0 :=
    first_zero (f := win0_6.index t) (by omega) (by omega)
  exact Memref.read_access_unit_zero (Elt Ideal) main_v13 hz (fun a => by rw [congrFun hz a]; simp) (V m c main_v13)

theorem branch_blk (t : Fin cfg0.N) : iblk m c 7 t = V m c main_v15 := by
  have h := index_still t
  have hz : (fun a => win0_7.index t a * main_v15.ty.shape.size a) = fun _ => 0 :=
    first_zero (f := win0_7.index t) (by omega) (by omega)
  exact Memref.read_access_unit_zero (Elt Ideal) main_v15 hz (fun a => by rw [congrFun hz a]; simp) (V m c main_v15)

end Cert.XattnIdeal.Host
-- ==== Proof.XattnValue.lean ====
/- The attention call's value: where its operands are real numbers, the array that the kernel leaves is the reference's. -/
module

public import proofs.«01_k».proof.Proof.XattnRef
public import proofs.«01_k».proof.Proof.XattnHost

@[expose] public section

set_option maxRecDepth 16384

noncomputable section

open Idealize.ShloMosaic Idealize.ShloMosaic.TcCoe Idealize.SL.Sem
open Idealize.ShloMosaic.Pipeline (Dat)

namespace Cert.XattnIdeal.Whole

open Cert.XattnIdeal Cert.XattnIdeal.Gen Cert.XattnIdeal.Block Cert.XattnIdeal.Host Cert.Layer
open Cert.XattnRefIdeal.Rows (qRow zRow glRow kvRow pRow hRow)

variable (m : (ℓ : Loc nD τ sig) → Buf (Elt Ideal) ℓ) (c : Dev nD)

/-- The arguments that the softmax depends on hold real numbers. -/
structure RealArgs : Prop where
  tokens : ∀ i, IsReal (m (c.tc.loc main_arg0) i)
  scale : ∀ i, IsReal (m (c.tc.loc main_arg1) i)
  proj : ∀ i, IsReal (m (c.tc.loc main_arg2) i)
  bias : ∀ i, IsReal (m (c.tc.loc main_arg3) i)
  memory : ∀ i, IsReal (m (c.tc.loc main_arg4) i)

/-- The reference's result at the kernel's arguments. -/
def result : Buf (Elt Ideal) ((c : Thread nD τ).loc main_v16) :=
  Cert.XattnRefIdeal.Read.val_main_v60 (F := Ideal) (m (c.tc.loc main_arg0)) (m (c.tc.loc main_arg1))
    (m (c.tc.loc main_arg2)) (m (c.tc.loc main_arg3)) (m (c.tc.loc main_arg4)) (m (c.tc.loc main_arg5))

/-- A projected row of a block is a projected row of the arguments, where the rows and the columns agree. -/
theorem project_congr {f f' w w' : Fin 1024 → EReal} {b b' : EReal} (h : ∀ k, f k = f' k) (hw : ∀ k, w k = w' k)
    (hb : b = b') : ∑ k, f k * w k + b = ∑ k, f' k * w' k + b' := by
  rw [funext h, funext hw, hb]

/-- The branch's contribution depends on its rows only. -/
theorem attnRow_congr {q q' z z' l l' : Fin 1024 → EReal} {kv kv' : Fin 256 → Fin 2048 → EReal}
    {w w' : Fin 1024 → Fin 1024 → EReal} (hq : ∀ c, q c = q' c) (hz : ∀ c, z c = z' c) (hl : ∀ c, l c = l' c)
    (hk : ∀ t c, kv t c = kv' t c) (hw : ∀ c j, w c j = w' c j) (j : Fin 1024) :
    attnRow q z l kv w j = attnRow q' z' l' kv' w' j := by
  rw [funext hq, funext hz, funext hl, funext fun t => funext (hk t), funext fun c => funext (hw c)]

section Rows

variable (t : Fin cfg0.N) (r : Fin 256)

theorem norm_row (k : Fin 1024) : bNorm (iblk m c 0 t) (iblk m c 1 t) r k
    = hRow (m (c.tc.loc main_arg0)) (m (c.tc.loc main_arg1)) (sample t) (token t r) k :=
  congrArg₂ (fun x g => normRow x g k) (funext fun _ => tokens_at m c t r _)
    (funext fun k => (congrFun (scale_blk m c t) _).trans (v7_at m c k))

theorem query_row (j : Fin 1024) : bQuery (iblk m c 0 t) (iblk m c 1 t) (iblk m c 2 t) (iblk m c 3 t) r j
    = qRow (m (c.tc.loc main_arg0)) (m (c.tc.loc main_arg1)) (m (c.tc.loc main_arg2)) (m (c.tc.loc main_arg3))
        (sample t) (token t r) j :=
  project_congr (norm_row m c t r) (fun k => (congrFun (proj_blk m c t) _).trans (v8_at m c k _))
    ((congrFun (bias_blk m c t) _).trans (v9_at m c _))

theorem gate_row (j : Fin 1024) : bGate (iblk m c 0 t) (iblk m c 1 t) (iblk m c 2 t) (iblk m c 3 t) r j
    = zRow (m (c.tc.loc main_arg0)) (m (c.tc.loc main_arg1)) (m (c.tc.loc main_arg2)) (m (c.tc.loc main_arg3))
        (sample t) (token t r) j := by
  have e : (⟨4096 + (valCol j).val, by omega⟩ : Fin 9216) = ⟨5120 + j.val, by omega⟩ := by
    apply Fin.ext; show 4096 + (1024 + j.val) = 5120 + j.val; omega
  exact project_congr (norm_row m c t r)
    (fun k => ((congrFun (proj_blk m c t) _).trans (v8_at m c k _)).trans (by rw [e]))
    (((congrFun (bias_blk m c t) _).trans (v9_at m c _)).trans (by rw [e]))

theorem logit_row (j : Fin 1024) : bLogit (iblk m c 0 t) (iblk m c 1 t) (iblk m c 5 t) (iblk m c 6 t) r j
    = glRow (m (c.tc.loc main_arg0)) (m (c.tc.loc main_arg1)) (m (c.tc.loc main_arg2)) (m (c.tc.loc main_arg3))
        (sample t) (token t r) j :=
  project_congr (norm_row m c t r) (fun k => (congrFun (logitProj_blk m c t) _).trans (v12_at m c k j))
    ((congrFun (logitBias_blk m c t) _).trans (v13_at m c j))

end Rows

/-- What a grid point writes back is its block of the reference's result. -/
theorem flushed_eq (h : RealArgs m c) (t : Fin cfg0.N) (_ : (cfg0.win 8).flush t = true) :
    (dats m 0 c).flushed 8 t = ((cfg0.win 8).blk t).view.read (Elt Ideal) (result m c) := by
  rw [Cert.XattnIdeal.Value.flushed8_A]
  funext j
  obtain ⟨r, k, rfl⟩ := exists_slab (n1 := 256) (n2 := 1024) j
  rw [View.read_apply]
  refine (block_at c _ _ _ _ _ _ _ _ _ _ _ _ _ _ _ _ _ _ _ _ _ _ _ _ _ _ _ _ _ ?_ ?_ ?_ ?_ ?_ r k).trans ?_
  · intro i; obtain ⟨a, b, rfl⟩ := exists_slab i; rw [tokens_at]; exact h.tokens _
  · intro i; obtain ⟨a, rfl⟩ := exists_line i; rw [scale_blk, v7_at]; exact h.scale _
  · intro i; obtain ⟨a, b, rfl⟩ := exists_ix2 i; rw [proj_blk, v8_at]; exact h.proj _
  · intro i; obtain ⟨a, rfl⟩ := exists_line i; rw [bias_blk, v9_at]; exact h.bias _
  · intro i; obtain ⟨a, b, rfl⟩ := exists_slab i; rw [memory_at]; exact h.memory _
  obtain ⟨-, -, -, -, -, -, h0, h1, h2⟩ := index_moving t
  have he : ((cfg0.win 8).blk t).view.emb (ix3 0 r k) = ix3 (sample t) (token t r) k := by
    funext a
    apply Fin.ext
    match a with
    | ⟨0, _⟩ => show win0_8.index t 0 * 1 + 1 * 0 = t.val / 32; omega
    | ⟨1, _⟩ => show win0_8.index t 1 * 256 + 1 * r.val = t.val % 32 * 256 + r.val; omega
    | ⟨2, _⟩ => show win0_8.index t 2 * 1024 + 1 * k.val = k.val; omega
  rw [he]
  exact (attnRow_congr (query_row m c t r) (gate_row m c t r) (logit_row m c t r) (memory_at m c t)
    (fun i j => (congrFun (branch_blk m c t) _).trans (v15_at m c i j)) k).trans
    (Cert.XattnRefIdeal.Rows.result_at _ _ _ _ _ _ (sample t) (token t r) k).symm

/-- A grid point's block holds the elements of its sample and its tokens. -/
theorem mem_blk (t : Fin cfg0.N) (i : S2x8192x1024.Idx) (hb : (i 0).val = t.val / 32)
    (hs : (i 1).val / 256 = t.val % 32) : i ∈ ((cfg0.win 8).blk t).view.set := by
  obtain ⟨-, -, -, -, -, -, h0, h1, h2⟩ := index_moving t
  have x : ∀ t : Fin grid0.N, win0_8.xsize (grid0.coords t) 0 = 1 ∧ win0_8.xsize (grid0.coords t) 1 = 256
      ∧ win0_8.xsize (grid0.coords t) 2 = 1024 := by decide +kernel
  obtain ⟨x0, x1, x2⟩ := x t
  show i ∈ ((View.whole main_v16).slice (win0_8.rect t)).set
  rw [View.set_slice_whole, Rect.mem_set_unit]
  intro a
  match a with
  | ⟨0, _⟩ =>
    show win0_8.index t 0 * 1 ≤ (i 0).val ∧ (i 0).val < win0_8.index t 0 * 1 + win0_8.xsize (grid0.coords t) 0
    omega
  | ⟨1, _⟩ =>
    show win0_8.index t 1 * 256 ≤ (i 1).val ∧ (i 1).val < win0_8.index t 1 * 256 + win0_8.xsize (grid0.coords t) 1
    omega
  | ⟨2, _⟩ =>
    have : (i 2).val < 1024 := (i 2).isLt
    show win0_8.index t 2 * 1024 ≤ (i 2).val ∧ (i 2).val < win0_8.index t 2 * 1024 + win0_8.xsize (grid0.coords t) 2
    omega

/-- So the array that the kernel leaves is the reference's result. -/
theorem final_eq (h : RealArgs m c) : (dats m 0 c).arrAt 8 cfg0.N = result m c :=
  (dats m 0 c).arrAt_eq_of_cover 8 (result m c) (flushed_eq m c h) fun i => by
    have h0 : (i 0).val < 2 := (i 0).isLt
    have h1 : (i 1).val < 8192 := (i 1).isLt
    have hN : (i 0).val * 32 + (i 1).val / 256 < 64 := by omega
    refine ⟨⟨(i 0).val * 32 + (i 1).val / 256, hN⟩, flush0_8 _, mem_blk _ i ?_ ?_⟩
    · show (i 0).val = ((i 0).val * 32 + (i 1).val / 256) / 32; omega
    · show (i 1).val / 256 = ((i 0).val * 32 + (i 1).val / 256) % 32; omega

end Cert.XattnIdeal.Whole
-- ==== Proof.XattnClaims.lean ====
/- The claims about the attention call that are not generated: its reference's frame, and its value. -/
module

public import proofs.«01_k».proof.Defs
public import proofs.«01_k».proof.Proof.Finite
public import proofs.«01_k».proof.Proof.XattnValue
public import Idealize.ShloMosaic.Lib.Quiescent

@[expose] public section

noncomputable section

open Idealize.ShloMosaic Idealize.ShloMosaic.TcCoe Idealize.SL.Sem

namespace Cert.Proof

/-- The reference has no semaphores, so its counters are zero at the end as at the start. -/
theorem xattnRef_frame : Cert.quiescent_XattnRefIdeal (hXattnRefIdeal := Cert.XattnRefIdeal.Gen.facts) := fun m ρ _ =>
  (θ_run Cert.XattnRefIdeal.defs _ _).mono
    (fun r h => ⟨fun c => (h c).2, sem_eq_zero_of_no_sems (by decide) r.2⟩)
    (Cert.XattnRefIdeal.Value.run (F := Ideal) m ρ)

/-- From real inputs the kernel leaves the reference's attention branch, element by element. -/
theorem xattn_value : Cert.algebraic_XattnIdeal_XattnRefIdeal_pre_attention_inputs_finite
    (hXattnIdeal := Cert.XattnIdeal.Gen.facts) (hXattnRefIdeal := Cert.XattnRefIdeal.Gen.facts)
    (hPre_attention_inputs_finite := Cert.Pre_attention_inputs_finite.Gen.facts) := by
  intro m ρ m' ρ' hpre hagree
  have hreal : ∀ c, Cert.XattnIdeal.Whole.RealArgs m c := fun c => by
    obtain ⟨h0, h1, h2, h3, h4⟩ := Cert.Finite.finite_args _ _ _ _ _ _ (hpre c)
    exact ⟨h0, h1, h2, h3, h4⟩
  refine ⟨fun c => Cert.XattnIdeal.Whole.result m c, ?_, ?_⟩
  · exact (θ_run Cert.XattnIdeal.defs _ _).mono
      (fun r h c => ⟨(h c).1.trans (Cert.XattnIdeal.Whole.final_eq m c (hreal c)), (h c).2⟩)
      (Cert.XattnIdeal.Value.run_blocks m ρ)
  · refine (θ_run Cert.XattnRefIdeal.defs _ _).mono (fun r h c => ⟨?_, (h c).2⟩)
      (Cert.XattnRefIdeal.Value.run (F := Ideal) m' ρ')
    obtain ⟨a0, a1, a2, a3, a4, a5⟩ := hagree c
    rw [(h c).1, Cert.XattnRefIdeal.Read.val_main_v60_eq, a0, a1, a2, a3, a4, a5]
    rfl

end Cert.Proof
-- ==== Proof.MemKvRows.lean ====
/- The memory call, read at an index: its body, its reference, and the arrays its host code prepares. -/
module

public import proofs.«01_k».proof.Proof.Layer.Rows
public import proofs.«01_k».proof.Proof.Layer.Index
public import proofs.«01_k».proof.Proof.Gen.MemKvIdeal.Value
public import proofs.«01_k».proof.Proof.Gen.MemKvRefIdeal.Read
public import Idealize.ShloMosaic.Lib.StableHlo.ReadAt

@[expose] public section

set_option maxRecDepth 16384

noncomputable section

open Idealize.ShloMosaic Idealize.ShloMosaic.TcCoe Idealize.SL.Sem

namespace Cert.Layer

open scoped BigOperators

/-- A memory token's keys and values: its normed row projected. -/
def keysRow (x g : Fin 1024 → EReal) (w : Fin 1024 → Fin 2048 → EReal) (j : Fin 2048) : EReal :=
  ∑ k, normRow x g k * w k j

theorem keysRow_congr {x x' g g' : Fin 1024 → EReal} {w w' : Fin 1024 → Fin 2048 → EReal} (hx : ∀ k, x k = x' k)
    (hg : ∀ k, g k = g' k) (hw : ∀ k j, w k j = w' k j) (j : Fin 2048) : keysRow x g w j = keysRow x' g' w' j := by
  rw [funext hx, funext hg, funext fun k => funext (hw k)]

end Cert.Layer

namespace Cert.MemKvRefIdeal.Rows

open Cert.MemKvRefIdeal Cert.MemKvRefIdeal.Read Cert.Layer

variable (x0 : (⟨S2x256x1024, .f32⟩ : BufTy).Contents (Elt Ideal)) (x1 : (⟨S1x1024, .f32⟩ : BufTy).Contents (Elt Ideal))
  (x2 : (⟨S1x1024x2048, .f32⟩ : BufTy).Contents (Elt Ideal))

theorem norm_at (b : Fin 2) (t : Fin 256) (k : Fin 1024) : val_main_v13 (F := Ideal) x0 x1 (ix3 b t k)
    = normRow (fun i => x0 (ix3 b t i)) (fun i => x1 (ix2 0 i)) k := by
  unfold val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise
  rfl

theorem result_at (b : Fin 2) (t : Fin 256) (j : Fin 2048) : val_main_v16 (F := Ideal) x0 x1 x2 (ix3 b t j)
    = keysRow (fun i => x0 (ix3 b t i)) (fun i => x1 (ix2 0 i)) (fun k j => x2 (ix3 0 k j)) j := by
  have h := norm_at x0 x1 b t
  unfold val_main_v16 val_main_v15 val_main_v14
  generalize val_main_v13 (F := Ideal) x0 x1 = y at h
  pointwise
  simp only [h]
  rfl

end Cert.MemKvRefIdeal.Rows

namespace Cert.MemKvIdeal.Rows

open Cert.MemKvIdeal Cert.MemKvIdeal.Gen Cert.Layer

/-- What the body stores, from its loads. -/
theorem pay_at (x : Vec Ideal S1x256x1024 .f32) (g : Vec Ideal S1x1024 .f32) (w : Vec Ideal S1024x2048 .bf16)
    (t : Fin 256) (j : Fin 2048) : k0_pay1 x g w (ix3 0 t j)
      = keysRow (fun i => x (ix3 0 t i)) (fun i => g (ix2 0 i)) (fun k j => w (ix2 k j)) j := by
  unfold k0_pay1
  pointwise
  rfl

variable (m : (ℓ : Loc nD τ sig) → Buf (Elt Ideal) ℓ) (c : Dev nD)

theorem v1_at (k : Fin 1024) (j : Fin 2048) : V m c main_v1 (ix2 k j) = m (c.tc.loc main_arg2) (ix3 0 k j) := by
  unfold V; after_reads_at

theorem v3_at (k : Fin 1024) : V m c main_v3 (ix2 0 k) = m (c.tc.loc main_arg1) (ix2 0 k) := by
  unfold V; after_reads_at

end Cert.MemKvIdeal.Rows
-- ==== Proof.MemKvValue.lean ====
/- The memory call's value: the array that the kernel leaves is the reference's. -/
module

public import proofs.«01_k».proof.Proof.MemKvRows

@[expose] public section

set_option maxRecDepth 16384

noncomputable section

open Idealize.ShloMosaic Idealize.ShloMosaic.TcCoe Idealize.SL.Sem
open Idealize.ShloMosaic.Pipeline (Dat)

namespace Cert.MemKvIdeal.Whole

open Cert.MemKvIdeal Cert.MemKvIdeal.Gen Cert.MemKvIdeal.Rows Cert.Layer

variable (m : (ℓ : Loc nD τ sig) → Buf (Elt Ideal) ℓ) (c : Dev nD)

/-- The reference's result at the kernel's arguments. -/
def result : Buf (Elt Ideal) ((c : Thread nD τ).loc main_v4) :=
  Cert.MemKvRefIdeal.Read.val_main_v16 (F := Ideal) (m (c.tc.loc main_arg0)) (m (c.tc.loc main_arg1))
    (m (c.tc.loc main_arg2))

/-- A grid point works on one sample. -/
def sample (t : Fin cfg0.N) : Fin 2 := ⟨t.val, t.isLt⟩

/-- The block indices of the windows at a point. -/
theorem index_at : ∀ t : Fin grid0.N, win0_0.index t 0 = t.val ∧ win0_0.index t 1 = 0 ∧ win0_0.index t 2 = 0
    ∧ win0_3.index t 0 = t.val ∧ win0_3.index t 1 = 0 ∧ win0_3.index t 2 = 0
    ∧ win0_1.index t 0 = 0 ∧ win0_1.index t 1 = 0 ∧ win0_2.index t 0 = 0 ∧ win0_2.index t 1 = 0 := by decide +kernel

section Blocks

variable (t : Fin cfg0.N) (k : Fin 1024)

theorem token_at (r : Fin 256) : iblk m c 0 t (ix3 0 r k) = m (c.tc.loc main_arg0) (ix3 (sample t) r k) := by
  obtain ⟨h0, h1, h2, -⟩ := index_at t
  unfold iblk
  rw [View.read_apply]
  show V m c main_arg0 _ = _
  rw [V_main_arg0]
  congr 1
  funext a
  apply Fin.ext
  match a with
  | ⟨0, _⟩ => show win0_0.index t 0 * 1 + 1 * 0 = t.val; omega
  | ⟨1, _⟩ => show win0_0.index t 1 * 256 + 1 * r.val = r.val; omega
  | ⟨2, _⟩ => show win0_0.index t 2 * 1024 + 1 * k.val = k.val; omega

theorem scale_at : iblk m c 1 t (ix2 0 k) = m (c.tc.loc main_arg1) (ix2 0 k) := by
  obtain ⟨-, -, -, -, -, -, h0, h1, -⟩ := index_at t
  have hz : (fun a => win0_1.index t a * main_v3.ty.shape.size a) = fun _ => 0 :=
    first_zero (f := win0_1.index t) (by omega) (by omega)
  have e : iblk m c 1 t = V m c main_v3 :=
    Memref.read_access_unit_zero (Elt Ideal) main_v3 hz (fun a => by rw [congrFun hz a]; simp) (V m c main_v3)
  exact (congrFun e _).trans (v3_at m c k)

theorem proj_at (j : Fin 2048) : iblk m c 2 t (ix2 k j) = m (c.tc.loc main_arg2) (ix3 0 k j) := by
  obtain ⟨-, -, -, -, -, -, -, -, h0, h1⟩ := index_at t
  have hz : (fun a => win0_2.index t a * main_v1.ty.shape.size a) = fun _ => 0 :=
    first_zero (f := win0_2.index t) (by omega) (by omega)
  have e : iblk m c 2 t = V m c main_v1 :=
    Memref.read_access_unit_zero (Elt Ideal) main_v1 hz (fun a => by rw [congrFun hz a]; simp) (V m c main_v1)
  exact (congrFun e _).trans (v1_at m c k j)

end Blocks

/-- What the body leaves in its output block. -/
theorem block_at (x0 : Vec Ideal S1x256x1024 .f32) (x1 : Vec Ideal S1x1024 .f32) (x2 : Vec Ideal S1024x2048 .bf16)
    (r : Fin 256) (j : Fin 2048) : out0_3 x0 x1 x2 (ix3 0 r j)
      = keysRow (fun i => x0 (ix3 0 r i)) (fun i => x1 (ix2 0 i)) (fun k j => x2 (ix2 k j)) j := by
  have z3 : (![0, 0, 0] : Fin 3 → ℕ) = fun _ => 0 := by decide
  have z2 : (![0, 0] : Fin 2 → ℕ) = fun _ => 0 := by decide
  unfold out0_3
  rw [View.canon_unit_zero z3, pay_at]
  rw [View.ld_unit_zero (S := S1x256x1024) z3 _ x0, View.ld_unit_zero (S := S1x1024) z2 _ x1,
    View.ld_unit_zero (S := S1024x2048) z2 _ x2]

/-- What a grid point writes back is its block of the reference's result. -/
theorem flushed_eq (t : Fin cfg0.N) (_ : (cfg0.win 3).flush t = true) :
    (dats m 0 c).flushed 3 t = ((cfg0.win 3).blk t).view.read (Elt Ideal) (result m c) := by
  rw [Cert.MemKvIdeal.Value.flushed3]
  funext j
  obtain ⟨r, k, rfl⟩ := exists_slab (n1 := 256) (n2 := 2048) j
  rw [View.read_apply]
  refine (block_at _ _ _ r k).trans ?_
  obtain ⟨-, -, -, h0, h1, h2, -⟩ := index_at t
  have he : ((cfg0.win 3).blk t).view.emb (ix3 0 r k) = ix3 (sample t) r k := by
    funext a
    apply Fin.ext
    match a with
    | ⟨0, _⟩ => show win0_3.index t 0 * 1 + 1 * 0 = t.val; omega
    | ⟨1, _⟩ => show win0_3.index t 1 * 256 + 1 * r.val = r.val; omega
    | ⟨2, _⟩ => show win0_3.index t 2 * 2048 + 1 * k.val = k.val; omega
  rw [he]
  exact (keysRow_congr (fun k => token_at m c t k r) (scale_at m c t) (proj_at m c t) k).trans
    (Cert.MemKvRefIdeal.Rows.result_at _ _ _ (sample t) r k).symm

/-- A grid point's block holds the elements of its sample. -/
theorem mem_blk (t : Fin cfg0.N) (i : S2x256x2048.Idx) (hb : (i 0).val = t.val) :
    i ∈ ((cfg0.win 3).blk t).view.set := by
  obtain ⟨-, -, -, h0, h1, h2, -⟩ := index_at t
  have x : ∀ t : Fin grid0.N, win0_3.xsize (grid0.coords t) 0 = 1 ∧ win0_3.xsize (grid0.coords t) 1 = 256
      ∧ win0_3.xsize (grid0.coords t) 2 = 2048 := by decide +kernel
  obtain ⟨x0, x1, x2⟩ := x t
  show i ∈ ((View.whole main_v4).slice (win0_3.rect t)).set
  rw [View.set_slice_whole, Rect.mem_set_unit]
  intro a
  match a with
  | ⟨0, _⟩ =>
    show win0_3.index t 0 * 1 ≤ (i 0).val ∧ (i 0).val < win0_3.index t 0 * 1 + win0_3.xsize (grid0.coords t) 0
    omega
  | ⟨1, _⟩ =>
    have : (i 1).val < 256 := (i 1).isLt
    show win0_3.index t 1 * 256 ≤ (i 1).val ∧ (i 1).val < win0_3.index t 1 * 256 + win0_3.xsize (grid0.coords t) 1
    omega
  | ⟨2, _⟩ =>
    have : (i 2).val < 2048 := (i 2).isLt
    show win0_3.index t 2 * 2048 ≤ (i 2).val ∧ (i 2).val < win0_3.index t 2 * 2048 + win0_3.xsize (grid0.coords t) 2
    omega

/-- So the array that the kernel leaves is the reference's result. -/
theorem final_eq : (dats m 0 c).arrAt 3 cfg0.N = result m c :=
  (dats m 0 c).arrAt_eq_of_cover 3 (result m c) (flushed_eq m c) fun i => by
    have h0 : (i 0).val < 2 := (i 0).isLt
    exact ⟨⟨(i 0).val, h0⟩, flush0_3 _, mem_blk _ i rfl⟩

end Cert.MemKvIdeal.Whole
-- ==== Proof.MergeRows.lean ====
/- The merge call, read at an index: its body, its reference, and the arrays its host code prepares. -/
module

public import proofs.«01_k».proof.Proof.Layer.Rows
public import proofs.«01_k».proof.Proof.Layer.Index
public import proofs.«01_k».proof.Proof.Gen.MergeIdeal.Value
public import proofs.«01_k».proof.Proof.Gen.MergeRefIdeal.Read
public import Idealize.ShloMosaic.Lib.StableHlo.ReadAt

@[expose] public section

set_option maxRecDepth 16384

noncomputable section

open Idealize.ShloMosaic Idealize.ShloMosaic.TcCoe Idealize.SL.Sem

namespace Cert.Layer

open scoped BigOperators

/-- The layer's last lines on a token's row: the branches summed, projected and added to the input, and the sum normed. -/
def mergeRow (x a b d : Fin 1024 → EReal) (w : Fin 1024 → Fin 1024 → EReal) (g : Fin 1024 → EReal) : Fin 1024 → EReal :=
  normRow (fun k => x k + ∑ i, (a i + b i + d i) * w i k) g

theorem mergeRow_congr {x x' a a' b b' d d' g g' : Fin 1024 → EReal} {w w' : Fin 1024 → Fin 1024 → EReal}
    (hx : ∀ k, x k = x' k) (ha : ∀ k, a k = a' k) (hb : ∀ k, b k = b' k) (hd : ∀ k, d k = d' k)
    (hw : ∀ i k, w i k = w' i k) (hg : ∀ k, g k = g' k) (j : Fin 1024) :
    mergeRow x a b d w g j = mergeRow x' a' b' d' w' g' j := by
  rw [funext hx, funext ha, funext hb, funext hd, funext fun i => funext (hw i), funext hg]

end Cert.Layer

namespace Cert.MergeRefIdeal.Rows

open Cert.MergeRefIdeal Cert.MergeRefIdeal.Read Cert.Layer

variable (x0 x1 x2 x3 : (⟨S2x8192x1024, .f32⟩ : BufTy).Contents (Elt Ideal))
  (x4 : (⟨S1x1024x1024, .f32⟩ : BufTy).Contents (Elt Ideal)) (x5 : (⟨S1024, .f32⟩ : BufTy).Contents (Elt Ideal))

theorem sum_at (b : Fin 2) (s : Fin 8192) (k : Fin 1024) :
    val_main_v4 (F := Ideal) x1 x2 x3 (ix3 b s k) = x1 (ix3 b s k) + x2 (ix3 b s k) + x3 (ix3 b s k) := by
  unfold val_main_v4 val_main_v3 val_main_v2 val_main_v1 val_main_v0 val_main_cst
  pointwise
  simp [Fin.sum_univ_three]

theorem out_at (b : Fin 2) (s : Fin 8192) (k : Fin 1024) :
    val_main_v7 (F := Ideal) x0 x1 x2 x3 x4 (ix3 b s k) = x0 (ix3 b s k)
      + ∑ i, (x1 (ix3 b s i) + x2 (ix3 b s i) + x3 (ix3 b s i)) * x4 (ix3 0 i k) := by
  have h := sum_at x1 x2 x3 b s
  unfold val_main_v7 val_main_v6 val_main_v5
  generalize val_main_v4 (F := Ideal) x1 x2 x3 = y at h
  pointwise
  simp only [h]

theorem result_at (b : Fin 2) (s : Fin 8192) (k : Fin 1024) :
    val_main_v20 (F := Ideal) x0 x1 x2 x3 x4 x5 (ix3 b s k)
      = mergeRow (fun i => x0 (ix3 b s i)) (fun i => x1 (ix3 b s i)) (fun i => x2 (ix3 b s i)) (fun i => x3 (ix3 b s i))
          (fun i j => x4 (ix3 0 i j)) (fun i => x5 (ix1 i)) k := by
  have h := out_at x0 x1 x2 x3 x4 b s
  unfold val_main_v20 val_main_v19 val_main_v18 val_main_v17 val_main_v16 val_main_v15 val_main_v14 val_main_v13
    val_main_v12 val_main_v11 val_main_v10 val_main_v9 val_main_v8 val_main_cst_0 val_main_cst_1 val_main_cst_2
  generalize val_main_v7 (F := Ideal) x0 x1 x2 x3 x4 = y at h
  pointwise
  simp only [h]
  rfl

end Cert.MergeRefIdeal.Rows

namespace Cert.MergeIdeal.Rows

open Cert.MergeIdeal Cert.MergeIdeal.Gen Cert.Layer

/-- What the body stores, from its loads. -/
theorem pay_at (a b d x : Vec Ideal S1x256x1024 .f32) (w : Vec Ideal S1024x1024 .bf16) (g : Vec Ideal S1x1024 .f32)
    (r : Fin 256) (k : Fin 1024) : k0_pay1 a b d x w g (ix3 0 r k)
      = mergeRow (fun i => x (ix3 0 r i)) (fun i => a (ix3 0 r i)) (fun i => b (ix3 0 r i)) (fun i => d (ix3 0 r i))
          (fun i j => w (ix2 i j)) (fun i => g (ix2 0 i)) k := by
  unfold k0_pay1
  pointwise
  rfl

variable (m : (ℓ : Loc nD τ sig) → Buf (Elt Ideal) ℓ) (c : Dev nD)

theorem v1_at (k j : Fin 1024) : V m c main_v1 (ix2 k j) = m (c.tc.loc main_arg4) (ix3 0 k j) := by
  unfold V; after_reads_at

theorem v2_at (k : Fin 1024) : V m c main_v2 (ix2 0 k) = m (c.tc.loc main_arg5) (ix1 k) := by
  unfold V; after_reads_at

end Cert.MergeIdeal.Rows
-- ==== Proof.MergeValue.lean ====
/- The merge call's value: the array that the kernel leaves is the reference's. -/
module

public import proofs.«01_k».proof.Proof.MergeRows

@[expose] public section

set_option maxRecDepth 16384

noncomputable section

open Idealize.ShloMosaic Idealize.ShloMosaic.TcCoe Idealize.SL.Sem
open Idealize.ShloMosaic.Pipeline (Dat)

namespace Cert.MergeIdeal.Whole

open Cert.MergeIdeal Cert.MergeIdeal.Gen Cert.MergeIdeal.Rows Cert.Layer

variable (m : (ℓ : Loc nD τ sig) → Buf (Elt Ideal) ℓ) (c : Dev nD)

/-- The reference's result at the kernel's arguments. -/
def result : Buf (Elt Ideal) ((c : Thread nD τ).loc main_v3) :=
  Cert.MergeRefIdeal.Read.val_main_v20 (F := Ideal) (m (c.tc.loc main_arg0)) (m (c.tc.loc main_arg1))
    (m (c.tc.loc main_arg2)) (m (c.tc.loc main_arg3)) (m (c.tc.loc main_arg4)) (m (c.tc.loc main_arg5))

/-- The sample and the row of tokens that a row of a grid point's block holds. -/
def sample (t : Fin cfg0.N) : Fin 2 := ⟨t.val / 32, by have : t.val < 64 := t.isLt; omega⟩
def token (t : Fin cfg0.N) (r : Fin 256) : Fin 8192 := ⟨t.val % 32 * 256 + r.val, by omega⟩

/-- The block indices of the windows at a point: the input's and the branches' move alike, and so does the output's. -/
theorem index_moving : ∀ t : Fin grid0.N, win0_0.index t 0 = t.val / 32 ∧ win0_0.index t 1 = t.val % 32
    ∧ win0_0.index t 2 = 0 := by decide +kernel
theorem index_same : ∀ t : Fin grid0.N, win0_1.index t = win0_0.index t ∧ win0_2.index t = win0_0.index t
    ∧ win0_3.index t = win0_0.index t ∧ win0_6.index t = win0_0.index t := by decide +kernel
theorem index_still : ∀ t : Fin grid0.N, win0_4.index t 0 = 0 ∧ win0_4.index t 1 = 0
    ∧ win0_5.index t 0 = 0 ∧ win0_5.index t 1 = 0 := by decide +kernel

/-- Where a moving window's block holds its elements. -/
theorem place {n : Fin 3 → ℕ} {t : Fin cfg0.N} (h : n = win0_0.index t) (r : Fin 256) (k : Fin 1024)
    (i : S2x8192x1024.Idx) (h0 : (i 0).val = n 0 * 1 + 1 * 0) (h1 : (i 1).val = n 1 * 256 + 1 * r.val)
    (h2 : (i 2).val = n 2 * 1024 + 1 * k.val) : i = ix3 (sample t) (token t r) k := by
  obtain ⟨e0, e1, e2⟩ := index_moving t
  rw [h] at h0 h1 h2
  funext a
  apply Fin.ext
  match a with
  | ⟨0, _⟩ => show (i 0).val = t.val / 32; omega
  | ⟨1, _⟩ => show (i 1).val = t.val % 32 * 256 + r.val; omega
  | ⟨2, _⟩ => show (i 2).val = k.val; omega

section Blocks

variable (t : Fin cfg0.N) (r : Fin 256) (k : Fin 1024)

theorem input_at : iblk m c 0 t (ix3 0 r k) = m (c.tc.loc main_arg0) (ix3 (sample t) (token t r) k) := by
  unfold iblk
  rw [View.read_apply]
  show V m c main_arg0 _ = _
  rw [V_main_arg0]
  exact congrArg _ (place rfl r k _ rfl rfl rfl)

theorem first_at : iblk m c 1 t (ix3 0 r k) = m (c.tc.loc main_arg1) (ix3 (sample t) (token t r) k) := by
  unfold iblk
  rw [View.read_apply]
  show V m c main_arg1 _ = _
  rw [V_main_arg1]
  exact congrArg _ (place (index_same t).1 r k _ rfl rfl rfl)

theorem second_at : iblk m c 2 t (ix3 0 r k) = m (c.tc.loc main_arg2) (ix3 (sample t) (token t r) k) := by
  unfold iblk
  rw [View.read_apply]
  show V m c main_arg2 _ = _
  rw [V_main_arg2]
  exact congrArg _ (place (index_same t).2.1 r k _ rfl rfl rfl)

theorem third_at : iblk m c 3 t (ix3 0 r k) = m (c.tc.loc main_arg3) (ix3 (sample t) (token t r) k) := by
  unfold iblk
  rw [View.read_apply]
  show V m c main_arg3 _ = _
  rw [V_main_arg3]
  exact congrArg _ (place (index_same t).2.2.1 r k _ rfl rfl rfl)

theorem proj_at (i j : Fin 1024) : iblk m c 4 t (ix2 i j) = m (c.tc.loc main_arg4) (ix3 0 i j) := by
  have h := index_still t
  have hz : (fun a => win0_4.index t a * main_v1.ty.shape.size a) = fun _ => 0 :=
    first_zero (f := win0_4.index t) (by omega) (by omega)
  have e : iblk m c 4 t = V m c main_v1 :=
    Memref.read_access_unit_zero (Elt Ideal) main_v1 hz (fun a => by rw [congrFun hz a]; simp) (V m c main_v1)
  exact (congrFun e _).trans (v1_at m c i j)

theorem scale_at : iblk m c 5 t (ix2 0 k) = m (c.tc.loc main_arg5) (ix1 k) := by
  have h := index_still t
  have hz : (fun a => win0_5.index t a * main_v2.ty.shape.size a) = fun _ => 0 :=
    first_zero (f := win0_5.index t) (by omega) (by omega)
  have e : iblk m c 5 t = V m c main_v2 :=
    Memref.read_access_unit_zero (Elt Ideal) main_v2 hz (fun a => by rw [congrFun hz a]; simp) (V m c main_v2)
  exact (congrFun e _).trans (v2_at m c k)

end Blocks

/-- What the body leaves in its output block. -/
theorem block_at (x0 x1 x2 x3 : Vec Ideal S1x256x1024 .f32) (x4 : Vec Ideal S1024x1024 .bf16) (x5 : Vec Ideal S1x1024 .f32)
    (r : Fin 256) (k : Fin 1024) : out0_6 x0 x1 x2 x3 x4 x5 (ix3 0 r k)
      = mergeRow (fun i => x0 (ix3 0 r i)) (fun i => x1 (ix3 0 r i)) (fun i => x2 (ix3 0 r i)) (fun i => x3 (ix3 0 r i))
          (fun i j => x4 (ix2 i j)) (fun i => x5 (ix2 0 i)) k := by
  have z3 : (![0, 0, 0] : Fin 3 → ℕ) = fun _ => 0 := by decide
  have z2 : (![0, 0] : Fin 2 → ℕ) = fun _ => 0 := by decide
  unfold out0_6
  rw [View.canon_unit_zero z3, pay_at]
  rw [View.ld_unit_zero (S := S1x256x1024) z3 _ x0, View.ld_unit_zero (S := S1x256x1024) z3 _ x1,
    View.ld_unit_zero (S := S1x256x1024) z3 _ x2, View.ld_unit_zero (S := S1x256x1024) z3 _ x3,
    View.ld_unit_zero (S := S1024x1024) z2 _ x4, View.ld_unit_zero (S := S1x1024) z2 _ x5]

/-- What a grid point writes back is its block of the reference's result. -/
theorem flushed_eq (t : Fin cfg0.N) (_ : (cfg0.win 6).flush t = true) :
    (dats m 0 c).flushed 6 t = ((cfg0.win 6).blk t).view.read (Elt Ideal) (result m c) := by
  rw [Cert.MergeIdeal.Value.flushed6]
  funext j
  obtain ⟨r, k, rfl⟩ := exists_slab (n1 := 256) (n2 := 1024) j
  rw [View.read_apply]
  refine (block_at _ _ _ _ _ _ r k).trans ?_
  have he : ((cfg0.win 6).blk t).view.emb (ix3 0 r k) = ix3 (sample t) (token t r) k :=
    place (index_same t).2.2.2 r k _ rfl rfl rfl
  rw [he]
  exact (mergeRow_congr (input_at m c t r) (first_at m c t r) (second_at m c t r) (third_at m c t r)
    (proj_at m c t) (scale_at m c t) k).trans
    (Cert.MergeRefIdeal.Rows.result_at _ _ _ _ _ _ (sample t) (token t r) k).symm

/-- A grid point's block holds the elements of its sample and its tokens. -/
theorem mem_blk (t : Fin cfg0.N) (i : S2x8192x1024.Idx) (hb : (i 0).val = t.val / 32)
    (hs : (i 1).val / 256 = t.val % 32) : i ∈ ((cfg0.win 6).blk t).view.set := by
  obtain ⟨h0, h1, h2⟩ := index_moving t
  rw [← (index_same t).2.2.2] at h0 h1 h2
  have x : ∀ t : Fin grid0.N, win0_6.xsize (grid0.coords t) 0 = 1 ∧ win0_6.xsize (grid0.coords t) 1 = 256
      ∧ win0_6.xsize (grid0.coords t) 2 = 1024 := by decide +kernel
  obtain ⟨x0, x1, x2⟩ := x t
  show i ∈ ((View.whole main_v3).slice (win0_6.rect t)).set
  rw [View.set_slice_whole, Rect.mem_set_unit]
  intro a
  match a with
  | ⟨0, _⟩ =>
    show win0_6.index t 0 * 1 ≤ (i 0).val ∧ (i 0).val < win0_6.index t 0 * 1 + win0_6.xsize (grid0.coords t) 0
    omega
  | ⟨1, _⟩ =>
    show win0_6.index t 1 * 256 ≤ (i 1).val ∧ (i 1).val < win0_6.index t 1 * 256 + win0_6.xsize (grid0.coords t) 1
    omega
  | ⟨2, _⟩ =>
    have : (i 2).val < 1024 := (i 2).isLt
    show win0_6.index t 2 * 1024 ≤ (i 2).val ∧ (i 2).val < win0_6.index t 2 * 1024 + win0_6.xsize (grid0.coords t) 2
    omega

/-- So the array that the kernel leaves is the reference's result. -/
theorem final_eq : (dats m 0 c).arrAt 6 cfg0.N = result m c :=
  (dats m 0 c).arrAt_eq_of_cover 6 (result m c) (flushed_eq m c) fun i => by
    have h0 : (i 0).val < 2 := (i 0).isLt
    have h1 : (i 1).val < 8192 := (i 1).isLt
    have hN : (i 0).val * 32 + (i 1).val / 256 < 64 := by omega
    refine ⟨⟨(i 0).val * 32 + (i 1).val / 256, hN⟩, flush0_6 _, mem_blk _ i ?_ ?_⟩
    · show (i 0).val = ((i 0).val * 32 + (i 1).val / 256) / 32; omega
    · show (i 1).val / 256 = ((i 0).val * 32 + (i 1).val / 256) % 32; omega

end Cert.MergeIdeal.Whole
-- ==== Proof.EndsClaims.lean ====
/- The claims about the memory call and the merge call that are not generated: their references' frames, and their
   values. Neither value needs a precondition. -/
module

public import proofs.«01_k».proof.Defs
public import proofs.«01_k».proof.Proof.MemKvValue
public import proofs.«01_k».proof.Proof.MergeValue
public import proofs.«01_k».proof.Proof.Gen.MemKvRefIdeal.Run
public import proofs.«01_k».proof.Proof.Gen.MergeRefIdeal.Run
public import Idealize.ShloMosaic.Lib.Quiescent

@[expose] public section

noncomputable section

open Idealize.ShloMosaic Idealize.ShloMosaic.TcCoe Idealize.SL.Sem

namespace Cert.Proof

theorem memKvRef_frame : Cert.quiescent_MemKvRefIdeal (hMemKvRefIdeal := Cert.MemKvRefIdeal.Gen.facts) := fun m ρ _ =>
  (θ_run Cert.MemKvRefIdeal.defs _ _).mono
    (fun r h => ⟨fun c => (h c).2, sem_eq_zero_of_no_sems (by decide) r.2⟩)
    (Cert.MemKvRefIdeal.Value.run (F := Ideal) m ρ)

theorem mergeRef_frame : Cert.quiescent_MergeRefIdeal (hMergeRefIdeal := Cert.MergeRefIdeal.Gen.facts) := fun m ρ _ =>
  (θ_run Cert.MergeRefIdeal.defs _ _).mono
    (fun r h => ⟨fun c => (h c).2, sem_eq_zero_of_no_sems (by decide) r.2⟩)
    (Cert.MergeRefIdeal.Value.run (F := Ideal) m ρ)

/-- The memory's keys and values. -/
theorem memKv_value : Cert.algebraic_MemKvIdeal_MemKvRefIdeal
    (hMemKvIdeal := Cert.MemKvIdeal.Gen.facts) (hMemKvRefIdeal := Cert.MemKvRefIdeal.Gen.facts) := by
  intro m ρ m' ρ' _ hagree
  refine ⟨fun c => Cert.MemKvIdeal.Whole.result m c, ?_, ?_⟩
  · exact (θ_run Cert.MemKvIdeal.defs _ _).mono
      (fun r h c => ⟨(h c).1.trans (Cert.MemKvIdeal.Whole.final_eq m c), (h c).2⟩)
      (Cert.MemKvIdeal.Value.run_blocks m ρ)
  · refine (θ_run Cert.MemKvRefIdeal.defs _ _).mono (fun r h c => ⟨?_, (h c).2⟩)
      (Cert.MemKvRefIdeal.Value.run (F := Ideal) m' ρ')
    obtain ⟨a0, a1, a2⟩ := hagree c
    rw [(h c).1, Cert.MemKvRefIdeal.Read.val_main_v16_eq, a0, a1, a2]
    rfl

/-- The layer's result, from its branches. -/
theorem merge_value : Cert.algebraic_MergeIdeal_MergeRefIdeal
    (hMergeIdeal := Cert.MergeIdeal.Gen.facts) (hMergeRefIdeal := Cert.MergeRefIdeal.Gen.facts) := by
  intro m ρ m' ρ' _ hagree
  refine ⟨fun c => Cert.MergeIdeal.Whole.result m c, ?_, ?_⟩
  · exact (θ_run Cert.MergeIdeal.defs _ _).mono
      (fun r h c => ⟨(h c).1.trans (Cert.MergeIdeal.Whole.final_eq m c), (h c).2⟩)
      (Cert.MergeIdeal.Value.run_blocks m ρ)
  · refine (θ_run Cert.MergeRefIdeal.defs _ _).mono (fun r h c => ⟨?_, (h c).2⟩)
      (Cert.MergeRefIdeal.Value.run (F := Ideal) m' ρ')
    obtain ⟨a0, a1, a2, a3, a4, a5⟩ := hagree c
    rw [(h c).1, Cert.MergeRefIdeal.Read.val_main_v20_eq, a0, a1, a2, a3, a4, a5]
    rfl

end Cert.Proof
-- ==== Proof.lean ====
module

public import proofs.«01_k».proof.Defs
public import proofs.«01_k».proof.Proof.Gen.Xattn.Frame
public import proofs.«01_k».proof.Proof.Gen.XattnIdeal.Frame
public import proofs.«01_k».proof.Proof.Gen.XattnIdeal.Value
public import proofs.«01_k».proof.Proof.Gen.XattnRefIdeal.Run
public import proofs.«01_k».proof.Proof.Gen.XattnRefIdeal.Read
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Lru.Frame
public import proofs.«01_k».proof.Proof.Gen.LruIdeal.Frame
public import proofs.«01_k».proof.Proof.Gen.LruRefIdeal.Run
public import proofs.«01_k».proof.Proof.Gen.Mlstm.Frame
public import proofs.«01_k».proof.Proof.Gen.MlstmIdeal.Frame
public import proofs.«01_k».proof.Proof.LruFrame
public import proofs.«01_k».proof.Proof.LruIdealFrame
public import proofs.«01_k».proof.Proof.MlstmFrame
public import proofs.«01_k».proof.Proof.MlstmIdealFrame
public import proofs.«01_k».proof.Proof.LruClaims
public import proofs.«01_k».proof.Proof.LruValue
public import proofs.«01_k».proof.Proof.XattnClaims
public import proofs.«01_k».proof.Proof.EndsClaims

@[expose] public section

noncomputable section

namespace Cert.Proof

open Idealize.ShloMosaic Idealize.SL.Sem Cert.Xattn

/-- Every claim of the statement: first the programs' stated facts, then the frames, then what the calls preserve and
    their values. -/
theorem claim : Cert.Claim :=
  ⟨Cert.Xattn.Gen.facts, Cert.XattnIdeal.Gen.facts, Cert.XattnRefIdeal.Gen.facts,
    Cert.MemKv.Gen.facts, Cert.MemKvIdeal.Gen.facts, Cert.MemKvRefIdeal.Gen.facts,
    Cert.Merge.Gen.facts, Cert.MergeIdeal.Gen.facts, Cert.MergeRefIdeal.Gen.facts,
    Cert.Lru.Gen.facts, Cert.LruIdeal.Gen.facts, Cert.LruRefIdeal.Gen.facts,
    Cert.Mlstm.Gen.facts, Cert.MlstmIdeal.Gen.facts,
    Cert.Pre_attention_inputs_finite.Gen.facts,
    fun m ρ _ => Cert.Xattn.Gen.frame m ρ,
    fun m ρ _ => Cert.XattnIdeal.Gen.frame m ρ, fun m ρ _ => Cert.XattnIdeal.Gen.frame m ρ,
    xattnRef_frame, fun m ρ _ => xattnRef_frame m ρ trivial,
    fun m ρ _ => Cert.MemKv.Gen.frame m ρ, fun m ρ _ => Cert.MemKvIdeal.Gen.frame m ρ, memKvRef_frame,
    fun m ρ _ => Cert.Merge.Gen.frame m ρ, fun m ρ _ => Cert.MergeIdeal.Gen.frame m ρ, mergeRef_frame,
    fun m ρ _ => Cert.Lru.Hand.frame m ρ, fun m ρ _ => Cert.LruIdeal.Hand.frame m ρ, lruRef_frame,
    fun m ρ _ => Cert.Mlstm.Hand.frame m ρ, fun m ρ _ => Cert.MlstmIdeal.Hand.frame m ρ,
    trivial, xattn_value, trivial, memKv_value, trivial, merge_value, trivial, lru_value, trivial⟩

end Cert.Proof

end
